-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores_KernelIdeal [hPre_finite_scores_KernelIdeal : Cert.Pre_finite_scores_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores_ReferenceIdeal [hPre_finite_scores_ReferenceIdeal : Cert.Pre_finite_scores_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_scores_KernelIdeal [hKernelIdeal : Cert.KernelIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_scores_ReferenceIdeal [hReferenceIdeal : Cert.ReferenceIdeal.Facts] [hPre_finite_scores_ReferenceIdeal : Cert.Pre_finite_scores_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "inv_sqrt_d" .f32 0x3DB504F3#32 (((Real.sqrt 128)⁻¹ : ℝ) : EReal)

def algebraic_KernelIdeal_ReferenceIdeal_pre_finite_scores_KernelIdeal [hKernelIdeal : Cert.KernelIdeal.Facts] [hReferenceIdeal : Cert.ReferenceIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.blockN ⟨4, ![4, 4096, 8, 128]⟩ ⟨4, ![4, 8192, 8, 128]⟩ (Layout.meshBlock [2, 2, 2] ![[], [2], [], []] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.blockN ⟨4, ![4, 4096, 8, 128]⟩ ⟨4, ![4, 8192, 8, 128]⟩ (Layout.meshBlock [2, 2, 2] ![[], [2], [], []] c) (m' (((0 : Dev Cert.ReferenceIdeal.nD).tc : Thread Cert.ReferenceIdeal.nD Cert.ReferenceIdeal.τ).loc Cert.ReferenceIdeal.main_arg2))) →
    ∃ (v0 : Buf (Elt Ideal) (((0 : Dev Cert.ReferenceIdeal.nD).tc : Thread Cert.ReferenceIdeal.nD Cert.ReferenceIdeal.τ).loc Cert.ReferenceIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v14) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_scores_KernelIdeal : Cert.Pre_finite_scores_KernelIdeal.Facts) (hPre_finite_scores_ReferenceIdeal : Cert.Pre_finite_scores_ReferenceIdeal.Facts),
    quiescent_Kernel (hKernel := hKernel)
    ∧ quiescent_KernelIdeal (hKernelIdeal := hKernelIdeal)
    ∧ quiescent_KernelIdeal_pre_finite_scores_KernelIdeal (hKernelIdeal := hKernelIdeal) (hPre_finite_scores_KernelIdeal := hPre_finite_scores_KernelIdeal)
    ∧ quiescent_ReferenceIdeal (hReferenceIdeal := hReferenceIdeal)
    ∧ quiescent_ReferenceIdeal_pre_finite_scores_ReferenceIdeal (hReferenceIdeal := hReferenceIdeal) (hPre_finite_scores_ReferenceIdeal := hPre_finite_scores_ReferenceIdeal)
    ∧ preserves_Kernel_KernelIdeal
    ∧ algebraic_KernelIdeal_ReferenceIdeal_pre_finite_scores_KernelIdeal (hKernelIdeal := hKernelIdeal) (hReferenceIdeal := hReferenceIdeal) (hPre_finite_scores_KernelIdeal := hPre_finite_scores_KernelIdeal)
-- ==== Pre_finite_scores_KernelIdeal.lean ====
abbrev S4x32x8x128 : Shape := ⟨4, ![4, 32, 8, 128]⟩
abbrev S4x4096x8x128 : Shape := ⟨4, ![4, 4096, 8, 128]⟩
abbrev S_ : Shape := ⟨0, ![]⟩

class Facts : Prop where
  bcast_S_S4x32x8x128 : S_.BroadcastsInDim S4x32x8x128 (![] : Fin 0 → Fin S4x32x8x128.rank)
  bcast_S_S4x4096x8x128 : S_.BroadcastsInDim S4x4096x8x128 (![] : Fin 0 → Fin S4x4096x8x128.rank)

variable [Facts]

def fn {F : FTy → Type} [FloatOps F] (main_arg0 : FVec F S4x32x8x128 .f32) (main_arg1 : FVec F S4x4096x8x128 .f32) (main_arg2 : FVec F S4x4096x8x128 .f32) : IVec S4x32x8x128 1 × IVec S4x4096x8x128 1 :=
  let main_v0 : FVec F S4x32x8x128 .f32 := Host.absf main_arg0
  let main_cst : FVec F S_ .f32 := constant S_ .f32 0x7F800000#32
  let main_v1 : FVec F S4x32x8x128 .f32 := broadcastInDim S4x32x8x128 ![] bcast_S_S4x32x8x128 main_cst
  let main_v2 : IVec S4x32x8x128 1 := cmpf .olt main_v0 main_v1
  let main_v3 : FVec F S4x4096x8x128 .f32 := Host.absf main_arg1
  let main_cst_0 : FVec F S_ .f32 := constant S_ .f32 0x7F800000#32
  let main_v4 : FVec F S4x4096x8x128 .f32 := broadcastInDim S4x4096x8x128 ![] bcast_S_S4x4096x8x128 main_cst_0
  let main_v5 : IVec S4x4096x8x128 1 := cmpf .olt main_v3 main_v4
  (main_v2, main_v5)
-- ==== Pre_finite_scores_ReferenceIdeal.lean ====
abbrev S4x32x8x128 : Shape := ⟨4, ![4, 32, 8, 128]⟩
abbrev S4x8192x8x128 : Shape := ⟨4, ![4, 8192, 8, 128]⟩
abbrev S_ : Shape := ⟨0, ![]⟩

class Facts : Prop where
  bcast_S_S4x32x8x128 : S_.BroadcastsInDim S4x32x8x128 (![] : Fin 0 → Fin S4x32x8x128.rank)
  bcast_S_S4x8192x8x128 : S_.BroadcastsInDim S4x8192x8x128 (![] : Fin 0 → Fin S4x8192x8x128.rank)

variable [Facts]

def fn {F : FTy → Type} [FloatOps F] (main_arg0 : FVec F S4x32x8x128 .f32) (main_arg1 : FVec F S4x8192x8x128 .f32) (main_arg2 : FVec F S4x8192x8x128 .f32) : IVec S4x32x8x128 1 × IVec S4x8192x8x128 1 :=
  let main_v0 : FVec F S4x32x8x128 .f32 := Host.absf main_arg0
  let main_cst : FVec F S_ .f32 := constant S_ .f32 0x7F800000#32
  let main_v1 : FVec F S4x32x8x128 .f32 := broadcastInDim S4x32x8x128 ![] bcast_S_S4x32x8x128 main_cst
  let main_v2 : IVec S4x32x8x128 1 := cmpf .olt main_v0 main_v1
  let main_v3 : FVec F S4x8192x8x128 .f32 := Host.absf main_arg1
  let main_cst_0 : FVec F S_ .f32 := constant S_ .f32 0x7F800000#32
  let main_v4 : FVec F S4x8192x8x128 .f32 := broadcastInDim S4x8192x8x128 ![] bcast_S_S4x8192x8x128 main_cst_0
  let main_v5 : IVec S4x8192x8x128 1 := cmpf .olt main_v3 main_v4
  (main_v2, main_v5)
-- ==== Kernel.lean ====
abbrev S4x32x8x128 : Shape := ⟨4, ![4, 32, 8, 128]⟩
abbrev S4x4096x8x128 : Shape := ⟨4, ![4, 4096, 8, 128]⟩
abbrev S_ : Shape := ⟨0, ![]⟩
abbrev S1 : Shape := ⟨1, ![1]⟩
abbrev S1x32x8x128 : Shape := ⟨4, ![1, 32, 8, 128]⟩
abbrev S1x1024x8x128 : Shape := ⟨4, ![1, 1024, 8, 128]⟩
abbrev S32x8x128 : Shape := ⟨3, ![32, 8, 128]⟩
abbrev S8x32x1 : Shape := ⟨3, ![8, 32, 1]⟩
abbrev S8x1024x128 : Shape := ⟨3, ![8, 1024, 128]⟩
abbrev S1x8x32x1 : Shape := ⟨4, ![1, 8, 32, 1]⟩
abbrev S3x32x8x128 : Shape := ⟨4, ![3, 32, 8, 128]⟩
abbrev S3 : Shape := ⟨1, ![3]⟩
abbrev S1024x8x128 : Shape := ⟨3, ![1024, 8, 128]⟩
abbrev S1x32x1x128 : Shape := ⟨4, ![1, 32, 1, 128]⟩
abbrev S32x128 : Shape := ⟨2, ![32, 128]⟩
abbrev S1x1024x128 : Shape := ⟨3, ![1, 1024, 128]⟩
abbrev S1024x128 : Shape := ⟨2, ![1024, 128]⟩
abbrev S32x1024 : Shape := ⟨2, ![32, 1024]⟩
abbrev S1x32x1 : Shape := ⟨3, ![1, 32, 1]⟩
abbrev S32x1 : Shape := ⟨2, ![32, 1]⟩
abbrev S32 : Shape := ⟨1, ![32]⟩
abbrev S32x1x128 : Shape := ⟨3, ![32, 1, 128]⟩
abbrev S1x32x2x128 : Shape := ⟨4, ![1, 32, 2, 128]⟩
abbrev S1x1x32x1 : Shape := ⟨4, ![1, 1, 32, 1]⟩
abbrev S32x2x128 : Shape := ⟨3, ![32, 2, 128]⟩

abbrev nBuf : Space → Nat
  | .hbm => 19
  | .vmem => 19
  | .smem => 1
  | _ => 0

abbrev bufTy : (tb : Table) → Fin (tcTables nBuf tb) → BufTy
  | .hbm, ⟨0, _⟩ => ⟨S4x32x8x128, .f32⟩
  | .hbm, ⟨1, _⟩ => ⟨S4x4096x8x128, .f32⟩
  | .hbm, ⟨2, _⟩ => ⟨S4x4096x8x128, .f32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S4x32x8x128, .f32⟩
  | .local _ .vmem, ⟨0, _⟩ => ⟨S1x32x8x128, .f32⟩
  | .local _ .vmem, ⟨1, _⟩ => ⟨S1x1024x8x128, .f32⟩
  | .local _ .vmem, ⟨2, _⟩ => ⟨S1x1024x8x128, .f32⟩
  | .local _ .vmem, ⟨3, _⟩ => ⟨S1x1024x8x128, .f32⟩
  | .local _ .vmem, ⟨4, _⟩ => ⟨S1x1024x8x128, .f32⟩
  | .local _ .vmem, ⟨5, _⟩ => ⟨S4x32x8x128, .f32⟩
  | .local _ .vmem, ⟨6, _⟩ => ⟨S32x8x128, .f32⟩
  | .local _ .vmem, ⟨7, _⟩ => ⟨S8x32x1, .f32⟩
  | .local _ .vmem, ⟨8, _⟩ => ⟨S8x32x1, .f32⟩
  | .local _ .vmem, ⟨9, _⟩ => ⟨S8x1024x128, .f32⟩
  | .local _ .vmem, ⟨10, _⟩ => ⟨S8x1024x128, .f32⟩
  | .local _ .vmem, ⟨11, _⟩ => ⟨S1x32x8x128, .bf16⟩
  | .local _ .vmem, ⟨12, _⟩ => ⟨S1x8x32x1, .f32⟩
  | .local _ .vmem, ⟨13, _⟩ => ⟨S1x8x32x1, .f32⟩
  | .local _ .vmem, ⟨14, _⟩ => ⟨S1x32x8x128, .bf16⟩
  | .local _ .vmem, ⟨15, _⟩ => ⟨S1x8x32x1, .f32⟩
  | .local _ .vmem, ⟨16, _⟩ => ⟨S1x8x32x1, .f32⟩
  | .local _ .vmem, ⟨17, _⟩ => ⟨S32x8x128, .bf16⟩
  | .local _ .vmem, ⟨18, _⟩ => ⟨S3x32x8x128, .bf16⟩
  | .local _ .smem, ⟨0, _⟩ => ⟨S1, .i32⟩
  | _, _ => ⟨S4x32x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 1 → Bool
  | ⟨0, _⟩ => false
  | _ => false

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  (ofTc nBuf bufTy 1 18 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c_1 : Ref sig .tc := ⟨.hbm, 9, rfl⟩
abbrev main_c_2 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c_3 : Ref sig .tc := ⟨.hbm, 15, rfl⟩
abbrev main_v9 : Ref sig .tc := ⟨.hbm, 16, rfl⟩
abbrev main_v10 : Ref sig .tc := ⟨.hbm, 17, rfl⟩
abbrev main_v12 : Ref sig .tc := ⟨.hbm, 18, rfl⟩
abbrev main_v11 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_scratch5 : Ref sig .tc := ⟨.vmem, 11, rfl⟩
abbrev cc0_scratch6 : Ref sig .tc := ⟨.vmem, 12, rfl⟩
abbrev cc0_scratch7 : Ref sig .tc := ⟨.vmem, 13, rfl⟩
abbrev cc0_scratch8 : Ref sig .tc := ⟨.vmem, 14, rfl⟩
abbrev cc0_scratch9 : Ref sig .tc := ⟨.vmem, 15, rfl⟩
abbrev cc0_scratch10 : Ref sig .tc := ⟨.vmem, 16, rfl⟩
abbrev cc0_scratch11 : Ref sig .tc := ⟨.vmem, 17, rfl⟩
abbrev cc0_scratch12 : Ref sig .tc := ⟨.vmem, 18, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev barrier0 : Sem sig := 0

abbrev nD : Nat := 8
abbrev τ : Topo := Topo.v7x

variable {F : FTy → Type} [FloatOps F]

abbrev grid0 : Pipeline.Grid := ⟨1, ![4], ![false]⟩

abbrev pre0 : Pipeline.Prefetch sig := ⟨1, ![main_v11.idx], fun | 0 => main_v11.names | ⟨_ + 1, h⟩ => absurd h (Nat.not_lt.2 (Nat.le_add_left _ _)), fun | 0 => rfl | ⟨_ + 1, h⟩ => absurd h (Nat.not_lt.2 (Nat.le_add_left _ _))⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_dev1 (d350 : Dev nD) : Nat :=
  let c0_i32_293 : BitVec 32 := 0#32
  let v350 : BitVec 32 := Dev.word d350
  let c4_i32 : BitVec 32 := 4#32
  let v351 : BitVec 32 := Scalar.divsi v350 c4_i32
  let c2_i32 : BitVec 32 := 2#32
  let v352 : BitVec 32 := Scalar.remsi v351 c2_i32
  let c4_i32_292 : BitVec 32 := 4#32
  let v365 : BitVec 32 := Scalar.muli v352 c4_i32_292
  let v366 : BitVec 32 := Scalar.addi c0_i32_293 v365
  let v353 : BitVec 32 := Dev.word d350
  let c2_i32_284 : BitVec 32 := 2#32
  let v354 : BitVec 32 := Scalar.divsi v353 c2_i32_284
  let c2_i32_283 : BitVec 32 := 2#32
  let v355 : BitVec 32 := Scalar.remsi v354 c2_i32_283
  let c2_i32_294 : BitVec 32 := 2#32
  let v367 : BitVec 32 := Scalar.muli v355 c2_i32_294
  let v368 : BitVec 32 := Scalar.addi v366 v367
  let c1_i32_286 : BitVec 32 := 1#32
  let v356 : BitVec 32 := Dev.word d350
  let c1_i32 : BitVec 32 := 1#32
  let v357 : BitVec 32 := Scalar.divsi v356 c1_i32
  let c2_i32_285 : BitVec 32 := 2#32
  let v358 : BitVec 32 := Scalar.remsi v357 c2_i32_285
  let v360 : BitVec 32 := Scalar.subi c1_i32_286 v358
  let c1_i32_295 : BitVec 32 := 1#32
  let v369 : BitVec 32 := Scalar.muli v360 c1_i32_295
  let v370 : BitVec 32 := Scalar.addi v368 v369
  v370.toNat
def k0_dev2 (d350 : Dev nD) : Nat :=
  let c0_i32_298 : BitVec 32 := 0#32
  let c1_i32_287 : BitVec 32 := 1#32
  let v350 : BitVec 32 := Dev.word d350
  let c4_i32 : BitVec 32 := 4#32
  let v351 : BitVec 32 := Scalar.divsi v350 c4_i32
  let c2_i32 : BitVec 32 := 2#32
  let v352 : BitVec 32 := Scalar.remsi v351 c2_i32
  let v361 : BitVec 32 := Scalar.subi c1_i32_287 v352
  let c4_i32_297 : BitVec 32 := 4#32
  let v371 : BitVec 32 := Scalar.muli v361 c4_i32_297
  let v372 : BitVec 32 := Scalar.addi c0_i32_298 v371
  let v353 : BitVec 32 := Dev.word d350
  let c2_i32_284 : BitVec 32 := 2#32
  let v354 : BitVec 32 := Scalar.divsi v353 c2_i32_284
  let c2_i32_283 : BitVec 32 := 2#32
  let v355 : BitVec 32 := Scalar.remsi v354 c2_i32_283
  let c2_i32_299 : BitVec 32 := 2#32
  let v373 : BitVec 32 := Scalar.muli v355 c2_i32_299
  let v374 : BitVec 32 := Scalar.addi v372 v373
  let v356 : BitVec 32 := Dev.word d350
  let c1_i32 : BitVec 32 := 1#32
  let v357 : BitVec 32 := Scalar.divsi v356 c1_i32
  let c2_i32_285 : BitVec 32 := 2#32
  let v358 : BitVec 32 := Scalar.remsi v357 c2_i32_285
  let c1_i32_300 : BitVec 32 := 1#32
  let v375 : BitVec 32 := Scalar.muli v358 c1_i32_300
  let v376 : BitVec 32 := Scalar.addi v374 v375
  v376.toNat
def k0_dev3 (d350 : Dev nD) : Nat :=
  let c0_i32_303 : BitVec 32 := 0#32
  let v350 : BitVec 32 := Dev.word d350
  let c4_i32 : BitVec 32 := 4#32
  let v351 : BitVec 32 := Scalar.divsi v350 c4_i32
  let c2_i32 : BitVec 32 := 2#32
  let v352 : BitVec 32 := Scalar.remsi v351 c2_i32
  let c4_i32_302 : BitVec 32 := 4#32
  let v377 : BitVec 32 := Scalar.muli v352 c4_i32_302
  let v378 : BitVec 32 := Scalar.addi c0_i32_303 v377
  let c1_i32_288 : BitVec 32 := 1#32
  let v353 : BitVec 32 := Dev.word d350
  let c2_i32_284 : BitVec 32 := 2#32
  let v354 : BitVec 32 := Scalar.divsi v353 c2_i32_284
  let c2_i32_283 : BitVec 32 := 2#32
  let v355 : BitVec 32 := Scalar.remsi v354 c2_i32_283
  let v362 : BitVec 32 := Scalar.subi c1_i32_288 v355
  let c2_i32_304 : BitVec 32 := 2#32
  let v379 : BitVec 32 := Scalar.muli v362 c2_i32_304
  let v380 : BitVec 32 := Scalar.addi v378 v379
  let v356 : BitVec 32 := Dev.word d350
  let c1_i32 : BitVec 32 := 1#32
  let v357 : BitVec 32 := Scalar.divsi v356 c1_i32
  let c2_i32_285 : BitVec 32 := 2#32
  let v358 : BitVec 32 := Scalar.remsi v357 c2_i32_285
  let c1_i32_305 : BitVec 32 := 1#32
  let v381 : BitVec 32 := Scalar.muli v358 c1_i32_305
  let v382 : BitVec 32 := Scalar.addi v380 v381
  v382.toNat
def k0_dev4 (d350 : Dev nD) : Nat :=
  let c0_i32_308 : BitVec 32 := 0#32
  let c1_i32_289 : BitVec 32 := 1#32
  let v350 : BitVec 32 := Dev.word d350
  let c4_i32 : BitVec 32 := 4#32
  let v351 : BitVec 32 := Scalar.divsi v350 c4_i32
  let c2_i32 : BitVec 32 := 2#32
  let v352 : BitVec 32 := Scalar.remsi v351 c2_i32
  let v363 : BitVec 32 := Scalar.subi c1_i32_289 v352
  let c4_i32_307 : BitVec 32 := 4#32
  let v383 : BitVec 32 := Scalar.muli v363 c4_i32_307
  let v384 : BitVec 32 := Scalar.addi c0_i32_308 v383
  let c1_i32_290 : BitVec 32 := 1#32
  let v353 : BitVec 32 := Dev.word d350
  let c2_i32_284 : BitVec 32 := 2#32
  let v354 : BitVec 32 := Scalar.divsi v353 c2_i32_284
  let c2_i32_283 : BitVec 32 := 2#32
  let v355 : BitVec 32 := Scalar.remsi v354 c2_i32_283
  let v364 : BitVec 32 := Scalar.subi c1_i32_290 v355
  let c2_i32_309 : BitVec 32 := 2#32
  let v385 : BitVec 32 := Scalar.muli v364 c2_i32_309
  let v386 : BitVec 32 := Scalar.addi v384 v385
  let v356 : BitVec 32 := Dev.word d350
  let c1_i32 : BitVec 32 := 1#32
  let v357 : BitVec 32 := Scalar.divsi v356 c1_i32
  let c2_i32_285 : BitVec 32 := 2#32
  let v358 : BitVec 32 := Scalar.remsi v357 c2_i32_285
  let c1_i32_310 : BitVec 32 := 1#32
  let v387 : BitVec 32 := Scalar.muli v358 c1_i32_310
  let v388 : BitVec 32 := Scalar.addi v386 v387
  v388.toNat
def k0_cond2 (i : grid0.Coords) : BitVec 1 :=
  let arg0 : BitVec 32 := BitVec.ofNat 32 (i 0).val
  let c3_i32 : BitVec 32 := 3#32
  let v335 : BitVec 1 := Scalar.cmpi .eq arg0 c3_i32
  let v336 : BitVec 32 := Scalar.extui v335
  let c0_i32_270 : BitVec 32 := 0#32
  let v337 : BitVec 1 := Scalar.cmpi .ne v336 c0_i32_270
  v337

def k0_dev5 (d338 : Dev nD) : Nat :=
  let c0_i32_384 : BitVec 32 := 0#32
  let v338 : BitVec 32 := Dev.word d338
  let c4_i32 : BitVec 32 := 4#32
  let v339 : BitVec 32 := Scalar.divsi v338 c4_i32
  let c2_i32 : BitVec 32 := 2#32
  let v340 : BitVec 32 := Scalar.remsi v339 c2_i32
  let c4_i32_383 : BitVec 32 := 4#32
  let v452 : BitVec 32 := Scalar.muli v340 c4_i32_383
  let v453 : BitVec 32 := Scalar.addi c0_i32_384 v452
  let v341 : BitVec 32 := Dev.word d338
  let c2_i32_272 : BitVec 32 := 2#32
  let v342 : BitVec 32 := Scalar.divsi v341 c2_i32_272
  let c2_i32_271 : BitVec 32 := 2#32
  let v343 : BitVec 32 := Scalar.remsi v342 c2_i32_271
  let c2_i32_385 : BitVec 32 := 2#32
  let v454 : BitVec 32 := Scalar.muli v343 c2_i32_385
  let v455 : BitVec 32 := Scalar.addi v453 v454
  let c1_i32_275 : BitVec 32 := 1#32
  let v344 : BitVec 32 := Dev.word d338
  let c1_i32 : BitVec 32 := 1#32
  let v345 : BitVec 32 := Scalar.divsi v344 c1_i32
  let c2_i32_273 : BitVec 32 := 2#32
  let v346 : BitVec 32 := Scalar.remsi v345 c2_i32_273
  let v349 : BitVec 32 := Scalar.subi c1_i32_275 v346
  let c1_i32_386 : BitVec 32 := 1#32
  let v456 : BitVec 32 := Scalar.muli v349 c1_i32_386
  let v457 : BitVec 32 := Scalar.addi v455 v456
  v457.toNat
def k0_dev6 (d338 : Dev nD) : Nat :=
  let c0_i32_390 : BitVec 32 := 0#32
  let v338 : BitVec 32 := Dev.word d338
  let c4_i32 : BitVec 32 := 4#32
  let v339 : BitVec 32 := Scalar.divsi v338 c4_i32
  let c2_i32 : BitVec 32 := 2#32
  let v340 : BitVec 32 := Scalar.remsi v339 c2_i32
  let c4_i32_389 : BitVec 32 := 4#32
  let v462 : BitVec 32 := Scalar.muli v340 c4_i32_389
  let v463 : BitVec 32 := Scalar.addi c0_i32_390 v462
  let v341 : BitVec 32 := Dev.word d338
  let c2_i32_272 : BitVec 32 := 2#32
  let v342 : BitVec 32 := Scalar.divsi v341 c2_i32_272
  let c2_i32_271 : BitVec 32 := 2#32
  let v343 : BitVec 32 := Scalar.remsi v342 c2_i32_271
  let c2_i32_391 : BitVec 32 := 2#32
  let v464 : BitVec 32 := Scalar.muli v343 c2_i32_391
  let v465 : BitVec 32 := Scalar.addi v463 v464
  let c1_i32_275 : BitVec 32 := 1#32
  let v344 : BitVec 32 := Dev.word d338
  let c1_i32 : BitVec 32 := 1#32
  let v345 : BitVec 32 := Scalar.divsi v344 c1_i32
  let c2_i32_273 : BitVec 32 := 2#32
  let v346 : BitVec 32 := Scalar.remsi v345 c2_i32_273
  let v349 : BitVec 32 := Scalar.subi c1_i32_275 v346
  let c1_i32_392 : BitVec 32 := 1#32
  let v466 : BitVec 32 := Scalar.muli v349 c1_i32_392
  let v467 : BitVec 32 := Scalar.addi v465 v466
  v467.toNat
def k0_dev7 (d338 : Dev nD) : Nat :=
  let c0_i32_396 : BitVec 32 := 0#32
  let v338 : BitVec 32 := Dev.word d338
  let c4_i32 : BitVec 32 := 4#32
  let v339 : BitVec 32 := Scalar.divsi v338 c4_i32
  let c2_i32 : BitVec 32 := 2#32
  let v340 : BitVec 32 := Scalar.remsi v339 c2_i32
  let c4_i32_395 : BitVec 32 := 4#32
  let v472 : BitVec 32 := Scalar.muli v340 c4_i32_395
  let v473 : BitVec 32 := Scalar.addi c0_i32_396 v472
  let v341 : BitVec 32 := Dev.word d338
  let c2_i32_272 : BitVec 32 := 2#32
  let v342 : BitVec 32 := Scalar.divsi v341 c2_i32_272
  let c2_i32_271 : BitVec 32 := 2#32
  let v343 : BitVec 32 := Scalar.remsi v342 c2_i32_271
  let c2_i32_397 : BitVec 32 := 2#32
  let v474 : BitVec 32 := Scalar.muli v343 c2_i32_397
  let v475 : BitVec 32 := Scalar.addi v473 v474
  let c1_i32_275 : BitVec 32 := 1#32
  let v344 : BitVec 32 := Dev.word d338
  let c1_i32 : BitVec 32 := 1#32
  let v345 : BitVec 32 := Scalar.divsi v344 c1_i32
  let c2_i32_273 : BitVec 32 := 2#32
  let v346 : BitVec 32 := Scalar.remsi v345 c2_i32_273
  let v349 : BitVec 32 := Scalar.subi c1_i32_275 v346
  let c1_i32_398 : BitVec 32 := 1#32
  let v476 : BitVec 32 := Scalar.muli v349 c1_i32_398
  let v477 : BitVec 32 := Scalar.addi v475 v476
  v477.toNat
def k0_off1 (d338 : Dev nD) : Fin 4 → Nat :=
  let c2_i32_274 : BitVec 32 := 2#32
  let v338 : BitVec 32 := Dev.word d338
  let c4_i32 : BitVec 32 := 4#32
  let v339 : BitVec 32 := Scalar.divsi v338 c4_i32
  let c2_i32 : BitVec 32 := 2#32
  let v340 : BitVec 32 := Scalar.remsi v339 c2_i32
  let v347 : BitVec 32 := Scalar.muli c2_i32_274 v340
  let v341 : BitVec 32 := Dev.word d338
  let c2_i32_272 : BitVec 32 := 2#32
  let v342 : BitVec 32 := Scalar.divsi v341 c2_i32_272
  let c2_i32_271 : BitVec 32 := 2#32
  let v343 : BitVec 32 := Scalar.remsi v342 c2_i32_271
  let v348 : BitVec 32 := Scalar.addi v347 v343
  let v681 : Index := Scalar.indexCast v348
  let c0_533 : Index := 0#32
  let c0_534 : Index := 0#32
  let c0_535 : Index := 0#32
  ![v681.toNat, 0, 0, 0]
def k0_dev8 (d338 : Dev nD) : Nat :=
  let c0_i32_540 : BitVec 32 := 0#32
  let c1_i32_276 : BitVec 32 := 1#32
  let v338 : BitVec 32 := Dev.word d338
  let c4_i32 : BitVec 32 := 4#32
  let v339 : BitVec 32 := Scalar.divsi v338 c4_i32
  let c2_i32 : BitVec 32 := 2#32
  let v340 : BitVec 32 := Scalar.remsi v339 c2_i32
  let v350 : BitVec 32 := Scalar.subi c1_i32_276 v340
  let c4_i32_539 : BitVec 32 := 4#32
  let v683 : BitVec 32 := Scalar.muli v350 c4_i32_539
  let v684 : BitVec 32 := Scalar.addi c0_i32_540 v683
  let v341 : BitVec 32 := Dev.word d338
  let c2_i32_272 : BitVec 32 := 2#32
  let v342 : BitVec 32 := Scalar.divsi v341 c2_i32_272
  let c2_i32_271 : BitVec 32 := 2#32
  let v343 : BitVec 32 := Scalar.remsi v342 c2_i32_271
  let c2_i32_541 : BitVec 32 := 2#32
  let v685 : BitVec 32 := Scalar.muli v343 c2_i32_541
  let v686 : BitVec 32 := Scalar.addi v684 v685
  let v344 : BitVec 32 := Dev.word d338
  let c1_i32 : BitVec 32 := 1#32
  let v345 : BitVec 32 := Scalar.divsi v344 c1_i32
  let c2_i32_273 : BitVec 32 := 2#32
  let v346 : BitVec 32 := Scalar.remsi v345 c2_i32_273
  let c1_i32_542 : BitVec 32 := 1#32
  let v687 : BitVec 32 := Scalar.muli v346 c1_i32_542
  let v688 : BitVec 32 := Scalar.addi v686 v687
  v688.toNat
def k0_dev9 (d338 : Dev nD) : Nat :=
  let c0_i32_550 : BitVec 32 := 0#32
  let v338 : BitVec 32 := Dev.word d338
  let c4_i32 : BitVec 32 := 4#32
  let v339 : BitVec 32 := Scalar.divsi v338 c4_i32
  let c2_i32 : BitVec 32 := 2#32
  let v340 : BitVec 32 := Scalar.remsi v339 c2_i32
  let c4_i32_549 : BitVec 32 := 4#32
  let v695 : BitVec 32 := Scalar.muli v340 c4_i32_549
  let v696 : BitVec 32 := Scalar.addi c0_i32_550 v695
  let c1_i32_277 : BitVec 32 := 1#32
  let v341 : BitVec 32 := Dev.word d338
  let c2_i32_272 : BitVec 32 := 2#32
  let v342 : BitVec 32 := Scalar.divsi v341 c2_i32_272
  let c2_i32_271 : BitVec 32 := 2#32
  let v343 : BitVec 32 := Scalar.remsi v342 c2_i32_271
  let v351 : BitVec 32 := Scalar.subi c1_i32_277 v343
  let c2_i32_551 : BitVec 32 := 2#32
  let v697 : BitVec 32 := Scalar.muli v351 c2_i32_551
  let v698 : BitVec 32 := Scalar.addi v696 v697
  let v344 : BitVec 32 := Dev.word d338
  let c1_i32 : BitVec 32 := 1#32
  let v345 : BitVec 32 := Scalar.divsi v344 c1_i32
  let c2_i32_273 : BitVec 32 := 2#32
  let v346 : BitVec 32 := Scalar.remsi v345 c2_i32_273
  let c1_i32_552 : BitVec 32 := 1#32
  let v699 : BitVec 32 := Scalar.muli v346 c1_i32_552
  let v700 : BitVec 32 := Scalar.addi v698 v699
  v700.toNat
def k0_dev10 (d338 : Dev nD) : Nat :=
  let c0_i32_560 : BitVec 32 := 0#32
  let c1_i32_278 : BitVec 32 := 1#32
  let v338 : BitVec 32 := Dev.word d338
  let c4_i32 : BitVec 32 := 4#32
  let v339 : BitVec 32 := Scalar.divsi v338 c4_i32
  let c2_i32 : BitVec 32 := 2#32
  let v340 : BitVec 32 := Scalar.remsi v339 c2_i32
  let v352 : BitVec 32 := Scalar.subi c1_i32_278 v340
  let c4_i32_559 : BitVec 32 := 4#32
  let v707 : BitVec 32 := Scalar.muli v352 c4_i32_559
  let v708 : BitVec 32 := Scalar.addi c0_i32_560 v707
  let c1_i32_279 : BitVec 32 := 1#32
  let v341 : BitVec 32 := Dev.word d338
  let c2_i32_272 : BitVec 32 := 2#32
  let v342 : BitVec 32 := Scalar.divsi v341 c2_i32_272
  let c2_i32_271 : BitVec 32 := 2#32
  let v343 : BitVec 32 := Scalar.remsi v342 c2_i32_271
  let v353 : BitVec 32 := Scalar.subi c1_i32_279 v343
  let c2_i32_561 : BitVec 32 := 2#32
  let v709 : BitVec 32 := Scalar.muli v353 c2_i32_561
  let v710 : BitVec 32 := Scalar.addi v708 v709
  let v344 : BitVec 32 := Dev.word d338
  let c1_i32 : BitVec 32 := 1#32
  let v345 : BitVec 32 := Scalar.divsi v344 c1_i32
  let c2_i32_273 : BitVec 32 := 2#32
  let v346 : BitVec 32 := Scalar.remsi v345 c2_i32_273
  let c1_i32_562 : BitVec 32 := 1#32
  let v711 : BitVec 32 := Scalar.muli v346 c1_i32_562
  let v712 : BitVec 32 := Scalar.addi v710 v711
  v712.toNat
def k0_off2 (d338 : Dev nD) : Fin 4 → Nat :=
  let c2_i32_281 : BitVec 32 := 2#32
  let c1_i32_280 : BitVec 32 := 1#32
  let v338 : BitVec 32 := Dev.word d338
  let c4_i32 : BitVec 32 := 4#32
  let v339 : BitVec 32 := Scalar.divsi v338 c4_i32
  let c2_i32 : BitVec 32 := 2#32
  let v340 : BitVec 32 := Scalar.remsi v339 c2_i32
  let v354 : BitVec 32 := Scalar.subi c1_i32_280 v340
  let v355 : BitVec 32 := Scalar.muli c2_i32_281 v354
  let v341 : BitVec 32 := Dev.word d338
  let c2_i32_272 : BitVec 32 := 2#32
  let v342 : BitVec 32 := Scalar.divsi v341 c2_i32_272
  let c2_i32_271 : BitVec 32 := 2#32
  let v343 : BitVec 32 := Scalar.remsi v342 c2_i32_271
  let v356 : BitVec 32 := Scalar.addi v355 v343
  let v745 : Index := Scalar.indexCast v356
  let c0_601 : Index := 0#32
  let c0_602 : Index := 0#32
  let c0_603 : Index := 0#32
  ![v745.toNat, 0, 0, 0]
def k0_off3 (d338 : Dev nD) : Fin 4 → Nat :=
  let c2_i32_282 : BitVec 32 := 2#32
  let v338 : BitVec 32 := Dev.word d338
  let c4_i32 : BitVec 32 := 4#32
  let v339 : BitVec 32 := Scalar.divsi v338 c4_i32
  let c2_i32 : BitVec 32 := 2#32
  let v340 : BitVec 32 := Scalar.remsi v339 c2_i32
  let v357 : BitVec 32 := Scalar.muli c2_i32_282 v340
  let c1_i32_283 : BitVec 32 := 1#32
  let v341 : BitVec 32 := Dev.word d338
  let c2_i32_272 : BitVec 32 := 2#32
  let v342 : BitVec 32 := Scalar.divsi v341 c2_i32_272
  let c2_i32_271 : BitVec 32 := 2#32
  let v343 : BitVec 32 := Scalar.remsi v342 c2_i32_271
  let v358 : BitVec 32 := Scalar.subi c1_i32_283 v343
  let v359 : BitVec 32 := Scalar.addi v357 v358
  let v761 : Index := Scalar.indexCast v359
  let c0_618 : Index := 0#32
  let c0_619 : Index := 0#32
  let c0_620 : Index := 0#32
  ![v761.toNat, 0, 0, 0]
def k0_off4 (d338 : Dev nD) : Fin 4 → Nat :=
  let c2_i32_285 : BitVec 32 := 2#32
  let c1_i32_284 : BitVec 32 := 1#32
  let v338 : BitVec 32 := Dev.word d338
  let c4_i32 : BitVec 32 := 4#32
  let v339 : BitVec 32 := Scalar.divsi v338 c4_i32
  let c2_i32 : BitVec 32 := 2#32
  let v340 : BitVec 32 := Scalar.remsi v339 c2_i32
  let v360 : BitVec 32 := Scalar.subi c1_i32_284 v340
  let v361 : BitVec 32 := Scalar.muli c2_i32_285 v360
  let c1_i32_286 : BitVec 32 := 1#32
  let v341 : BitVec 32 := Dev.word d338
  let c2_i32_272 : BitVec 32 := 2#32
  let v342 : BitVec 32 := Scalar.divsi v341 c2_i32_272
  let c2_i32_271 : BitVec 32 := 2#32
  let v343 : BitVec 32 := Scalar.remsi v342 c2_i32_271
  let v362 : BitVec 32 := Scalar.subi c1_i32_286 v343
  let v363 : BitVec 32 := Scalar.addi v361 v362
  let v777 : Index := Scalar.indexCast v363
  let c0_635 : Index := 0#32
  let c0_636 : Index := 0#32
  let c0_637 : Index := 0#32
  ![v777.toNat, 0, 0, 0]
def cc0_transform_0 (inb_S1_S1_0 : ∀ a, (![0] : Fin 1 → Nat) a + S1.size a ≤ S1.size a) (numel1_S1 : S1.numel = 1) (pf : pre0.Contents (Elt F)) (i : grid0.Coords) : Fin 4 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_1 (inb_S1_S1_0 : ∀ a, (![0] : Fin 1 → Nat) a + S1.size a ≤ S1.size a) (numel1_S1 : S1.numel = 1) (pf : pre0.Contents (Elt F)) (i : grid0.Coords) : Fin 4 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  let c0_i32_1 : BitVec 32 := 0#32
  ![v0.toNat, arg0.toNat, c0_i32.toNat, c0_i32_0.toNat]

def cc0_transform_2 (inb_S1_S1_0 : ∀ a, (![0] : Fin 1 → Nat) a + S1.size a ≤ S1.size a) (numel1_S1 : S1.numel = 1) (pf : pre0.Contents (Elt F)) (i : grid0.Coords) : Fin 4 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  let c0_i32_1 : BitVec 32 := 0#32
  ![v0.toNat, arg0.toNat, c0_i32.toNat, c0_i32_0.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

abbrev stage0_0 : Fin 1 → Memref sig .tc .vmem S1x32x8x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x1024x8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x32x8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== KernelIdeal.lean ====
variable {F : FTy → Type} [FloatOps F] [Named F]
def κ : String → Option EReal := fun
  | "inv_sqrt_d" => some (((Real.sqrt 128)⁻¹ : ℝ) : EReal)
  | _ => none
-- ==== ReferenceIdeal.lean ====
abbrev S4x32x8x128 : Shape := ⟨4, ![4, 32, 8, 128]⟩
abbrev S4x8192x8x128 : Shape := ⟨4, ![4, 8192, 8, 128]⟩
abbrev S4x8x32x8192 : Shape := ⟨4, ![4, 8, 32, 8192]⟩
abbrev S_ : Shape := ⟨0, ![]⟩
abbrev S4x8x32 : Shape := ⟨3, ![4, 8, 32]⟩
abbrev S4x8x32x1 : Shape := ⟨4, ![4, 8, 32, 1]⟩
abbrev S4x8x128x32 : Shape := ⟨4, ![4, 8, 128, 32]⟩

abbrev nBuf : Space → Nat
  | .hbm => 21
  | .vmem => 0
  | .smem => 0
  | _ => 0

abbrev bufTy : (tb : Table) → Fin (tcTables nBuf tb) → BufTy
  | .hbm, ⟨0, _⟩ => ⟨S4x32x8x128, .f32⟩
  | .hbm, ⟨1, _⟩ => ⟨S4x8192x8x128, .f32⟩
  | .hbm, ⟨2, _⟩ => ⟨S4x8192x8x128, .f32⟩
  | .hbm, ⟨3, _⟩ => ⟨S4x8x32x8192, .f32⟩
  | .hbm, ⟨4, _⟩ => ⟨S_, .f32⟩
  | .hbm, ⟨5, _⟩ => ⟨S_, .f32⟩
  | .hbm, ⟨6, _⟩ => ⟨S4x8x32x8192, .f32⟩
  | .hbm, ⟨7, _⟩ => ⟨S4x8x32x8192, .f32⟩
  | .hbm, ⟨8, _⟩ => ⟨S_, .f32⟩
  | .hbm, ⟨9, _⟩ => ⟨S4x8x32, .f32⟩
  | .hbm, ⟨10, _⟩ => ⟨S4x8x32x1, .f32⟩
  | .hbm, ⟨11, _⟩ => ⟨S4x8x32x8192, .f32⟩
  | .hbm, ⟨12, _⟩ => ⟨S4x8x32x8192, .f32⟩
  | .hbm, ⟨13, _⟩ => ⟨S4x8x32x8192, .f32⟩
  | .hbm, ⟨14, _⟩ => ⟨S_, .f32⟩
  | .hbm, ⟨15, _⟩ => ⟨S4x8x32, .f32⟩
  | .hbm, ⟨16, _⟩ => ⟨S4x8x32x1, .f32⟩
  | .hbm, ⟨17, _⟩ => ⟨S4x8x32x8192, .f32⟩
  | .hbm, ⟨18, _⟩ => ⟨S4x8x32x8192, .f32⟩
  | .hbm, ⟨19, _⟩ => ⟨S4x8x128x32, .f32⟩
  | .hbm, ⟨20, _⟩ => ⟨S4x32x8x128, .f32⟩
  | _, _ => ⟨S4x32x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Proof.Step.lean ====
/-
  Names for the kernel's scratch memrefs, and one grid point's flash-attention step as a function of what the buffers hold.
-/
module

public import proofs.«01_k».proof.Proof.Gen.KernelIdeal.Launch
public import proofs.«01_k».proof.Proof.Gen.KernelIdeal.Skeleton
public import Idealize.ShloMosaic.Lib.Pipeline.Frame
public import Idealize.ShloMosaic.Lib.Tactic
public import Idealize.ShloMosaic.Lib.Transfers
public import Idealize.ShloMosaic.Lib.Rounds
public import Idealize.ShloMosaic.Lib.Pipeline.FrameBody
public import Idealize.ShloMosaic.Lib.Pipeline.ValueKit

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

abbrev UU : Type := UR sig nD τ × Rounds.URounds (GSem nD τ sig) (Fin 4)

local notation "𝕄" => MT nD τ sig Unit (Elt F) ℕ UU ℕ

abbrev oM : Memref sig .tc .vmem S32x8x128 .f32 := Memref.whole cc0_scratch0
abbrev mM : Memref sig .tc .vmem S8x32x1 .f32 := Memref.whole cc0_scratch1
abbrev lM : Memref sig .tc .vmem S8x32x1 .f32 := Memref.whole cc0_scratch2
abbrev ktM : Memref sig .tc .vmem S8x1024x128 .f32 := Memref.whole cc0_scratch3
abbrev vtM : Memref sig .tc .vmem S8x1024x128 .f32 := Memref.whole cc0_scratch4
abbrev opM : Memref sig .tc .vmem S1x32x8x128 .bf16 := Memref.whole cc0_scratch5
abbrev omM : Memref sig .tc .vmem S1x8x32x1 .f32 := Memref.whole cc0_scratch6
abbrev olM : Memref sig .tc .vmem S1x8x32x1 .f32 := Memref.whole cc0_scratch7
abbrev roM : Memref sig .tc .vmem S1x32x8x128 .bf16 := Memref.whole cc0_scratch8
abbrev rmM : Memref sig .tc .vmem S1x8x32x1 .f32 := Memref.whole cc0_scratch9
abbrev rlM : Memref sig .tc .vmem S1x8x32x1 .f32 := Memref.whole cc0_scratch10
abbrev coM : Memref sig .tc .vmem S32x8x128 .bf16 := Memref.whole cc0_scratch11
abbrev agM : Memref sig .tc .vmem S3x32x8x128 .bf16 := Memref.whole cc0_scratch12

abbrev hbPt (c : Dev nD) {sp : Space} {S : Shape} {e : EltTy} (M : Memref sig .tc sp S e) (f : Buf (Elt F) (M.view.loc (c : Thread nD τ))) : sProp 𝕄 :=
  M.view.loc (c : Thread nD τ) ↦{fullShare} f

abbrev bodyOf (i : grid0.Coords) (arg2 : Memref sig .tc .vmem S1x32x8x128 .f32) (harg2 : arg2.IsWhole) (arg3 : Memref sig .tc .vmem S1x1024x8x128 .f32) (harg3 : arg3.IsWhole) (arg4 : Memref sig .tc .vmem S1x1024x8x128 .f32) (harg4 : arg4.IsWhole) (arg5 : Memref sig .tc .vmem S4x32x8x128 .f32) (harg5 : arg5.IsWhole) : Prog (TpuEff nD τ sig (Elt F) Λ₀ .tc) PUnit :=
  cc0__body i (Memref.whole main_v11) (Memref.isWhole_whole _) arg2 harg2 arg3 harg3 arg4 harg4 arg5 harg5 oM (Memref.isWhole_whole _) mM (Memref.isWhole_whole _) lM (Memref.isWhole_whole _) ktM (Memref.isWhole_whole _) vtM (Memref.isWhole_whole _) opM (Memref.isWhole_whole _) omM (Memref.isWhole_whole _) olM (Memref.isWhole_whole _) roM (Memref.isWhole_whole _) rmM (Memref.isWhole_whole _) rlM (Memref.isWhole_whole _) coM (Memref.isWhole_whole _) agM (Memref.isWhole_whole _) cc0_scratch13 cc0_scratch14 cc0_scratch15 cc0_scratch16

/-! ## One flash step, as functions of contents

`q` is the query block, `k` and `v` the key and value block of the point, `M`, `L`, `O` the running maximum, denominator and
unnormalised output of the eight heads before the point. -/

theorem inbQ (h : Fin 8) : ∀ a, (![0, 0, h.val, 0] : Fin 4 → ℕ) a + S1x32x1x128.size a ≤ S1x32x8x128.size a := by revert h; decide
theorem inbT (h : Fin 8) : ∀ a, (![h.val, 0, 0] : Fin 3 → ℕ) a + S1x1024x128.size a ≤ S8x1024x128.size a := by revert h; decide
theorem inbM (h : Fin 8) : ∀ a, (![h.val, 0, 0] : Fin 3 → ℕ) a + S1x32x1.size a ≤ S8x32x1.size a := by revert h; decide
theorem inbO (h : Fin 8) : ∀ a, (![0, h.val, 0] : Fin 3 → ℕ) a + S32x1x128.size a ≤ S32x8x128.size a := by revert h; decide

/-- The rectangles one head reads and writes. -/
abbrev rQ (h : Fin 8) : Rect S1x32x8x128 := Rect.unit (s := S1x32x8x128) ![0, 0, h.val, 0] S1x32x1x128.size (inbQ h)
abbrev rT (h : Fin 8) : Rect S8x1024x128 := Rect.unit (s := S8x1024x128) ![h.val, 0, 0] S1x1024x128.size (inbT h)
abbrev rM (h : Fin 8) : Rect S8x32x1 := Rect.unit (s := S8x32x1) ![h.val, 0, 0] S1x32x1.size (inbM h)
abbrev rO (h : Fin 8) : Rect S32x8x128 := Rect.unit (s := S32x8x128) ![0, h.val, 0] S32x1x128.size (inbO h)

variable (q : Vec F S1x32x8x128 .f32) (k v : Vec F S1x1024x8x128 .f32) (M L : Vec F S8x32x1 .f32) (O : Vec F S32x8x128 .f32)

/-- Head `h`'s scaled scores against the block. -/
def headS (h : Fin 8) : FVec F S32x1024 .f32 := k0_pay45 (View.ld q (rQ h)) (View.ld (k0_pay42 k) (rT h))
/-- Head `h`'s new maximum, denominator, output. -/
def headM (h : Fin 8) : FVec F S1x32x1 .f32 := k0_pay50 (headS q k h) (View.ld M (rM h))
def headL (h : Fin 8) : FVec F S1x32x1 .f32 := k0_pay51 (headS q k h) (View.ld M (rM h)) (View.ld L (rM h))
def headO (h : Fin 8) : FVec F S32x1x128 .f32 :=
  k0_pay52 (k0_pay44 (View.ld (k0_pay43 v) (rT h))) (headS q k h) (View.ld M (rM h)) (View.ld O (rO h))

/-- The three accumulators after the point. -/
def stepM : Vec F S8x32x1 .f32 := fun y => headM q k M (y 0) (fun a => match a with | 0 => (0 : Fin 1) | 1 => (y 1 : Fin 32) | 2 => (y 2 : Fin 1))
def stepL : Vec F S8x32x1 .f32 := fun y => headL q k M L (y 0) (fun a => match a with | 0 => (0 : Fin 1) | 1 => (y 1 : Fin 32) | 2 => (y 2 : Fin 1))
def stepO : Vec F S32x8x128 .f32 := fun y => headO q k v M O (y 1) (fun a => match a with | 0 => (y 0 : Fin 32) | 1 => (0 : Fin 1) | 2 => (y 2 : Fin 128))

theorem stepM_at (h : Fin 8) (x : S1x32x1.Idx) : stepM q k M ((rM h).emb x) = headM q k M h x := by
  unfold stepM
  have e0 : ((rM h).emb x) 0 = h := Fin.ext (by show h.val + 1 * (x 0).val = h.val; have : (x 0).val < 1 := (x 0).isLt; omega)
  have e : (fun a => match a with | 0 => (0 : Fin 1) | 1 => (((rM h).emb x) 1 : Fin 32) | 2 => (((rM h).emb x) 2 : Fin 1) : S1x32x1.Idx) = x := by
    funext a
    match a with
    | 0 => exact (Subsingleton.elim (α := Fin 1) _ _)
    | 1 => exact Fin.ext (by show 0 + 1 * (x 1).val = (x 1).val; omega)
    | 2 => exact (Subsingleton.elim (α := Fin 1) _ _)
  rw [e0]; exact congrArg _ e

theorem stepL_at (h : Fin 8) (x : S1x32x1.Idx) : stepL q k M L ((rM h).emb x) = headL q k M L h x := by
  unfold stepL
  have e0 : ((rM h).emb x) 0 = h := Fin.ext (by show h.val + 1 * (x 0).val = h.val; have : (x 0).val < 1 := (x 0).isLt; omega)
  have e : (fun a => match a with | 0 => (0 : Fin 1) | 1 => (((rM h).emb x) 1 : Fin 32) | 2 => (((rM h).emb x) 2 : Fin 1) : S1x32x1.Idx) = x := by
    funext a
    match a with
    | 0 => exact (Subsingleton.elim (α := Fin 1) _ _)
    | 1 => exact Fin.ext (by show 0 + 1 * (x 1).val = (x 1).val; omega)
    | 2 => exact (Subsingleton.elim (α := Fin 1) _ _)
  rw [e0]; exact congrArg _ e

theorem stepO_at (h : Fin 8) (x : S32x1x128.Idx) : stepO q k v M O ((rO h).emb x) = headO q k v M O h x := by
  unfold stepO
  have e0 : ((rO h).emb x) 1 = h := Fin.ext (by show h.val + 1 * (x 1).val = h.val; have : (x 1).val < 1 := (x 1).isLt; omega)
  have e : (fun a => match a with | 0 => (((rO h).emb x) 0 : Fin 32) | 1 => (0 : Fin 1) | 2 => (((rO h).emb x) 2 : Fin 128) : S32x1x128.Idx) = x := by
    funext a
    match a with
    | 0 => exact Fin.ext (by show 0 + 1 * (x 0).val = (x 0).val; omega)
    | 1 => exact (Subsingleton.elim (α := Fin 1) _ _)
    | 2 => exact Fin.ext (by show 0 + 1 * (x 2).val = (x 2).val; omega)
  rw [e0]; exact congrArg _ e

/-- Eight stores, one per head, last head first, each the head's slab of `G`, leave `G`. -/
theorem canon_rM (G : Vec F S8x32x1 .f32) (w : Fin 8 → S1x32x1.Idx → Elt F .f32) (hw : ∀ h x, w h x = G ((rM h).emb x))
    (f : (mM : Memref sig .tc .vmem S8x32x1 .f32).view.ty.Contents (Elt F)) :
    mM.view.writes (Elt F) f [⟨rM 7, w 7⟩, ⟨rM 6, w 6⟩, ⟨rM 5, w 5⟩, ⟨rM 4, w 4⟩, ⟨rM 3, w 3⟩, ⟨rM 2, w 2⟩, ⟨rM 1, w 1⟩, ⟨rM 0, w 0⟩] = G := by
  have hc : ∀ y : S8x32x1.Idx, y ∈ (rM (y 0)).set := by
    intro y
    rw [Rect.mem_set_unit]
    intro a
    match a with
    | 0 => exact ⟨Nat.le_refl _, Nat.lt_succ_self _⟩
    | 1 => exact ⟨Nat.zero_le _, by have : (y 1).val < 32 := (y 1).isLt; exact (Nat.zero_add 32).symm ▸ this⟩
    | 2 => exact ⟨Nat.zero_le _, by have : (y 2).val < 1 := (y 2).isLt; exact (Nat.zero_add 1).symm ▸ this⟩
  have hcov : ∀ y : S8x32x1.Idx, ∃ p ∈ ([⟨rM 7, w 7⟩, ⟨rM 6, w 6⟩, ⟨rM 5, w 5⟩, ⟨rM 4, w 4⟩, ⟨rM 3, w 3⟩, ⟨rM 2, w 2⟩, ⟨rM 1, w 1⟩, ⟨rM 0, w 0⟩] : List (View.Piece (Elt F) S8x32x1 .f32)), y ∈ p.1.set := by
    intro y
    refine ⟨⟨rM (y 0), w (y 0)⟩, ?_, hc y⟩
    generalize (y 0 : Fin 8) = h
    fin_cases h <;> simp
  have e := View.read_writes_eq_canon (mM : Memref sig .tc .vmem S8x32x1 .f32).view f _ hcov
  refine Eq.trans e ?_
  funext y
  refine View.canon_apply_of_pieces G _ ?_ y (hcov y)
  simp only [List.mem_cons, List.not_mem_nil, or_false]
  rintro p (rfl | rfl | rfl | rfl | rfl | rfl | rfl | rfl) <;> exact hw _

/-- Eight stores, one per head, last head first, each the head's slab of `G`, leave `G`. -/
theorem canon_rL (G : Vec F S8x32x1 .f32) (w : Fin 8 → S1x32x1.Idx → Elt F .f32) (hw : ∀ h x, w h x = G ((rM h).emb x))
    (f : (lM : Memref sig .tc .vmem S8x32x1 .f32).view.ty.Contents (Elt F)) :
    lM.view.writes (Elt F) f [⟨rM 7, w 7⟩, ⟨rM 6, w 6⟩, ⟨rM 5, w 5⟩, ⟨rM 4, w 4⟩, ⟨rM 3, w 3⟩, ⟨rM 2, w 2⟩, ⟨rM 1, w 1⟩, ⟨rM 0, w 0⟩] = G := by
  have hc : ∀ y : S8x32x1.Idx, y ∈ (rM (y 0)).set := by
    intro y
    rw [Rect.mem_set_unit]
    intro a
    match a with
    | 0 => exact ⟨Nat.le_refl _, Nat.lt_succ_self _⟩
    | 1 => exact ⟨Nat.zero_le _, by have : (y 1).val < 32 := (y 1).isLt; exact (Nat.zero_add 32).symm ▸ this⟩
    | 2 => exact ⟨Nat.zero_le _, by have : (y 2).val < 1 := (y 2).isLt; exact (Nat.zero_add 1).symm ▸ this⟩
  have hcov : ∀ y : S8x32x1.Idx, ∃ p ∈ ([⟨rM 7, w 7⟩, ⟨rM 6, w 6⟩, ⟨rM 5, w 5⟩, ⟨rM 4, w 4⟩, ⟨rM 3, w 3⟩, ⟨rM 2, w 2⟩, ⟨rM 1, w 1⟩, ⟨rM 0, w 0⟩] : List (View.Piece (Elt F) S8x32x1 .f32)), y ∈ p.1.set := by
    intro y
    refine ⟨⟨rM (y 0), w (y 0)⟩, ?_, hc y⟩
    generalize (y 0 : Fin 8) = h
    fin_cases h <;> simp
  have e := View.read_writes_eq_canon (lM : Memref sig .tc .vmem S8x32x1 .f32).view f _ hcov
  refine Eq.trans e ?_
  funext y
  refine View.canon_apply_of_pieces G _ ?_ y (hcov y)
  simp only [List.mem_cons, List.not_mem_nil, or_false]
  rintro p (rfl | rfl | rfl | rfl | rfl | rfl | rfl | rfl) <;> exact hw _

/-- Eight stores, one per head, last head first, each the head's slab of `G`, leave `G`. -/
theorem canon_rO (G : Vec F S32x8x128 .f32) (w : Fin 8 → S32x1x128.Idx → Elt F .f32) (hw : ∀ h x, w h x = G ((rO h).emb x))
    (f : (oM : Memref sig .tc .vmem S32x8x128 .f32).view.ty.Contents (Elt F)) :
    oM.view.writes (Elt F) f [⟨rO 7, w 7⟩, ⟨rO 6, w 6⟩, ⟨rO 5, w 5⟩, ⟨rO 4, w 4⟩, ⟨rO 3, w 3⟩, ⟨rO 2, w 2⟩, ⟨rO 1, w 1⟩, ⟨rO 0, w 0⟩] = G := by
  have hc : ∀ y : S32x8x128.Idx, y ∈ (rO (y 1)).set := by
    intro y
    rw [Rect.mem_set_unit]
    intro a
    match a with
    | 0 => exact ⟨Nat.zero_le _, by have : (y 0).val < 32 := (y 0).isLt; exact (Nat.zero_add 32).symm ▸ this⟩
    | 1 => exact ⟨Nat.le_refl _, Nat.lt_succ_self _⟩
    | 2 => exact ⟨Nat.zero_le _, by have : (y 2).val < 128 := (y 2).isLt; exact (Nat.zero_add 128).symm ▸ this⟩
  have hcov : ∀ y : S32x8x128.Idx, ∃ p ∈ ([⟨rO 7, w 7⟩, ⟨rO 6, w 6⟩, ⟨rO 5, w 5⟩, ⟨rO 4, w 4⟩, ⟨rO 3, w 3⟩, ⟨rO 2, w 2⟩, ⟨rO 1, w 1⟩, ⟨rO 0, w 0⟩] : List (View.Piece (Elt F) S32x8x128 .f32)), y ∈ p.1.set := by
    intro y
    refine ⟨⟨rO (y 1), w (y 1)⟩, ?_, hc y⟩
    generalize (y 1 : Fin 8) = h
    fin_cases h <;> simp
  have e := View.read_writes_eq_canon (oM : Memref sig .tc .vmem S32x8x128 .f32).view f _ hcov
  refine Eq.trans e ?_
  funext y
  refine View.canon_apply_of_pieces G _ ?_ y (hcov y)
  simp only [List.mem_cons, List.not_mem_nil, or_false]
  rintro p (rfl | rfl | rfl | rfl | rfl | rfl | rfl | rfl) <;> exact hw _

/-- A load through any rectangle of what one store through the whole shape left reads the payload's slab. -/
theorem readCov_whole [∀ e, Nonempty (Elt F e)] {S : Shape} {e : EltTy} {sp : Space} (v : View sig .tc sp S e) {off : Fin S.rank → Nat} (inb : ∀ a, off a + S.size a ≤ S.size a)
    (h : ∀ a, off a = 0) (w : S.Idx → Elt F e) (r : Rect S) :
    v.readCov [(⟨Rect.unit off (no_index S.size) inb, w⟩ : View.Piece (Elt F) S e)] r.toLoadRect = View.ld w r := by
  rw [View.readCov_eq_canon_ld]
  · rw [View.canon_cons_unit_lit inb w [] h]
  · intro y
    refine ⟨_, List.mem_singleton.mpr rfl, ?_⟩
    rw [Rect.mem_set_unit]
    intro a
    rw [h a]
    exact ⟨Nat.zero_le _, by rw [Nat.zero_add]; exact (y a).isLt⟩

/-- The key rows of the point, transposed to heads first, read back one head at a time. -/
theorem readCov_kt (inb : ∀ a, (![0, 0, 0] : Fin 3 → ℕ) a + S8x1024x128.size a ≤ S8x1024x128.size a) (w : Vec F S8x1024x128 .f32) (r : Rect S8x1024x128) :
    (ktM : Memref sig .tc .vmem S8x1024x128 .f32).view.readCov [(⟨Rect.unit ![0, 0, 0] S8x1024x128.size inb, w⟩ : View.Piece (Elt F) S8x1024x128 .f32)] r.toLoadRect = View.ld w r :=
  readCov_whole _ inb (fun a => by fin_cases a <;> rfl) w r

theorem readCov_vt (inb : ∀ a, (![0, 0, 0] : Fin 3 → ℕ) a + S8x1024x128.size a ≤ S8x1024x128.size a) (w : Vec F S8x1024x128 .f32) (r : Rect S8x1024x128) :
    (vtM : Memref sig .tc .vmem S8x1024x128 .f32).view.readCov [(⟨Rect.unit ![0, 0, 0] S8x1024x128.size inb, w⟩ : View.Piece (Elt F) S8x1024x128 .f32)] r.toLoadRect = View.ld w r :=
  readCov_whole _ inb (fun a => by fin_cases a <;> rfl) w r

/-- A load of a whole key or value block. -/
theorem readAt_block (inb : ∀ a, (![0, 0, 0, 0] : Fin 4 → ℕ) a + S1x1024x8x128.size a ≤ S1x1024x8x128.size a) (m : Memref sig .tc .vmem S1x1024x8x128 .f32)
    (f : m.view.ty.Contents (Elt F)) : m.view.readAt (Elt F) (Rect.unit (s := S1x1024x8x128) ![0, 0, 0, 0] S1x1024x8x128.size inb).toLoadRect f = m.view.read (Elt F) f := by
  rw [View.readAt_eq_ld]
  exact View.ld_unit_lit inb _ (fun a => by fin_cases a <;> rfl)

/-! The heads' payloads, as the program's text groups them, are all head 0's. -/

theorem headM1 (q : Vec F S1x32x1x128 .f32) (kt vt : Vec F S1x1024x128 .f32) (m l : Vec F S1x32x1 .f32) (o : Vec F S32x1x128 .f32) :
    k0_pay60 (k0_pay53 q) kt m = k0_pay50 (k0_pay45 q kt) m := rfl

theorem headL1 (q : Vec F S1x32x1x128 .f32) (kt vt : Vec F S1x1024x128 .f32) (m l : Vec F S1x32x1 .f32) (o : Vec F S32x1x128 .f32) :
    k0_pay61 (k0_pay53 q) kt m l = k0_pay51 (k0_pay45 q kt) m l := rfl

theorem headO1 (q : Vec F S1x32x1x128 .f32) (kt vt : Vec F S1x1024x128 .f32) (m l : Vec F S1x32x1 .f32) (o : Vec F S32x1x128 .f32) :
    k0_pay62 (k0_pay59 (k0_pay53 q) kt vt m o) = k0_pay52 (k0_pay44 vt) (k0_pay45 q kt) m o := rfl

theorem headM2 (q : Vec F S1x32x1x128 .f32) (kt vt : Vec F S1x1024x128 .f32) (m l : Vec F S1x32x1 .f32) (o : Vec F S32x1x128 .f32) :
    k0_pay71 (k0_pay66 q kt m) = k0_pay50 (k0_pay45 q kt) m := rfl

theorem headL2 (q : Vec F S1x32x1x128 .f32) (kt vt : Vec F S1x1024x128 .f32) (m l : Vec F S1x32x1 .f32) (o : Vec F S32x1x128 .f32) :
    k0_pay72 (k0_pay69 q kt m l) = k0_pay51 (k0_pay45 q kt) m l := rfl

theorem headO2 (q : Vec F S1x32x1x128 .f32) (kt vt : Vec F S1x1024x128 .f32) (m l : Vec F S1x32x1 .f32) (o : Vec F S32x1x128 .f32) :
    k0_pay73 (k0_pay63 vt) (k0_pay68 q kt m) (k0_pay70 q kt m o) (constant S32x128 .f32 0x00000000#32) = k0_pay52 (k0_pay44 vt) (k0_pay45 q kt) m o := rfl

theorem headM3 (q : Vec F S1x32x1x128 .f32) (kt vt : Vec F S1x1024x128 .f32) (m l : Vec F S1x32x1 .f32) (o : Vec F S32x1x128 .f32) :
    k0_pay80 (k0_pay77 q kt m) = k0_pay50 (k0_pay45 q kt) m := rfl

theorem headL3 (q : Vec F S1x32x1x128 .f32) (kt vt : Vec F S1x1024x128 .f32) (m l : Vec F S1x32x1 .f32) (o : Vec F S32x1x128 .f32) :
    k0_pay81 (k0_pay78 q kt m) (k0_pay79 q kt m) l = k0_pay51 (k0_pay45 q kt) m l := rfl

theorem headO3 (q : Vec F S1x32x1x128 .f32) (kt vt : Vec F S1x1024x128 .f32) (m l : Vec F S1x32x1 .f32) (o : Vec F S32x1x128 .f32) :
    k0_pay82 (k0_pay74 vt) (k0_pay78 q kt m) (k0_pay79 q kt m) o = k0_pay52 (k0_pay44 vt) (k0_pay45 q kt) m o := rfl

theorem headM4 (q : Vec F S1x32x1x128 .f32) (kt vt : Vec F S1x1024x128 .f32) (m l : Vec F S1x32x1 .f32) (o : Vec F S32x1x128 .f32) :
    k0_pay89 (k0_pay84 q kt) m = k0_pay50 (k0_pay45 q kt) m := rfl

theorem headL4 (q : Vec F S1x32x1x128 .f32) (kt vt : Vec F S1x1024x128 .f32) (m l : Vec F S1x32x1 .f32) (o : Vec F S32x1x128 .f32) :
    k0_pay90 (k0_pay84 q kt) m l = k0_pay51 (k0_pay45 q kt) m l := rfl

theorem headO4 (q : Vec F S1x32x1x128 .f32) (kt vt : Vec F S1x1024x128 .f32) (m l : Vec F S1x32x1 .f32) (o : Vec F S32x1x128 .f32) :
    k0_pay91 (k0_pay83 vt) (k0_pay84 q kt) m o = k0_pay52 (k0_pay44 vt) (k0_pay45 q kt) m o := rfl

theorem headM5 (q : Vec F S1x32x1x128 .f32) (kt vt : Vec F S1x1024x128 .f32) (m l : Vec F S1x32x1 .f32) (o : Vec F S32x1x128 .f32) :
    k0_pay99 q kt m = k0_pay50 (k0_pay45 q kt) m := rfl

theorem headL5 (q : Vec F S1x32x1x128 .f32) (kt vt : Vec F S1x1024x128 .f32) (m l : Vec F S1x32x1 .f32) (o : Vec F S32x1x128 .f32) :
    k0_pay100 (k0_pay97 q kt m l) = k0_pay51 (k0_pay45 q kt) m l := rfl

theorem headO5 (q : Vec F S1x32x1x128 .f32) (kt vt : Vec F S1x1024x128 .f32) (m l : Vec F S1x32x1 .f32) (o : Vec F S32x1x128 .f32) :
    k0_pay101 (k0_pay98 q kt vt m o) = k0_pay52 (k0_pay44 vt) (k0_pay45 q kt) m o := rfl

theorem headM6 (q : Vec F S1x32x1x128 .f32) (kt vt : Vec F S1x1024x128 .f32) (m l : Vec F S1x32x1 .f32) (o : Vec F S32x1x128 .f32) :
    k0_pay109 (k0_pay105 q kt m) = k0_pay50 (k0_pay45 q kt) m := rfl

theorem headL6 (q : Vec F S1x32x1x128 .f32) (kt vt : Vec F S1x1024x128 .f32) (m l : Vec F S1x32x1 .f32) (o : Vec F S32x1x128 .f32) :
    k0_pay110 (k0_pay108 q kt m l) = k0_pay51 (k0_pay45 q kt) m l := rfl

theorem headO6 (q : Vec F S1x32x1x128 .f32) (kt vt : Vec F S1x1024x128 .f32) (m l : Vec F S1x32x1 .f32) (o : Vec F S32x1x128 .f32) :
    k0_pay111 (k0_pay102 vt) (k0_pay106 q kt m) (k0_pay107 q kt m) o = k0_pay52 (k0_pay44 vt) (k0_pay45 q kt) m o := rfl

theorem headM7 (q : Vec F S1x32x1x128 .f32) (kt vt : Vec F S1x1024x128 .f32) (m l : Vec F S1x32x1 .f32) (o : Vec F S32x1x128 .f32) :
    k0_pay2 (k0_pay115 q kt m) = k0_pay50 (k0_pay45 q kt) m := rfl

theorem headL7 (q : Vec F S1x32x1x128 .f32) (kt vt : Vec F S1x1024x128 .f32) (m l : Vec F S1x32x1 .f32) (o : Vec F S32x1x128 .f32) :
    k0_pay3 (k0_pay113 q kt) (k0_pay116 q kt m) (k0_pay117 q kt m) l = k0_pay51 (k0_pay45 q kt) m l := rfl

theorem headO7 (q : Vec F S1x32x1x128 .f32) (kt vt : Vec F S1x1024x128 .f32) (m l : Vec F S1x32x1 .f32) (o : Vec F S32x1x128 .f32) :
    k0_pay4 (k0_pay112 vt) (k0_pay113 q kt) (k0_pay116 q kt m) (k0_pay117 q kt m) o = k0_pay52 (k0_pay44 vt) (k0_pay45 q kt) m o := rfl

/-- A buffer at contents equal to `d`. -/
abbrev eqPt (c : Dev nD) {sp : Space} {S : Shape} {e : EltTy} (M : Memref sig .tc sp S e) (d : Buf (Elt F) (M.view.loc (c : Thread nD τ))) : sProp 𝕄 :=
  iprop(∃ f, ⌜f = d⌝ ∗ hbPt c M f)

theorem eqPt_elim (c : Dev nD) {sp : Space} {S : Shape} {e : EltTy} (M : Memref sig .tc sp S e) (d : Buf (Elt F) (M.view.loc (c : Thread nD τ))) :
    (eqPt c M d : sProp 𝕄) ⊢ hbPt c M d := by
  iintro ⟨%f, %h, H⟩
  subst h
  iexact H

theorem eqPt_intro (c : Dev nD) {sp : Space} {S : Shape} {e : EltTy} (M : Memref sig .tc sp S e) (f d : Buf (Elt F) (M.view.loc (c : Thread nD τ))) (h : f = d) :
    (hbPt c M f : sProp 𝕄) ⊢ eqPt c M d := by
  iintro H
  iexists f
  isplitr; swap; · iexact H
  ipureintro
  exact h

end Cert.KernelIdeal.Hand
end
-- ==== Proof.Protocol.lean ====
/-
  The protocol of the kernel: who talks to whom, what every semaphore unit hands over, and in which order cells may be waited for.
-/
module

public import proofs.«01_k».proof.Proof.Gen.KernelIdeal.Launch
public import proofs.«01_k».proof.Proof.Gen.KernelIdeal.Skeleton
public import Idealize.ShloMosaic.Lib.Pipeline.Frame
public import Idealize.ShloMosaic.Lib.Tactic
public import Idealize.ShloMosaic.Lib.Transfers
public import Idealize.ShloMosaic.Lib.Rounds
public import proofs.«01_k».proof.Proof.Step
public import Idealize.ShloMosaic.Lib.Pipeline.FrameBody
public import Idealize.ShloMosaic.Lib.Pipeline.ValueKit

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.Rounds Idealize.ShloMosaic.Pipeline Idealize.ShloMosaic.Transfers
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ UU ℕ

abbrev EP : Emb (UR sig nD τ) (MT nD τ sig Unit (Elt F) ℕ UU ℕ) := embL
abbrev ER : Emb (Rounds.URounds (GSem nD τ sig) (Fin 4)) (MT nD τ sig Unit (Elt F) ℕ UU ℕ) := embR

/-! ## Who talks to whom

The mesh is x, y, z with device number 4x + 2y + z. Device `c` talks to the device across z (`pz`), across x (`px`), across y (`py`)
and across both x and y (`pd`). Every one of these maps is its own inverse. -/

def pz (c : Dev nD) : Dev nD := ⟨(4 * (c.val / 4) + 2 * ((c.val / 2) % 2) + 1) - c.val % 2, by have : c.val < 8 := c.isLt; show _ < 8; omega⟩
def px (c : Dev nD) : Dev nD := ⟨(2 * ((c.val / 2) % 2) + c.val % 2 + 4) - 4 * (c.val / 4), by have : c.val < 8 := c.isLt; show _ < 8; omega⟩
def py (c : Dev nD) : Dev nD := ⟨(4 * (c.val / 4) + c.val % 2 + 2) - 2 * ((c.val / 2) % 2), by have : c.val < 8 := c.isLt; show _ < 8; omega⟩
def pd (c : Dev nD) : Dev nD := ⟨(c.val % 2 + 6) - (4 * (c.val / 4) + 2 * ((c.val / 2) % 2)), by have : c.val < 8 := c.isLt; show _ < 8; omega⟩

theorem pz_pz (c : Dev nD) : pz (pz c) = c := by revert c; decide
theorem px_px (c : Dev nD) : px (px c) = c := by revert c; decide
theorem py_py (c : Dev nD) : py (py c) = c := by revert c; decide
theorem pd_pd (c : Dev nD) : pd (pd c) = c := by revert c; decide

theorem dev1_eq (c : Dev nD) (h : k0_dev1 c < nD) : (⟨k0_dev1 c, h⟩ : Dev nD) = pz c := Fin.ext (k0_dev1_eq c)
theorem dev2_eq (c : Dev nD) (h : k0_dev2 c < nD) : (⟨k0_dev2 c, h⟩ : Dev nD) = px c := Fin.ext (k0_dev2_eq c)
theorem dev3_eq (c : Dev nD) (h : k0_dev3 c < nD) : (⟨k0_dev3 c, h⟩ : Dev nD) = py c := Fin.ext (k0_dev3_eq c)
theorem dev4_eq (c : Dev nD) (h : k0_dev4 c < nD) : (⟨k0_dev4 c, h⟩ : Dev nD) = pd c := Fin.ext (k0_dev4_eq c)
theorem dev5_eq (c : Dev nD) (h : k0_dev5 c < nD) : (⟨k0_dev5 c, h⟩ : Dev nD) = pz c := Fin.ext (k0_dev5_eq c)
theorem dev6_eq (c : Dev nD) (h : k0_dev6 c < nD) : (⟨k0_dev6 c, h⟩ : Dev nD) = pz c := Fin.ext (k0_dev6_eq c)
theorem dev7_eq (c : Dev nD) (h : k0_dev7 c < nD) : (⟨k0_dev7 c, h⟩ : Dev nD) = pz c := Fin.ext (k0_dev7_eq c)
theorem dev8_eq (c : Dev nD) (h : k0_dev8 c < nD) : (⟨k0_dev8 c, h⟩ : Dev nD) = px c := Fin.ext (k0_dev8_eq c)
theorem dev9_eq (c : Dev nD) (h : k0_dev9 c < nD) : (⟨k0_dev9 c, h⟩ : Dev nD) = py c := Fin.ext (k0_dev9_eq c)
theorem dev10_eq (c : Dev nD) (h : k0_dev10 c < nD) : (⟨k0_dev10 c, h⟩ : Dev nD) = pd c := Fin.ext (k0_dev10_eq c)

/-! ## The semaphore cells and the views copies land in -/

/-- The barrier. -/
abbrev barS : Sem sig := ⟨0, by decide⟩
/-- The kernel's twelve transfer semaphores: number 6, 7, 8 the three sends across z, 9, 10, 11 their arrivals, 12, 13, 14 the three sends
    of the combined block, 15, 16, 17 their arrivals. -/
abbrev dS (n : ℕ) (h : n < 18 := by decide) : DmaSem sig := ⟨n, h⟩

abbrev barC (c : Dev nD) : GSem nD τ sig := ((c : Thread nD τ), .reg barS)
abbrev dC (c : Dev nD) (n : ℕ) (h : n < 18 := by decide) : GSem nD τ sig := ((c : Thread nD τ), .dma (dS n h))

/-- The three slots of the gather buffer, as the copies address them. -/
abbrev ag0 : Memref sig .tc .vmem S32x8x128 .bf16 := (agM.slice (Rect.unit (s := S3x32x8x128) ![0, 0, 0, 0] S1x32x8x128.size inb_S3x32x8x128_S1x32x8x128_0_0_0_0) (fun _ => rfl)).squeeze S32x8x128 squeezes_S1x32x8x128_S32x8x128
abbrev ag1 : Memref sig .tc .vmem S32x8x128 .bf16 := (agM.slice (Rect.unit (s := S3x32x8x128) ![1, 0, 0, 0] S1x32x8x128.size inb_S3x32x8x128_S1x32x8x128_1_0_0_0) (fun _ => rfl)).squeeze S32x8x128 squeezes_S1x32x8x128_S32x8x128
abbrev ag2 : Memref sig .tc .vmem S32x8x128 .bf16 := (agM.slice (Rect.unit (s := S3x32x8x128) ![2, 0, 0, 0] S1x32x8x128.size inb_S3x32x8x128_S1x32x8x128_2_0_0_0) (fun _ => rfl)).squeeze S32x8x128 squeezes_S1x32x8x128_S32x8x128

/-- A view's own elements at device `c`. -/
abbrev vPt (c : Dev nD) {S : Shape} {e : EltTy} (M : Memref sig .tc .vmem S e) (f : Buf (Elt F) (M.view.loc (c : Thread nD τ))) : sProp 𝕄 :=
  M.view.loc (c : Thread nD τ) ↦[M.view.set]{fullShare} f

/-- The same at contents not chosen. -/
def anyPt (c : Dev nD) {S : Shape} {e : EltTy} (M : Memref sig .tc .vmem S e) : sProp 𝕄 := iprop(∃ f, vPt c M f)

instance anyPt_storable (c : Dev nD) {S : Shape} {e : EltTy} (M : Memref sig .tc .vmem S e) : BI.Storable (upEmb : UEmb _ 𝕄) (anyPt c M : sProp 𝕄) := by
  unfold anyPt; infer_instance

/-- The combined block at device `c`, at read share `i` of three. -/
abbrev coSh (c : Dev nD) (i : Fin 3) (f : Buf (Elt F) (coM.view.loc (c : Thread nD τ))) : sProp 𝕄 :=
  coM.view.loc (c : Thread nD τ) ↦[coM.view.set]{shareTok fullShare 3 i} f

/-- A slot of the gather buffer holding the block `d`. -/
def agPt (c : Dev nD) (M : Memref sig .tc .vmem S32x8x128 .bf16) (d : Vec F S32x8x128 .bf16) : sProp 𝕄 :=
  iprop(∃ f, ⌜M.view.read (Elt F) f = d⌝ ∗ vPt c M f)

instance agPt_storable (c : Dev nD) (M : Memref sig .tc .vmem S32x8x128 .bf16) (d : Vec F S32x8x128 .bf16) : BI.Storable (upEmb : UEmb _ 𝕄) (agPt c M d : sProp 𝕄) := by
  unfold agPt; infer_instance

/-- What every device sends: its normalised output, maximum and denominator to the device across z, the combined block to the three others. -/
structure Sent (F : FTy → Type) where
  op : Dev nD → Vec F S1x32x8x128 .bf16
  om : Dev nD → Vec F S1x8x32x1 .f32
  ol : Dev nD → Vec F S1x8x32x1 .f32
  co : Dev nD → Vec F S32x8x128 .bf16

variable (A : Sent F)

/-! ## The schedule: what each unit of each cell hands to the cell's owner -/

/-- Paid to device `c`'s barrier by its four peers: the landing places at the PEER, and that the peer's arrival cells are open. -/
def barPay (c : Dev nD) (d : Fin 4) : sProp 𝕄 :=
  match d with
  | 0 => iprop((anyPt (pz c) roM ∗ anyPt (pz c) rmM ∗ anyPt (pz c) rlM)
      ∗ reached ER (dC (pz c) 9) 0 ∗ reached ER (dC (pz c) 10) 0 ∗ reached ER (dC (pz c) 11) 0)
  | 1 => iprop(anyPt (px c) ag0 ∗ reached ER (dC (px c) 15) 0)
  | 2 => iprop(anyPt (py c) ag1 ∗ reached ER (dC (py c) 16) 0)
  | 3 => iprop(anyPt (pd c) ag2 ∗ reached ER (dC (pd c) 17) 0)

/-- Paid to device `c`'s transfer cell `n`: a send cell returns the source, an arrival cell hands over the landing place holding what was sent. -/
def dmaPay (c : Dev nD) (n : ℕ) : sProp 𝕄 :=
  match n with
  | 6 => vPt c opM (A.op c)
  | 7 => vPt c omM (A.om c)
  | 8 => vPt c olM (A.ol c)
  | 9 => vPt c roM (A.op (pz c))
  | 10 => vPt c rmM (A.om (pz c))
  | 11 => vPt c rlM (A.ol (pz c))
  | 12 => coSh c 0 (A.co c)
  | 13 => coSh c 1 (A.co c)
  | 14 => coSh c 2 (A.co c)
  | 15 => agPt c ag0 (A.co (px c))
  | 16 => agPt c ag1 (A.co (py c))
  | 17 => agPt c ag2 (A.co (pd c))
  | _ => iprop(emp)

abbrev Nop : ℕ := (roM : Memref sig .tc .vmem S1x32x8x128 .bf16).view.dmaCredit
abbrev Nom : ℕ := (rmM : Memref sig .tc .vmem S1x8x32x1 .f32).view.dmaCredit
abbrev Nco : ℕ := (coM : Memref sig .tc .vmem S32x8x128 .bf16).view.dmaCredit

/-- The units one transfer puts on cell `n`. -/
def dmaAmt (n : ℕ) : ℕ :=
  match n with
  | 6 => Nop | 7 => Nom | 8 => Nom | 9 => Nop | 10 => Nom | 11 => Nom
  | 12 => Nco | 13 => Nco | 14 => Nco | 15 => Nco | 16 => Nco | 17 => Nco
  | _ => 1

theorem dmaAmt_pos (n : ℕ) : 0 < dmaAmt n := by
  have h1 : 0 < Nop := View.dmaCredit_pos _ (by decide)
  have h2 : 0 < Nom := View.dmaCredit_pos _ (by decide)
  have h3 : 0 < Nco := View.dmaCredit_pos _ (by decide)
  unfold dmaAmt
  split <;> first | assumption | exact Nat.one_pos

/-- One round: four units on every barrier cell, one a peer; one transfer on every transfer cell of the kernel. -/
def Rd : Rounds.Schedule (GSem nD τ sig) (Fin 4) 𝕄 where
  duties g r := if r = 0 ∧ g.1.2 = .tc then (match g.2 with | .reg _ => Finset.univ | .dma s => if 6 ≤ s.val then {0} else ∅) else ∅
  unitless _ := False
  amount g _ _ := match g.2 with | .reg _ => 1 | .dma s => dmaAmt s.val
  payload g _ d := match g.2 with | .reg _ => barPay g.1.1 d | .dma s => dmaPay A g.1.1 s.val
  amount_pos g _ _ _ := by
    cases g.2 with
    | reg _ => exact Nat.one_pos
    | dma s => exact dmaAmt_pos _

instance Rd_payload_storable (g : GSem nD τ sig) (r : ℕ) (d : Fin 4) :
    BI.Storable (upEmb : UEmb _ 𝕄) ((Rd (F := F) A).payload g r d) := by
  show BI.Storable upEmb (match g.2 with | .reg _ => barPay g.1.1 d | .dma s => dmaPay A g.1.1 s.val)
  split
  · unfold barPay; split <;> infer_instance
  · unfold dmaPay; split <;> infer_instance

section Sched

variable (c : Dev nD)

theorem duties_bar : (Rd (F := F) A).duties (barC c) 0 = Finset.univ := by dsimp only [Rd]; exact if_pos ⟨rfl, rfl⟩
theorem duties_dma (n : ℕ) (h : n < 18) (hn : 6 ≤ n) : (Rd (F := F) A).duties (dC c n h) 0 = {0} := by
  dsimp only [Rd]; rw [if_pos ⟨rfl, rfl⟩]; exact if_pos hn
theorem duties_later (g : GSem nD τ sig) : ∀ r, 1 ≤ r → (Rd (F := F) A).duties g r = ∅ :=
  fun r hr => by dsimp only [Rd]; rw [if_neg (fun h => by omega)]

theorem amount_bar (d : Fin 4) : (Rd (F := F) A).amount (barC c) 0 d = 1 := rfl
theorem amount_dma (n : ℕ) (h : n < 18) (d : Fin 4) : (Rd (F := F) A).amount (dC c n h) 0 d = dmaAmt n := rfl

theorem expect_bar : (Rd (F := F) A).expect (barC c) 0 = 4 := by
  unfold Rounds.Schedule.expect Rounds.Schedule.amountOf; rw [duties_bar]; rfl
theorem expect_dma (n : ℕ) (h : n < 18) (hn : 6 ≤ n) : (Rd (F := F) A).expect (dC c n h) 0 = dmaAmt n := by
  unfold Rounds.Schedule.expect Rounds.Schedule.amountOf; rw [duties_dma A c n h hn, Finset.sum_singleton, amount_dma]

theorem payload_bar (d : Fin 4) : (Rd (F := F) A).payload (barC c) 0 d = barPay c d := rfl
theorem payload_dma (n : ℕ) (h : n < 18) (d : Fin 4) : (Rd (F := F) A).payload (dC c n h) 0 d = dmaPay A c n := rfl

theorem rest_bar : bigSep ((Rd (F := F) A).duties (barC c) 0 \ ∅) (fun d => (Rd (F := F) A).payload (barC c) 0 d)
    = iprop(barPay c 0 ∗ barPay c 1 ∗ barPay c 2 ∗ barPay c 3) := by
  rw [Finset.sdiff_empty, duties_bar]
  exact bigSep_univ_eq_bigSepL ([0, 1, 2, 3] : List (Fin 4)) (by decide) (by decide) _
theorem rest_dma (n : ℕ) (h : n < 18) (hn : 6 ≤ n) :
    bigSep ((Rd (F := F) A).duties (dC c n h) 0 \ ∅) (fun d => (Rd (F := F) A).payload (dC c n h) 0 d) = dmaPay A c n := by
  rw [Finset.sdiff_empty, duties_dma A c n h hn, bigSep_singleton, payload_dma]

end Sched

/-! ## What each core owes at launch; the levels -/

/-- The arrivals device `c` still owes the device across z. -/
def Oz (c : Dev nD) : CellTallies nD τ sig Unit :=
  tallyAt (dC (pz c) 11) () (dmaAmt 11) + tallyAt (dC (pz c) 10) () (dmaAmt 10) + tallyAt (dC (pz c) 9) () (dmaAmt 9)
/-- The arrivals it owes the three devices of its z. -/
def Op (c : Dev nD) : CellTallies nD τ sig Unit :=
  tallyAt (dC (pd c) 17) () (dmaAmt 17) + tallyAt (dC (py c) 16) () (dmaAmt 16) + tallyAt (dC (px c) 15) () (dmaAmt 15)
/-- The barrier units it owes its four peers. -/
def Ob (c : Dev nD) : CellTallies nD τ sig Unit :=
  tallyAt (barC (pd c)) () 1 + tallyAt (barC (py c)) () 1 + tallyAt (barC (px c)) () 1 + tallyAt (barC (pz c)) () 1
def O₀ (c : Dev nD) : CellTallies nD τ sig Unit := Op c + Oz c + Ob c

def L (g : GSem nD τ sig) : Finset Unit := if g.1.2 = .tc then {()} else ∅
/-- Barrier cells at 1, arrivals across z at 2, arrivals of combined blocks at 3, every other cell at 0. -/
def lv (g : GSem nD τ sig) (_ : Unit) : ℕ :=
  match g.2 with
  | .reg _ => 1
  | .dma s => if 9 ≤ s.val ∧ s.val < 12 then 2 else if 15 ≤ s.val then 3 else 0

theorem L_of_ne (g : GSem nD τ sig) (h : g.1.2 ≠ .tc) : L g = ∅ := if_neg h
theorem L_tc (c : Dev nD) (sm : SemLoc sig) : L ((c : Thread nD τ), sm) = {()} := if_pos rfl

/-- The dues of a device all sit on tensor-core cells at level 1 or more; after the barrier at 2 or more; after the copies across z at 3. -/
def Above (n : ℕ) (O : CellTallies nD τ sig Unit) : Prop := ∀ g u, 0 < O g u → g.1.2 = .tc ∧ n ≤ lv g u

theorem Above.add {n : ℕ} {O O' : CellTallies nD τ sig Unit} (h : Above n O) (h' : Above n O') : Above n (O + O') := fun g u hg => by
  have hg' : 0 < O g u + O' g u := hg
  rcases Nat.eq_zero_or_pos (O g u) with h0 | h0
  · exact h' g u (by omega)
  · exact h g u h0
theorem Above.mono {n k : ℕ} (hk : k ≤ n) {O : CellTallies nD τ sig Unit} (h : Above n O) : Above k O := fun g u hg => ⟨(h g u hg).1, hk.trans (h g u hg).2⟩
theorem Above.zero {n : ℕ} : Above n 0 := fun g u hg => absurd hg (Nat.lt_irrefl 0)
theorem above_tally {n k : ℕ} (g : GSem nD τ sig) (hg : g.1.2 = .tc) (hl : n ≤ lv g ()) : Above n (tallyAt g () k) := fun g' u h => by
  rw [tallyAt_apply] at h
  by_cases e : g' = g ∧ u = ()
  · rw [e.1]; exact ⟨hg, hl⟩
  · rw [if_neg e] at h; exact absurd h (Nat.lt_irrefl 0)

theorem above_dma (c : Dev nD) (k n m : ℕ) (h : m < 18) (hl : n ≤ (if 9 ≤ m ∧ m < 12 then 2 else if 15 ≤ m then 3 else 0)) : Above n (tallyAt (dC c m h) () k) :=
  above_tally _ rfl hl
theorem above_bar (c : Dev nD) (k : ℕ) : Above 1 (tallyAt (barC c) () k) := above_tally _ rfl (Nat.le_refl 1)

theorem Oz_above (c : Dev nD) : Above 2 (Oz c) := by
  unfold Oz
  exact Above.add (Above.add (above_dma _ _ 2 11 _ (by decide)) (above_dma _ _ 2 10 _ (by decide))) (above_dma _ _ 2 9 _ (by decide))
theorem Op_above (c : Dev nD) : Above 3 (Op c) := by
  unfold Op
  exact Above.add (Above.add (above_dma _ _ 3 17 _ (by decide)) (above_dma _ _ 3 16 _ (by decide))) (above_dma _ _ 3 15 _ (by decide))
theorem Ob_above (c : Dev nD) : Above 1 (Ob c) := by
  unfold Ob
  exact Above.add (Above.add (Above.add (above_bar _ _) (above_bar _ _)) (above_bar _ _)) (above_bar _ _)
theorem O₀_above (c : Dev nD) : Above 1 (O₀ c) := (((Op_above c).mono (by decide)).add ((Oz_above c).mono (by decide))).add (Ob_above c)

/-- A core may wait on a cell below everything it owes. -/
theorem mayWait_of (c : Dev nD) (sm : SemLoc sig) (O : CellTallies nD τ sig Unit) (n : ℕ) (hs : lv ((c : Thread nD τ), sm) () ≤ n) (h : Above (n + 1) O) :
    (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => by
      have e : g = ((g.1.1 : Thread nD τ), g.2) := Prod.ext (Prod.ext rfl (h g u hg).1) rfl
      rw [e, L_tc]; exact Finset.mem_singleton_self _)
    (fun p hp => by rw [Finset.mem_singleton.mp hp]; exact hs)
    (fun g u hg => (h g u hg).2)

end Cert.KernelIdeal.Hand
end
-- ==== Proof.Ghost.lean ====
/-
  The ghost state of the protocol: cells, positions, tokens and credits a device holds between its grid points, and the
  memory facts about landing places.
-/
module

public import proofs.«01_k».proof.Proof.Gen.KernelIdeal.Launch
public import proofs.«01_k».proof.Proof.Gen.KernelIdeal.Skeleton
public import Idealize.ShloMosaic.Lib.Pipeline.Frame
public import Idealize.ShloMosaic.Lib.Tactic
public import Idealize.ShloMosaic.Lib.Transfers
public import Idealize.ShloMosaic.Lib.Rounds
public import Idealize.ShloMosaic.Lib.Ring
public import proofs.«01_k».proof.Proof.Step
public import proofs.«01_k».proof.Proof.Protocol
public import Idealize.ShloMosaic.Lib.Pipeline.FrameBody
public import Idealize.ShloMosaic.Lib.Pipeline.ValueKit

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.Rounds Idealize.ShloMosaic.Pipeline Idealize.ShloMosaic.Transfers Idealize.ShloMosaic.Ring
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ UU ℕ

variable (A : Sent F)

/-! ## Memory: a whole buffer through its own view; the three slots of the gather buffer -/

/-- A whole scratch buffer at contents not chosen. -/
abbrev hbAny (c : Dev nD) {sp : Space} {S : Shape} {e : EltTy} (M : Memref sig .tc sp S e) : sProp 𝕄 := iprop(∃ f, hbPt c M f)

theorem vPt_eq {S : Shape} {e : EltTy} (c : Dev nD) (M : Memref sig .tc .vmem S e) (hM : M.view.set = Finset.univ) (f : Buf (Elt F) (M.view.loc (c : Thread nD τ))) :
    (vPt c M f : sProp 𝕄) = hbPt c M f := by
  unfold vPt hbPt; rw [hM]

theorem anyPt_eq {S : Shape} {e : EltTy} (c : Dev nD) (M : Memref sig .tc .vmem S e) (hM : M.view.set = Finset.univ) :
    (anyPt c M : sProp 𝕄) = hbAny c M := by
  unfold anyPt hbAny; simp only [vPt_eq c M hM]

theorem ro_set : (roM : Memref sig .tc .vmem S1x32x8x128 .bf16).view.set = Finset.univ := View.set_whole _
theorem rm_set : (rmM : Memref sig .tc .vmem S1x8x32x1 .f32).view.set = Finset.univ := View.set_whole _
theorem rl_set : (rlM : Memref sig .tc .vmem S1x8x32x1 .f32).view.set = Finset.univ := View.set_whole _
theorem op_set : (opM : Memref sig .tc .vmem S1x32x8x128 .bf16).view.set = Finset.univ := View.set_whole _
theorem om_set : (omM : Memref sig .tc .vmem S1x8x32x1 .f32).view.set = Finset.univ := View.set_whole _
theorem ol_set : (olM : Memref sig .tc .vmem S1x8x32x1 .f32).view.set = Finset.univ := View.set_whole _
theorem co_set : (coM : Memref sig .tc .vmem S32x8x128 .bf16).view.set = Finset.univ := View.set_whole _

theorem inbAg (b : Fin 3) : ∀ a, (![b.val, 0, 0, 0] : Fin 4 → ℕ) a + S1x32x8x128.size a ≤ S3x32x8x128.size a := by revert b; decide
abbrev agOff (b : Fin 3) : Fin 4 → ℕ := ![b.val, 0, 0, 0]
abbrev agI (b : Fin 3) : Finset S3x32x8x128.Idx := (Rect.unit (s := S3x32x8x128) (agOff b) S1x32x8x128.size (inbAg b)).set
theorem agI_disj : ∀ b b', b ≠ b' → Disjoint (agI b) (agI b') :=
  lead_disjoint (s := S3x32x8x128) 0 1 agOff S1x32x8x128.size inbAg (by decide) (by decide)
theorem agI_cover : Finset.univ.biUnion agI = Finset.univ :=
  lead_cover (s := S3x32x8x128) 0 1 agOff S1x32x8x128.size inbAg (by decide) (by decide) (by decide) (by decide) (by decide)
theorem ag0_set : (ag0 : Memref sig .tc .vmem S32x8x128 .bf16).view.set = agI 0 := (View.set_reshape _ _).trans (View.set_slice_whole _ _)
theorem ag1_set : (ag1 : Memref sig .tc .vmem S32x8x128 .bf16).view.set = agI 1 := (View.set_reshape _ _).trans (View.set_slice_whole _ _)
theorem ag2_set : (ag2 : Memref sig .tc .vmem S32x8x128 .bf16).view.set = agI 2 := (View.set_reshape _ _).trans (View.set_slice_whole _ _)

theorem bigSep_fin3 (Φ : Fin 3 → sProp 𝕄) : bigSep Finset.univ Φ = iprop(Φ 0 ∗ Φ 1 ∗ Φ 2) :=
  bigSep_univ_eq_bigSepL ([0, 1, 2] : List (Fin 3)) (by decide) (by decide) _
theorem bigSep_fin4 (Φ : Fin 4 → sProp 𝕄) : bigSep Finset.univ Φ = iprop(Φ 0 ∗ Φ 1 ∗ Φ 2 ∗ Φ 3) :=
  bigSep_univ_eq_bigSepL ([0, 1, 2, 3] : List (Fin 4)) (by decide) (by decide) _

/-- The gather buffer splits into its three slots, -/
theorem ag_split (c : Dev nD) : (hbAny c agM : sProp 𝕄) ⊢ iprop(anyPt c ag0 ∗ anyPt c ag1 ∗ anyPt c ag2) := by
  unfold hbAny anyPt vPt
  rw [ag0_set, ag1_set, ag2_set]
  iintro ⟨%f, H⟩
  ihave H := (Entails.of_eq ((pointsTo_blocks (ℓ := agM.view.loc (c : Thread nD τ)) agI agI_disj agI_cover (q := fullShare) f).trans (bigSep_fin3 _))) $$ H
  icases H with ⟨H0, H1, H2⟩
  isplitl [H0]; · iexists f; iexact H0
  isplitl [H1]; · iexists f; iexact H1
  iexists f; iexact H2

/-- and is put together from them. -/
theorem ag_join (c : Dev nD) : iprop(anyPt c ag0 ∗ anyPt c ag1 ∗ anyPt c ag2) ⊢ (hbAny c agM : sProp 𝕄) := by
  unfold hbAny anyPt vPt
  rw [ag0_set, ag1_set, ag2_set]
  iintro ⟨⟨%f0, H0⟩, ⟨%f1, H1⟩, ⟨%f2, H2⟩⟩
  iapply (pointsTo_blocks_join (ℓ := agM.view.loc (c : Thread nD τ)) agI agI_disj agI_cover (q := fullShare)
    (fun b : Fin 3 => match b with | 0 => f0 | 1 => f1 | 2 => f2) f0)
  rw [bigSep_fin3]
  isplitl [H0]; · iexact H0
  isplitl [H1]; · iexact H1
  iexact H2

/-! ## Cells -/

/-- The kernel's own transfer semaphores, in order. -/
abbrev osem : Fin 12 → SemLoc sig := fun k => .dma ⟨k.val + 6, by have := k.isLt; show k.val + 6 < 18; omega⟩

theorem osem_inj : Function.Injective osem := by decide
theorem osem_ne_bar : ∀ k : Fin 12, osem k ≠ .reg barS := fun k h => by cases h

def barEmb : Dev nD ↪ GSem nD τ sig := ⟨fun c => barC c, fun _ _ h => congrArg (fun g : GSem nD τ sig => g.1.1) h⟩
def scEmb : Dev nD × Fin 12 ↪ GSem nD τ sig :=
  ⟨fun ck => ((ck.1 : Thread nD τ), osem ck.2), fun _ _ h =>
    Prod.ext (congrArg (fun g : GSem nD τ sig => g.1.1) h) (osem_inj (congrArg Prod.snd h))⟩

abbrev barCells : Finset (GSem nD τ sig) := Finset.univ.map barEmb
abbrev scCells : Finset (GSem nD τ sig) := Finset.univ.map scEmb

theorem bar_mem (c : Dev nD) : barC c ∈ (barCells ∪ scCells : Finset (GSem nD τ sig)) :=
  Finset.mem_union_left _ (Finset.mem_map_of_mem barEmb (Finset.mem_univ c))
theorem dma_mem (c : Dev nD) (n : ℕ) (h : n < 18) (hn : 6 ≤ n) : dC c n h ∈ (barCells ∪ scCells : Finset (GSem nD τ sig)) := by
  refine Finset.mem_union_right _ (Finset.mem_map.mpr ⟨(c, ⟨n - 6, by omega⟩), Finset.mem_univ _, ?_⟩)
  show ((c : Thread nD τ), osem ⟨n - 6, _⟩) = ((c : Thread nD τ), SemLoc.dma (dS n h))
  refine Prod.ext rfl (congrArg SemLoc.dma (Fin.ext ?_))
  show n - 6 + 6 = n; omega

/-- All the invariants, under one map of names. Persistent. -/
def allInv (K : GSem nD τ sig → ℕ) : sProp 𝕄 := bigSep (barCells ∪ scCells) fun g => cellInv ER (Rd A) (K g) g

instance allInv_persistent (K : GSem nD τ sig → ℕ) : BI.Persistent (allInv A K : sProp 𝕄) := by unfold allInv; infer_instance

theorem inv_bar (K : GSem nD τ sig → ℕ) (c : Dev nD) : (allInv A K : sProp 𝕄) ⊢ cellInv ER (Rd A) (K (barC c)) (barC c) := by
  unfold allInv; exact bigSep_elim (bar_mem c)
theorem inv_dma (K : GSem nD τ sig → ℕ) (c : Dev nD) (n : ℕ) (h : n < 18 := by decide) (hn : 6 ≤ n := by decide) :
    (allInv A K : sProp 𝕄) ⊢ cellInv ER (Rd A) (K (dC c n h)) (dC c n h) := by
  unfold allInv; exact bigSep_elim (dma_mem c n h hn)

theorem close (κ : ℕ) (g : GSem nD τ sig) :
    iprop(cellInv ER (Rd A) κ g ∗ atPos ER g (0 + 1) ∅ 0) ⊢ (|={Set.univ}=> semVal g 0 : sProp 𝕄) :=
  Rounds.cell_close ER (Rd A) (Set.mem_univ κ) id (duties_later A g)

/-! ## What a device holds -/

/-- Its position on its twelve transfer cells at the start. -/
def at12 (c : Dev nD) : sProp 𝕄 :=
  iprop(atPos ER (dC c 6) 0 ∅ 0 ∗ atPos ER (dC c 7) 0 ∅ 0 ∗ atPos ER (dC c 8) 0 ∅ 0 ∗ atPos ER (dC c 9) 0 ∅ 0 ∗ atPos ER (dC c 10) 0 ∅ 0 ∗ atPos ER (dC c 11) 0 ∅ 0 ∗ atPos ER (dC c 12) 0 ∅ 0 ∗ atPos ER (dC c 13) 0 ∅ 0 ∗ atPos ER (dC c 14) 0 ∅ 0 ∗ atPos ER (dC c 15) 0 ∅ 0 ∗ atPos ER (dC c 16) 0 ∅ 0 ∗ atPos ER (dC c 17) 0 ∅ 0)
/-- Those cells are open. -/
def re12 (c : Dev nD) : sProp 𝕄 :=
  iprop(reached ER (dC c 6) 0 ∗ reached ER (dC c 7) 0 ∗ reached ER (dC c 8) 0 ∗ reached ER (dC c 9) 0 ∗ reached ER (dC c 10) 0 ∗ reached ER (dC c 11) 0 ∗ reached ER (dC c 12) 0 ∗ reached ER (dC c 13) 0 ∗ reached ER (dC c 14) 0 ∗ reached ER (dC c 15) 0 ∗ reached ER (dC c 16) 0 ∗ reached ER (dC c 17) 0)
/-- The barrier round of every device is reached. -/
def reBar (c : Dev nD) : sProp 𝕄 :=
  iprop(reached ER (barC (pz c)) 0 ∗ reached ER (barC (px c)) 0 ∗ reached ER (barC (py c)) 0 ∗ reached ER (barC (pd c)) 0)

/-- The right to pay its peers' barriers, the transfers across z, the transfers of combined blocks. -/
def tokB (c : Dev nD) : sProp 𝕄 :=
  iprop(dutyTok ER (barC (pz c)) 0 0 ∗ dutyTok ER (barC (px c)) 0 1 ∗ dutyTok ER (barC (py c)) 0 2 ∗ dutyTok ER (barC (pd c)) 0 3)
def tokZ (c : Dev nD) : sProp 𝕄 :=
  iprop(dutyTok ER (dC c 6) 0 0 ∗ dutyTok ER (dC c 7) 0 0 ∗ dutyTok ER (dC c 8) 0 0
    ∗ dutyTok ER (dC (pz c) 9) 0 0 ∗ dutyTok ER (dC (pz c) 10) 0 0 ∗ dutyTok ER (dC (pz c) 11) 0 0)
def tokP (c : Dev nD) : sProp 𝕄 :=
  iprop(dutyTok ER (dC c 12) 0 0 ∗ dutyTok ER (dC c 13) 0 0 ∗ dutyTok ER (dC c 14) 0 0
    ∗ dutyTok ER (dC (px c) 15) 0 0 ∗ dutyTok ER (dC (py c) 16) 0 0 ∗ dutyTok ER (dC (pd c) 17) 0 0)

/-- The credit it waits with: at its barrier, at its six arrival cells. -/
def crB (c : Dev nD) : sProp 𝕄 := cred (tallyAt (barC c) () 4)
def crR (c : Dev nD) : sProp 𝕄 :=
  iprop(cred (tallyAt (dC c 9) () (dmaAmt 9)) ∗ cred (tallyAt (dC c 10) () (dmaAmt 10)) ∗ cred (tallyAt (dC c 11) () (dmaAmt 11))
    ∗ cred (tallyAt (dC c 15) () (dmaAmt 15)) ∗ cred (tallyAt (dC c 16) () (dmaAmt 16)) ∗ cred (tallyAt (dC c 17) () (dmaAmt 17)))

instance re12_persistent (c : Dev nD) : BI.Persistent (re12 c : sProp 𝕄) := by unfold re12; infer_instance
instance reBar_persistent (c : Dev nD) : BI.Persistent (reBar c : sProp 𝕄) := by unfold reBar; infer_instance

/-- Before the first point: everything but the buffers. -/
def ghostA (K : GSem nD τ sig → ℕ) (c : Dev nD) : sProp 𝕄 :=
  iprop(allInv A K ∗ reBar c ∗ re12 c ∗ atPos ER (barC c) 0 ∅ 0 ∗ at12 c ∗ tokB c ∗ tokZ c ∗ tokP c ∗ crB c ∗ crR c)

/-- What the four peers' barrier units brought: their landing places for this device's transfers. -/
def landings (c : Dev nD) : sProp 𝕄 := iprop(barPay c 0 ∗ barPay c 1 ∗ barPay c 2 ∗ barPay c 3)

/-- Between the barrier and the transfers. -/
def ghostB (K : GSem nD τ sig → ℕ) (c : Dev nD) : sProp 𝕄 :=
  iprop(allInv A K ∗ re12 c ∗ atPos ER (barC c) (0 + 1) ∅ 0 ∗ at12 c ∗ tokZ c ∗ tokP c ∗ crR c ∗ landings c)

abbrev 𝒱₀ : Variants := Variants.none

/-- A wait for the one transfer on cell `n`: what it brought comes with it. -/
theorem wait_dma (K : GSem nD τ sig → ℕ) (c : Dev nD) (n : ℕ) (h : n < 18) (hn : 6 ≤ n) (lvl : ℕ) (O : CellTallies nD τ sig Unit)
    (hs : lv (dC c n h) () ≤ lvl) (hO : Above (lvl + 1) O) (W : Waits sig Unit)
    {sp sp' : Space} {s s' : Shape} {e e' : EltTy} {src : Memref sig .tc sp' s' e'} {dst : Memref sig .tc sp s e}
    {hsrc : src.view.WordExact} {hdst : dst.view.WordExact} (hN : dst.view.dmaCredit = dmaAmt n)
    {α : Type} {k : PUnit → Prog (TpuEff nD τ sig (Elt F) Λ₀ .tc) α} {Q : α → sProp 𝕄} :
    iprop(allInv A K ∗ levAts L lv ∗ cred (tallyAt (dC c n h) () (dmaAmt n)) ∗ owes (c : Thread nD τ) O W ∗ atPos ER (dC c n h) 0 ∅ 0)
      ⊢ iprop(((∃ W', owes (c : Thread nD τ) O W') ∗ atPos ER (dC c n h) (0 + 1) ∅ 0 ∗ dmaPay A c n -∗ wp frame (wpE (defs₀ (F := F)) 𝒱₀ c none) Set.univ (k ⟨⟩) Q)
          -∗ wp frame (wpE (defs₀ (F := F)) 𝒱₀ c none) Set.univ (.op (.waitDma2 (dS n h) src dst hsrc hdst) k) Q) := by
  iintro ⟨#HI, #Hl, Hc, HO, Hat⟩ Hk
  iapply (Rounds.wp_wait_rest_token 𝒱₀ ER (Rd A) (c : Thread nD τ) none (κ := K (dC c n h))
      (wpE_waitDma2_eq 𝒱₀ (c : Thread nD τ) none Set.univ) (Set.mem_univ _) () (O := O) (W := W) (R := 0) (m := 0) (T := ∅)
      ((Nat.zero_add _).trans (hN.trans (expect_dma A c n h hn).symm))) $$ [Hc HO Hat]
  · isplitr; · iapply (inv_dma A K c n h hn); iexact HI
    rw [hN]
    isplitl [Hc]; · iexact Hc
    isplitl [HO]; · iexact HO
    isplitr; · iapply (mayWait_of c _ O lvl hs hO); iexact Hl
    iexact Hat
  iintro ⟨HO, Hat, -, Hp⟩
  iapply Hk
  isplitl [HO]; · iexists _; iexact HO
  isplitl [Hat]; · iexact Hat
  iapply (Entails.of_eq (rest_dma A c n h hn)) $$ Hp

end Cert.KernelIdeal.Hand
end
-- ==== Proof.FirstBody.lean ====
/-
  The kernel's body at the first grid point: accumulators set, the four peers told, the barrier passed, one flash step.
-/
module

public import proofs.«01_k».proof.Proof.Gen.KernelIdeal.Launch
public import proofs.«01_k».proof.Proof.Gen.KernelIdeal.Skeleton
public import Idealize.ShloMosaic.Lib.Pipeline.Frame
public import Idealize.ShloMosaic.Lib.Tactic
public import Idealize.ShloMosaic.Lib.Transfers
public import Idealize.ShloMosaic.Lib.Rounds
public import Idealize.ShloMosaic.Lib.Ring
public import Idealize.ShloMosaic.Lib.WritesUnit
public import proofs.«01_k».proof.Proof.Step
public import proofs.«01_k».proof.Proof.Protocol
public import proofs.«01_k».proof.Proof.Ghost
public import Idealize.ShloMosaic.Lib.Pipeline.FrameBody
public import Idealize.ShloMosaic.Lib.Pipeline.ValueKit

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.Rounds Idealize.ShloMosaic.Pipeline Idealize.ShloMosaic.Transfers Idealize.ShloMosaic.Ring
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ UU ℕ

variable (A : Sent F)

/-- One store through the whole shape leaves its payload. -/
theorem write_whole {S : Shape} {e : EltTy} {sp : Space} (v : View sig .tc sp S e) (f : v.ty.Contents (Elt F)) {off : Fin S.rank → Nat} (inb : ∀ a, off a + S.size a ≤ S.size a)
    (h : ∀ a, off a = 0) (w : S.Idx → Elt F e) :
    v.read (Elt F) (v.writes (Elt F) f [(⟨Rect.unit off (no_index S.size) inb, w⟩ : View.Piece (Elt F) S e)]) = w := by
  funext y
  exact View.read_writes_cons_unit_of_mem v f inb w [] y y rfl (fun a => by rw [h a, Nat.zero_add])

theorem init_mM (c : Dev nD) (f : Buf (Elt F) (mM.view.loc (c : Thread nD τ))) (inb : ∀ a, ![0, 0, 0] a + S8x32x1.size a ≤ S8x32x1.size a) :
    (hbPt c mM (mM.view.writes (Elt F) f [⟨Rect.unit ![0, 0, 0] S8x32x1.size inb,
      shapeCast S8x32x1 (broadcast S8x32x1 (FloatOps.ofBits FTy.f32 0xFF800000#32)) shapeCasts_S8x32x1_S8x32x1⟩]) : sProp 𝕄) ⊢ hbPt c mM (k0_pay6 (F := F)) :=
  Entails.of_eq (congrArg (fun f => (hbPt c mM f : sProp 𝕄)) (write_whole mM.view f inb (by decide) (k0_pay6 (F := F))))

theorem init_lM (c : Dev nD) (f : Buf (Elt F) (lM.view.loc (c : Thread nD τ))) (inb : ∀ a, ![0, 0, 0] a + S8x32x1.size a ≤ S8x32x1.size a) :
    (hbPt c lM (lM.view.writes (Elt F) f [⟨Rect.unit ![0, 0, 0] S8x32x1.size inb,
      shapeCast S8x32x1 (broadcast S8x32x1 (FloatOps.ofBits FTy.f32 0x00000000#32)) shapeCasts_S8x32x1_S8x32x1⟩]) : sProp 𝕄) ⊢ hbPt c lM (k0_pay7 (F := F)) :=
  Entails.of_eq (congrArg (fun f => (hbPt c lM f : sProp 𝕄)) (write_whole lM.view f inb (by decide) (k0_pay7 (F := F))))

theorem init_oM (c : Dev nD) (f : Buf (Elt F) (oM.view.loc (c : Thread nD τ))) (inb : ∀ a, ![0, 0, 0] a + S32x8x128.size a ≤ S32x8x128.size a) :
    (hbPt c oM (oM.view.writes (Elt F) f [⟨Rect.unit ![0, 0, 0] S32x8x128.size inb,
      shapeCast S32x8x128 (broadcast S32x8x128 (FloatOps.ofBits FTy.f32 0x00000000#32)) shapeCasts_S32x8x128_S32x8x128⟩]) : sProp 𝕄) ⊢ hbPt c oM (k0_pay8 (F := F)) :=
  Entails.of_eq (congrArg (fun f => (hbPt c oM f : sProp 𝕄)) (write_whole oM.view f inb (by decide) (k0_pay8 (F := F))))

theorem O₀_eq (c : Dev nD) : O₀ c = Op c + Oz c + tallyAt (barC (pd c)) () 1 + tallyAt (barC (py c)) () 1 + tallyAt (barC (px c)) () 1 + tallyAt (barC (pz c)) () 1 := by
  unfold O₀ Ob; simp only [add_assoc]

set_option maxHeartbeats 1000000 in
theorem firstRun (Kn : GSem nD τ sig → ℕ) (c : Dev nD) (W : Waits sig Unit) (i : grid0.Coords) (arg2 : Memref sig .tc .vmem S1x32x8x128 .f32) (harg2 : arg2.IsWhole) (arg3 : Memref sig .tc .vmem S1x1024x8x128 .f32) (harg3 : arg3.IsWhole) (arg4 : Memref sig .tc .vmem S1x1024x8x128 .f32) (harg4 : arg4.IsWhole) (arg5 : Memref sig .tc .vmem S4x32x8x128 .f32) (harg5 : arg5.IsWhole)
    (h1 : k0_cond1 i = 1#1) (h2 : ¬ k0_cond2 i = 1#1)
    (q : Buf (Elt F) (arg2.view.loc (c : Thread nD τ))) (k : Buf (Elt F) (arg3.view.loc (c : Thread nD τ))) (v : Buf (Elt F) (arg4.view.loc (c : Thread nD τ)))
    (O : Buf (Elt F) (oM.view.loc (c : Thread nD τ))) (M L' : Buf (Elt F) (mM.view.loc (c : Thread nD τ)))
    (kt vt : Buf (Elt F) (ktM.view.loc (c : Thread nD τ)))
    (K : PUnit → sProp 𝕄) :
    iprop(ghostA A Kn c ∗ levAts L lv ∗ hbAny c roM ∗ hbAny c rmM ∗ hbAny c rlM ∗ hbAny c agM ∗ owes (c : Thread nD τ) (O₀ c) W
        ∗ hbPt c arg2 q ∗ hbPt c arg3 k ∗ hbPt c arg4 v ∗ hbPt c oM O ∗ hbPt c mM M ∗ hbPt c lM L' ∗ hbPt c ktM kt ∗ hbPt c vtM vt
        ∗ ((ghostB A Kn c ∗ (∃ W', owes (c : Thread nD τ) (Op c + Oz c) W') ∗ hbPt c arg2 q ∗ hbPt c arg3 k ∗ hbPt c arg4 v
            ∗ eqPt c oM (stepO (arg2.view.read (Elt F) q) (arg3.view.read (Elt F) k) (arg4.view.read (Elt F) v) (k0_pay6 (F := F)) (k0_pay8 (F := F)))
            ∗ eqPt c mM (stepM (arg2.view.read (Elt F) q) (arg3.view.read (Elt F) k) (k0_pay6 (F := F)))
            ∗ eqPt c lM (stepL (arg2.view.read (Elt F) q) (arg3.view.read (Elt F) k) (k0_pay6 (F := F)) (k0_pay7 (F := F)))
            ∗ hbAny c ktM ∗ hbAny c vtM) -∗ K ⟨⟩))
      ⊢ wp frame (wpE (defs₀ (F := F)) Variants.none c none) Set.univ (bodyOf (F := F) i arg2 harg2 arg3 harg3 arg4 harg4 arg5 harg5) K := by
  unfold bodyOf
  simp only [cc0__body_eq_skeleton]; unfold cc0__body_skel
  unfold ghostA ghostB landings reBar tokB crB
  iintro ⟨⟨#HI, ⟨#Hrz, #Hrx, #Hry, #Hrd⟩, #Hr12, HaB, Hat, ⟨Htz, Htx, Hty, Htd⟩, HtZ, HtP, HcB, HcR⟩, #Hlev, Hro, Hrm, Hrl, Hag, HW, H2, H3, H4, HO, HM, HL, Hk, Hv, Hc⟩
  sl_exec_parts
  ihave Hg := (ag_split c) $$ Hag
  icases Hg with ⟨Hg0, Hg1, Hg2⟩
  unfold re12
  icases Hr12 with ⟨#Hr6, #Hr7, #Hr8, #Hr9, #Hr10, #Hr11, #Hr12, #Hr13, #Hr14, #Hr15, #Hr16, #Hr17⟩
  sl_unfold_words
  ihave HM := (init_mM c M _) $$ HM
  ihave HL := (init_lM c L' _) $$ HL
  ihave HO := (init_oM c O _) $$ HO
  rw [dev1_eq c]
  iapply (Rounds.wp_signal 𝒱₀ ER (Rd A) (c : Thread nD τ) none (dst := (pz c : Thread nD τ)) (sem := barS) (r := 0) (d := (0 : Fin 4)) (κ := Kn (barC (pz c)))
      (by rw [duties_bar]; exact Finset.mem_univ _) (amount_bar A (pz c) 0) () (Op c + Oz c + tallyAt (barC (pd c)) () 1 + tallyAt (barC (py c)) () 1 + tallyAt (barC (px c)) () 1) (O₀_eq c))
    $$ [HW Htz Hro Hrm Hrl]
  · isplitr; · iapply (inv_bar A Kn (pz c)); iexact HI
    isplitl [HW]; · iexact HW
    isplitl [Htz]; · iexact Htz
    isplitl [Hro Hrm Hrl]
    · rw [payload_bar]; unfold barPay; rw [pz_pz, anyPt_eq c roM ro_set, anyPt_eq c rmM rm_set, anyPt_eq c rlM rl_set]
      isplitl [Hro Hrm Hrl]
      · isplitl [Hro]; · iexact Hro
        isplitl [Hrm] <;> iassumption
      isplitr; · iexact Hr9
      isplitr; · iexact Hr10
      iexact Hr11
    iexact Hrz
  iintro HW
  sl_exec_parts
  rw [dev2_eq c]
  iapply (Rounds.wp_signal 𝒱₀ ER (Rd A) (c : Thread nD τ) none (dst := (px c : Thread nD τ)) (sem := barS) (r := 0) (d := (1 : Fin 4)) (κ := Kn (barC (px c)))
      (by rw [duties_bar]; exact Finset.mem_univ _) (amount_bar A (px c) 1) () (Op c + Oz c + tallyAt (barC (pd c)) () 1 + tallyAt (barC (py c)) () 1) rfl)
    $$ [HW Htx Hg0]
  · isplitr; · iapply (inv_bar A Kn (px c)); iexact HI
    isplitl [HW]; · iexact HW
    isplitl [Htx]; · iexact Htx
    isplitl [Hg0]
    · rw [payload_bar]; unfold barPay; rw [px_px]
      isplitl [Hg0]; · iexact Hg0
      iexact Hr15
    iexact Hrx
  iintro HW
  sl_exec_parts
  rw [dev3_eq c]
  iapply (Rounds.wp_signal 𝒱₀ ER (Rd A) (c : Thread nD τ) none (dst := (py c : Thread nD τ)) (sem := barS) (r := 0) (d := (2 : Fin 4)) (κ := Kn (barC (py c)))
      (by rw [duties_bar]; exact Finset.mem_univ _) (amount_bar A (py c) 2) () (Op c + Oz c + tallyAt (barC (pd c)) () 1) rfl)
    $$ [HW Hty Hg1]
  · isplitr; · iapply (inv_bar A Kn (py c)); iexact HI
    isplitl [HW]; · iexact HW
    isplitl [Hty]; · iexact Hty
    isplitl [Hg1]
    · rw [payload_bar]; unfold barPay; rw [py_py]
      isplitl [Hg1]; · iexact Hg1
      iexact Hr16
    iexact Hry
  iintro HW
  sl_exec_parts
  rw [dev4_eq c]
  iapply (Rounds.wp_signal 𝒱₀ ER (Rd A) (c : Thread nD τ) none (dst := (pd c : Thread nD τ)) (sem := barS) (r := 0) (d := (3 : Fin 4)) (κ := Kn (barC (pd c)))
      (by rw [duties_bar]; exact Finset.mem_univ _) (amount_bar A (pd c) 3) () (Op c + Oz c) rfl)
    $$ [HW Htd Hg2]
  · isplitr; · iapply (inv_bar A Kn (pd c)); iexact HI
    isplitl [HW]; · iexact HW
    isplitl [Htd]; · iexact Htd
    isplitl [Hg2]
    · rw [payload_bar]; unfold barPay; rw [pd_pd]
      isplitl [Hg2]; · iexact Hg2
      iexact Hr17
    iexact Hrd
  iintro HW
  sl_exec_parts
  iapply (Rounds.wp_wait_rest_token 𝒱₀ ER (Rd A) (c : Thread nD τ) none (κ := Kn (barC c))
      (wpE_semWait_eq 𝒱₀ (c : Thread nD τ) none Set.univ) (Set.mem_univ _) () (O := Op c + Oz c) (W := W) (R := 0) (m := 0) (T := ∅)
      ((Nat.zero_add 4).trans (expect_bar A c).symm)) $$ [HcB HW HaB]
  · isplitr; · iapply (inv_bar A Kn c); iexact HI
    isplitl [HcB]; · iexact HcB
    isplitl [HW]; · iexact HW
    isplitr; · iapply (mayWait_of c (.reg barS) (Op c + Oz c) 1 (Nat.le_refl 1) (((Op_above c).mono (by decide)).add (Oz_above c))); iexact Hlev
    iexact HaB
  iintro ⟨HW, HaB, -, Hpay⟩
  ihave Hpay := (Entails.of_eq (rest_bar A c)) $$ Hpay
  sl_exec_parts
  sl_unfold_words
  sl_step
  iapply Hc
  isplitl [HaB Hat HtZ HtP HcR Hpay]
  · isplitr; · iexact HI
    isplitr
    · isplitr; · iexact Hr6
      isplitr; · iexact Hr7
      isplitr; · iexact Hr8
      isplitr; · iexact Hr9
      isplitr; · iexact Hr10
      isplitr; · iexact Hr11
      isplitr; · iexact Hr12
      isplitr; · iexact Hr13
      isplitr; · iexact Hr14
      isplitr; · iexact Hr15
      isplitr; · iexact Hr16
      iexact Hr17
    isplitl [HaB]; · iexact HaB
    isplitl [Hat]; · iexact Hat
    isplitl [HtZ]; · iexact HtZ
    isplitl [HtP]; · iexact HtP
    isplitl [HcR]; · iexact HcR
    iexact Hpay
  isplitl [HW]; · iexists _; iexact HW
  isplitl [H2]; · iexact H2
  isplitl [H3]; · iexact H3
  isplitl [H4]; · iexact H4
  isplitl [HO]
  · iexists _; isplitr; swap; · iexact HO
    ipureintro
    simp -proj only [readCov_kt, readCov_vt, readAt_block, headO1, headO2, headO3, headO4, headO5, headO6, headO7]
    refine Eq.trans ?_ (canon_rO _ (headO (arg2.view.read (Elt F) q) (arg3.view.read (Elt F) k) (arg4.view.read (Elt F) v) (k0_pay6 (F := F)) (k0_pay8 (F := F))) (fun h x => (stepO_at _ _ _ _ _ h x).symm) (k0_pay8 (F := F)))
    rfl
  isplitl [HM]
  · iexists _; isplitr; swap; · iexact HM
    ipureintro
    simp -proj only [readCov_kt, readCov_vt, readAt_block, headM1, headM2, headM3, headM4, headM5, headM6, headM7]
    refine Eq.trans ?_ (canon_rM _ (headM (arg2.view.read (Elt F) q) (arg3.view.read (Elt F) k) (k0_pay6 (F := F))) (fun h x => (stepM_at _ _ _ h x).symm) (k0_pay6 (F := F)))
    rfl
  isplitl [HL]
  · iexists _; isplitr; swap; · iexact HL
    ipureintro
    simp -proj only [readCov_kt, readCov_vt, readAt_block, headL1, headL2, headL3, headL4, headL5, headL6, headL7]
    refine Eq.trans ?_ (canon_rL _ (headL (arg2.view.read (Elt F) q) (arg3.view.read (Elt F) k) (k0_pay6 (F := F)) (k0_pay7 (F := F))) (fun h x => (stepL_at _ _ _ _ h x).symm) (k0_pay7 (F := F)))
    rfl
  isplitl [Hk]; · iexists _; iexact Hk
  iexists _; iexact Hv

end Cert.KernelIdeal.Hand
end
-- ==== Proof.MidBody.lean ====
/-
  The kernel's body at a middle grid point: one flash step.
-/
module

public import proofs.«01_k».proof.Proof.Gen.KernelIdeal.Launch
public import proofs.«01_k».proof.Proof.Gen.KernelIdeal.Skeleton
public import Idealize.ShloMosaic.Lib.Pipeline.Frame
public import Idealize.ShloMosaic.Lib.Tactic
public import Idealize.ShloMosaic.Lib.Transfers
public import Idealize.ShloMosaic.Lib.Rounds
public import Idealize.ShloMosaic.Lib.Ring
public import proofs.«01_k».proof.Proof.Step
public import proofs.«01_k».proof.Proof.Protocol
public import proofs.«01_k».proof.Proof.Ghost
public import Idealize.ShloMosaic.Lib.Pipeline.FrameBody
public import Idealize.ShloMosaic.Lib.Pipeline.ValueKit

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.Rounds Idealize.ShloMosaic.Pipeline Idealize.ShloMosaic.Transfers Idealize.ShloMosaic.Ring
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ UU ℕ

theorem midRun (c : Dev nD) (i : grid0.Coords) (arg2 : Memref sig .tc .vmem S1x32x8x128 .f32) (harg2 : arg2.IsWhole) (arg3 : Memref sig .tc .vmem S1x1024x8x128 .f32) (harg3 : arg3.IsWhole) (arg4 : Memref sig .tc .vmem S1x1024x8x128 .f32) (harg4 : arg4.IsWhole) (arg5 : Memref sig .tc .vmem S4x32x8x128 .f32) (harg5 : arg5.IsWhole)
    (h1 : ¬ k0_cond1 i = 1#1) (h2 : ¬ k0_cond2 i = 1#1)
    (q : Buf (Elt F) (arg2.view.loc (c : Thread nD τ))) (k : Buf (Elt F) (arg3.view.loc (c : Thread nD τ))) (v : Buf (Elt F) (arg4.view.loc (c : Thread nD τ)))
    (O : Buf (Elt F) (oM.view.loc (c : Thread nD τ))) (M L : Buf (Elt F) (mM.view.loc (c : Thread nD τ)))
    (kt vt : Buf (Elt F) (ktM.view.loc (c : Thread nD τ)))
    (K : PUnit → sProp 𝕄) :
    iprop(hbPt c arg2 q ∗ hbPt c arg3 k ∗ hbPt c arg4 v ∗ hbPt c oM O ∗ hbPt c mM M ∗ hbPt c lM L ∗ hbPt c ktM kt ∗ hbPt c vtM vt
        ∗ ((hbPt c arg2 q ∗ hbPt c arg3 k ∗ hbPt c arg4 v
            ∗ eqPt c oM (stepO (arg2.view.read (Elt F) q) (arg3.view.read (Elt F) k) (arg4.view.read (Elt F) v) M O)
            ∗ eqPt c mM (stepM (arg2.view.read (Elt F) q) (arg3.view.read (Elt F) k) M)
            ∗ eqPt c lM (stepL (arg2.view.read (Elt F) q) (arg3.view.read (Elt F) k) M L)
            ∗ hbAny c ktM ∗ hbAny c vtM) -∗ K ⟨⟩))
      ⊢ wp frame (wpE (defs₀ (F := F)) Variants.none c none) Set.univ (bodyOf (F := F) i arg2 harg2 arg3 harg3 arg4 harg4 arg5 harg5) K := by
  unfold bodyOf
  simp only [cc0__body_eq_skeleton]; unfold cc0__body_skel
  iintro ⟨H2, H3, H4, HO, HM, HL, Hk, Hv, Hc⟩
  sl_exec_parts
  sl_unfold_words
  sl_step
  iapply Hc
  isplitl [H2]; · iexact H2
  isplitl [H3]; · iexact H3
  isplitl [H4]; · iexact H4
  isplitl [HO]
  · iexists _; isplitr; swap; · iexact HO
    ipureintro
    simp -proj only [readCov_kt, readCov_vt, readAt_block, headO1, headO2, headO3, headO4, headO5, headO6, headO7]
    refine Eq.trans ?_ (canon_rO _ (headO (arg2.view.read (Elt F) q) (arg3.view.read (Elt F) k) (arg4.view.read (Elt F) v) M O) (fun h x => (stepO_at _ _ _ _ _ h x).symm) O)
    rfl
  isplitl [HM]
  · iexists _; isplitr; swap; · iexact HM
    ipureintro
    simp -proj only [readCov_kt, readCov_vt, readAt_block, headM1, headM2, headM3, headM4, headM5, headM6, headM7]
    refine Eq.trans ?_ (canon_rM _ (headM (arg2.view.read (Elt F) q) (arg3.view.read (Elt F) k) M) (fun h x => (stepM_at _ _ _ h x).symm) M)
    rfl
  isplitl [HL]
  · iexists _; isplitr; swap; · iexact HL
    ipureintro
    simp -proj only [readCov_kt, readCov_vt, readAt_block, headL1, headL2, headL3, headL4, headL5, headL6, headL7]
    refine Eq.trans ?_ (canon_rL _ (headL (arg2.view.read (Elt F) q) (arg3.view.read (Elt F) k) M L) (fun h x => (stepL_at _ _ _ _ h x).symm) L)
    rfl
  unfold hbAny
  isplitl [Hk]; · iexists _; iexact Hk
  iexists _; iexact Hv

end Cert.KernelIdeal.Hand
end
-- ==== Proof.Comb.lean ====
/-
  What the last grid point packs and combines: the normalised accumulators in their sending layout, the two weights, the combined
  block; and the stores, two heads at a time, that put them in place.
-/
module

public import proofs.«01_k».proof.Proof.Gen.KernelIdeal.Launch
public import proofs.«01_k».proof.Proof.Gen.KernelIdeal.Skeleton
public import Idealize.ShloMosaic.Lib.Pipeline.Frame
public import Idealize.ShloMosaic.Lib.Tactic
public import Idealize.ShloMosaic.Lib.Transfers
public import Idealize.ShloMosaic.Lib.Rounds
public import Idealize.ShloMosaic.Lib.Ring
public import Idealize.ShloMosaic.Lib.WritesUnit
public import Idealize.ShloMosaic.Lib.Bf16PairRect
public import proofs.«01_k».proof.Proof.Step
public import proofs.«01_k».proof.Proof.Protocol
public import proofs.«01_k».proof.Proof.Ghost
public import Idealize.ShloMosaic.Lib.Pipeline.FrameBody
public import Idealize.ShloMosaic.Lib.Pipeline.ValueKit

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.Rounds Idealize.ShloMosaic.Pipeline Idealize.ShloMosaic.Transfers Idealize.ShloMosaic.Ring
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ UU ℕ

theorem inbP (p : Fin 4) : ∀ a, (![0, 0, 2 * p.val, 0] : Fin 4 → ℕ) a + S1x32x2x128.size a ≤ S1x32x8x128.size a := by revert p; decide
theorem inbC (p : Fin 4) : ∀ a, (![0, 2 * p.val, 0] : Fin 3 → ℕ) a + S32x2x128.size a ≤ S32x8x128.size a := by revert p; decide

/-- Heads `2 p` and `2 p + 1` of a packed block, and of a combined block. -/
abbrev rP (p : Fin 4) : Rect S1x32x8x128 := Rect.unit (s := S1x32x8x128) ![0, 0, 2 * p.val, 0] S1x32x2x128.size (inbP p)
abbrev rC (p : Fin 4) : Rect S32x8x128 := Rect.unit (s := S32x8x128) ![0, 2 * p.val, 0] S32x2x128.size (inbC p)

/-- Two heads side by side, packed and combined. -/
def pairP {α : Type} (a b : S1x32x1x128.Idx → α) : S1x32x2x128.Idx → α := fun j =>
  if (j 2).val = 0 then a (fun k => match k with | 0 => (0 : Fin 1) | 1 => (j 1 : Fin 32) | 2 => (0 : Fin 1) | 3 => (j 3 : Fin 128))
  else b (fun k => match k with | 0 => (0 : Fin 1) | 1 => (j 1 : Fin 32) | 2 => (0 : Fin 1) | 3 => (j 3 : Fin 128))
def pairC {α : Type} (a b : S32x1x128.Idx → α) : S32x2x128.Idx → α := fun j =>
  if (j 1).val = 0 then a (fun k => match k with | 0 => (j 0 : Fin 32) | 1 => (0 : Fin 1) | 2 => (j 2 : Fin 128))
  else b (fun k => match k with | 0 => (j 0 : Fin 32) | 1 => (0 : Fin 1) | 2 => (j 2 : Fin 128))

/-- Eight heads as one block, packed and combined. -/
def packP {α : Type} (H : Fin 8 → S1x32x1x128.Idx → α) : S1x32x8x128.Idx → α := fun j =>
  H (j 2) (fun k => match k with | 0 => (0 : Fin 1) | 1 => (j 1 : Fin 32) | 2 => (0 : Fin 1) | 3 => (j 3 : Fin 128))
def packC {α : Type} (H : Fin 8 → S32x1x128.Idx → α) : S32x8x128.Idx → α := fun j =>
  H (j 1) (fun k => match k with | 0 => (j 0 : Fin 32) | 1 => (0 : Fin 1) | 2 => (j 2 : Fin 128))

/-- The even and the odd head of a pair. -/
def evH (p : Fin 4) : Fin 8 := ⟨2 * p.val, by omega⟩
def odH (p : Fin 4) : Fin 8 := ⟨2 * p.val + 1, by omega⟩

theorem pairP_pack {α : Type} (H : Fin 8 → S1x32x1x128.Idx → α) (p : Fin 4) (x : S1x32x2x128.Idx) :
    pairP (H (evH p)) (H (odH p)) x = packP H ((rP p).emb x) := by
  have hx : (x 2).val < 2 := (x 2).isLt
  have e1 : ((rP p).emb x 1 : Fin 32) = x 1 := Fin.ext (by show 0 + 1 * (x 1).val = _; omega)
  have e3 : ((rP p).emb x 3 : Fin 128) = x 3 := Fin.ext (by show 0 + 1 * (x 3).val = _; omega)
  unfold pairP packP
  rw [e1, e3]
  by_cases h0 : (x 2).val = 0
  · have e2 : ((rP p).emb x 2 : Fin 8) = evH p := Fin.ext (by show 2 * p.val + 1 * (x 2).val = 2 * p.val; omega)
    rw [if_pos h0, e2]
  · have e2 : ((rP p).emb x 2 : Fin 8) = odH p := Fin.ext (by show 2 * p.val + 1 * (x 2).val = 2 * p.val + 1; omega)
    rw [if_neg h0, e2]

theorem pairC_pack {α : Type} (H : Fin 8 → S32x1x128.Idx → α) (p : Fin 4) (x : S32x2x128.Idx) :
    pairC (H (evH p)) (H (odH p)) x = packC H ((rC p).emb x) := by
  have hx : (x 1).val < 2 := (x 1).isLt
  have e1 : ((rC p).emb x 0 : Fin 32) = x 0 := Fin.ext (by show 0 + 1 * (x 0).val = _; omega)
  have e3 : ((rC p).emb x 2 : Fin 128) = x 2 := Fin.ext (by show 0 + 1 * (x 2).val = _; omega)
  unfold pairC packC
  rw [e1, e3]
  by_cases h0 : (x 1).val = 0
  · have e2 : ((rC p).emb x 1 : Fin 8) = evH p := Fin.ext (by show 2 * p.val + 1 * (x 1).val = 2 * p.val; omega)
    rw [if_pos h0, e2]
  · have e2 : ((rC p).emb x 1 : Fin 8) = odH p := Fin.ext (by show 2 * p.val + 1 * (x 1).val = 2 * p.val + 1; omega)
    rw [if_neg h0, e2]

/-- Two heads put into a pair one after the other leave the two side by side. -/
theorem pairP_upd {α : Type} (old : S1x32x2x128.Idx → α) (a b : S1x32x1x128.Idx → α) (ha : S1x32x2x128.Slices ![0, 0, 0, 0] S1x32x1x128) (hb : S1x32x2x128.Slices ![0, 0, 1, 0] S1x32x1x128) :
    updateSlice (updateSlice old a ![0, 0, 0, 0] ha) b ![0, 0, 1, 0] hb = pairP a b := by
  funext j
  have h0 : (j 0).val < 1 := (j 0).isLt
  have h1 : (j 1).val < 32 := (j 1).isLt
  have h2 : (j 2).val < 2 := (j 2).isLt
  have h3 : (j 3).val < 128 := (j 3).isLt
  unfold pairP
  by_cases h : (j 2).val = 0
  · rw [if_pos h]
    unfold updateSlice
    rw [dif_neg (fun hh => by have := (hh 2).1; change 1 ≤ (j 2).val at this; omega)]
    rw [dif_pos (fun k => by
      match k with
      | 0 => exact ⟨Nat.zero_le _, by show (j 0).val < 0 + 1; omega⟩
      | 1 => exact ⟨Nat.zero_le _, by show (j 1).val < 0 + 32; omega⟩
      | 2 => exact ⟨Nat.zero_le _, by show (j 2).val < 0 + 1; omega⟩
      | 3 => exact ⟨Nat.zero_le _, by show (j 3).val < 0 + 128; omega⟩)]
    congr 1
    funext k
    match k with
    | 0 => exact Fin.ext (by show (j 0).val - 0 = 0; omega)
    | 1 => exact Fin.ext (by show (j 1).val - 0 = (j 1).val; omega)
    | 2 => exact Fin.ext (by show (j 2).val - 0 = 0; omega)
    | 3 => exact Fin.ext (by show (j 3).val - 0 = (j 3).val; omega)
  · rw [if_neg h]
    unfold updateSlice
    rw [dif_pos (fun k => by
      match k with
      | 0 => exact ⟨Nat.zero_le _, by show (j 0).val < 0 + 1; omega⟩
      | 1 => exact ⟨Nat.zero_le _, by show (j 1).val < 0 + 32; omega⟩
      | 2 => exact ⟨by show 1 ≤ (j 2).val; omega, by show (j 2).val < 1 + 1; omega⟩
      | 3 => exact ⟨Nat.zero_le _, by show (j 3).val < 0 + 128; omega⟩)]
    congr 1
    funext k
    match k with
    | 0 => exact Fin.ext (by show (j 0).val - 0 = 0; omega)
    | 1 => exact Fin.ext (by show (j 1).val - 0 = (j 1).val; omega)
    | 2 => exact Fin.ext (by show (j 2).val - 1 = 0; omega)
    | 3 => exact Fin.ext (by show (j 3).val - 0 = (j 3).val; omega)

theorem pairC_upd {α : Type} (old : S32x2x128.Idx → α) (a b : S32x1x128.Idx → α) (ha : S32x2x128.Slices ![0, 0, 0] S32x1x128) (hb : S32x2x128.Slices ![0, 1, 0] S32x1x128) :
    updateSlice (updateSlice old a ![0, 0, 0] ha) b ![0, 1, 0] hb = pairC a b := by
  funext j
  have h1 : (j 0).val < 32 := (j 0).isLt
  have h2 : (j 1).val < 2 := (j 1).isLt
  have h3 : (j 2).val < 128 := (j 2).isLt
  unfold pairC
  by_cases h : (j 1).val = 0
  · rw [if_pos h]
    unfold updateSlice
    rw [dif_neg (fun hh => by have := (hh 1).1; change 1 ≤ (j 1).val at this; omega)]
    rw [dif_pos (fun k => by
      match k with
      | 0 => exact ⟨Nat.zero_le _, by show (j 0).val < 0 + 32; omega⟩
      | 1 => exact ⟨Nat.zero_le _, by show (j 1).val < 0 + 1; omega⟩
      | 2 => exact ⟨Nat.zero_le _, by show (j 2).val < 0 + 128; omega⟩)]
    congr 1
    funext k
    match k with
    | 0 => exact Fin.ext (by show (j 0).val - 0 = (j 0).val; omega)
    | 1 => exact Fin.ext (by show (j 1).val - 0 = 0; omega)
    | 2 => exact Fin.ext (by show (j 2).val - 0 = (j 2).val; omega)
  · rw [if_neg h]
    unfold updateSlice
    rw [dif_pos (fun k => by
      match k with
      | 0 => exact ⟨Nat.zero_le _, by show (j 0).val < 0 + 32; omega⟩
      | 1 => exact ⟨by show 1 ≤ (j 1).val; omega, by show (j 1).val < 1 + 1; omega⟩
      | 2 => exact ⟨Nat.zero_le _, by show (j 2).val < 0 + 128; omega⟩)]
    congr 1
    funext k
    match k with
    | 0 => exact Fin.ext (by show (j 0).val - 0 = (j 0).val; omega)
    | 1 => exact Fin.ext (by show (j 1).val - 1 = 0; omega)
    | 2 => exact Fin.ext (by show (j 2).val - 0 = (j 2).val; omega)

/-- The second store of a pair, which puts its head into what the first left. -/
theorem pairP_cov (v : View sig .tc .vmem S1x32x8x128 .bf16) {off : Fin 4 → ℕ} (inb : ∀ a, off a + S1x32x2x128.size a ≤ S1x32x8x128.size a)
    (old : (Rect.unit (s := S1x32x8x128) off S1x32x2x128.size inb).toLoadRect.shape.Idx → Elt F .bf16) (a b : Vec F S1x32x1x128 .bf16) (ha : S1x32x2x128.Slices ![0, 0, 0, 0] S1x32x1x128) (hb : S1x32x2x128.Slices ![0, 0, 1, 0] S1x32x1x128)
    (L : List (View.Piece (Elt F) S1x32x8x128 .bf16)) :
    updateSlice (s := (Rect.unit (s := S1x32x8x128) off S1x32x2x128.size inb).toLoadRect.shape) (v.readCov ((⟨Rect.unit (s := S1x32x8x128) off S1x32x2x128.size inb, updateSlice (s := (Rect.unit (s := S1x32x8x128) off S1x32x2x128.size inb).toLoadRect.shape) old a ![0, 0, 0, 0] ha⟩ : View.Piece (Elt F) S1x32x8x128 .bf16) :: L) (Rect.unit (s := S1x32x8x128) off S1x32x2x128.size inb).toLoadRect) b ![0, 0, 1, 0] hb
      = pairP a b := by
  rw [View.readCov_cons_toLoadRect]
  exact pairP_upd old a b ha hb

theorem pairC_cov (v : View sig .tc .vmem S32x8x128 .bf16) {off : Fin 3 → ℕ} (inb : ∀ a, off a + S32x2x128.size a ≤ S32x8x128.size a)
    (old : (Rect.unit (s := S32x8x128) off S32x2x128.size inb).toLoadRect.shape.Idx → Elt F .bf16) (a b : Vec F S32x1x128 .bf16) (ha : S32x2x128.Slices ![0, 0, 0] S32x1x128) (hb : S32x2x128.Slices ![0, 1, 0] S32x1x128)
    (L : List (View.Piece (Elt F) S32x8x128 .bf16)) :
    updateSlice (s := (Rect.unit (s := S32x8x128) off S32x2x128.size inb).toLoadRect.shape) (v.readCov ((⟨Rect.unit (s := S32x8x128) off S32x2x128.size inb, updateSlice (s := (Rect.unit (s := S32x8x128) off S32x2x128.size inb).toLoadRect.shape) old a ![0, 0, 0] ha⟩ : View.Piece (Elt F) S32x8x128 .bf16) :: L) (Rect.unit (s := S32x8x128) off S32x2x128.size inb).toLoadRect) b ![0, 1, 0] hb
      = pairC a b := by
  rw [View.readCov_cons_toLoadRect]
  exact pairC_upd old a b ha hb

/-- A store made again through the same rectangle hides the earlier one. -/
theorem canon_cons_same {S : Shape} {e : EltTy} (r : Rect S) (w w' : r.shape.Idx → Elt F e) (L : List (View.Piece (Elt F) S e)) :
    View.canon ((⟨r, w⟩ : View.Piece (Elt F) S e) :: ⟨r, w'⟩ :: L) = View.canon ((⟨r, w⟩ : View.Piece (Elt F) S e) :: L) := by
  funext y
  by_cases h : y ∈ r.set
  · obtain ⟨x, rfl⟩ := r.exists_idx_of_mem h
    exact (View.canon_cons_emb r w _ x).trans (View.canon_cons_emb r w _ x).symm
  · rw [View.canon_cons_of_not_mem (⟨r, w⟩ : View.Piece (Elt F) S e) _ h, View.canon_cons_of_not_mem (⟨r, w'⟩ : View.Piece (Elt F) S e) _ h,
      View.canon_cons_of_not_mem (⟨r, w⟩ : View.Piece (Elt F) S e) _ h]

theorem canon_cons_congr {S : Shape} {e : EltTy} (p : View.Piece (Elt F) S e) {L L' : List (View.Piece (Elt F) S e)} (h : View.canon L = View.canon L') :
    View.canon (p :: L) = View.canon (p :: L') := by
  rw [View.canon_cons, View.canon_cons, h]

set_option maxHeartbeats 1000000 in
/-- Eight stores, two per pair of heads, last pair first, the later of each two the pair's slab of `G`, leave `G`. -/
theorem canon_rP (G : Vec F S1x32x8x128 .bf16) (w w' : Fin 4 → S1x32x2x128.Idx → Elt F .bf16) (hw : ∀ p x, w p x = G ((rP p).emb x))
    (f : (opM : Memref sig .tc .vmem S1x32x8x128 .bf16).view.ty.Contents (Elt F)) :
    opM.view.writes (Elt F) f [⟨rP 3, w 3⟩, ⟨rP 3, w' 3⟩, ⟨rP 2, w 2⟩, ⟨rP 2, w' 2⟩, ⟨rP 1, w 1⟩, ⟨rP 1, w' 1⟩, ⟨rP 0, w 0⟩, ⟨rP 0, w' 0⟩] = G := by
  have hc : ∀ y : S1x32x8x128.Idx, ∃ p : Fin 4, y ∈ (rP p).set := by
    intro y
    refine ⟨⟨(y 2).val / 2, by have : (y 2).val < 8 := (y 2).isLt; omega⟩, ?_⟩
    rw [Rect.mem_set_unit]
    intro a
    match a with
    | 0 => exact ⟨Nat.zero_le _, by have : (y 0).val < 1 := (y 0).isLt; exact (Nat.zero_add 1).symm ▸ this⟩
    | 1 => exact ⟨Nat.zero_le _, by have : (y 1).val < 32 := (y 1).isLt; exact (Nat.zero_add 32).symm ▸ this⟩
    | 2 => exact ⟨by show 2 * ((y 2).val / 2) ≤ (y 2).val; omega, by show (y 2).val < 2 * ((y 2).val / 2) + 2; omega⟩
    | 3 => exact ⟨Nat.zero_le _, by have : (y 3).val < 128 := (y 3).isLt; exact (Nat.zero_add 128).symm ▸ this⟩
  have hcov1 : ∀ y : S1x32x8x128.Idx, ∃ p ∈ ([⟨rP 3, w 3⟩, ⟨rP 2, w 2⟩, ⟨rP 1, w 1⟩, ⟨rP 0, w 0⟩] : List (View.Piece (Elt F) S1x32x8x128 .bf16)), y ∈ p.1.set := by
    intro y
    obtain ⟨h, hh⟩ := hc y
    refine ⟨(⟨rP h, w h⟩ : View.Piece (Elt F) S1x32x8x128 .bf16), ?_, hh⟩
    clear hh
    fin_cases h <;> simp
  have hcov : ∀ y : S1x32x8x128.Idx, ∃ p ∈ ([⟨rP 3, w 3⟩, ⟨rP 3, w' 3⟩, ⟨rP 2, w 2⟩, ⟨rP 2, w' 2⟩, ⟨rP 1, w 1⟩, ⟨rP 1, w' 1⟩, ⟨rP 0, w 0⟩, ⟨rP 0, w' 0⟩] : List (View.Piece (Elt F) S1x32x8x128 .bf16)), y ∈ p.1.set := by
    intro y
    obtain ⟨h, hh⟩ := hc y
    refine ⟨(⟨rP h, w h⟩ : View.Piece (Elt F) S1x32x8x128 .bf16), ?_, hh⟩
    clear hh
    fin_cases h <;> simp
  have e := View.read_writes_eq_canon (opM : Memref sig .tc .vmem S1x32x8x128 .bf16).view f _ hcov
  refine Eq.trans e ?_
  refine Eq.trans ((canon_cons_same _ _ _ _).trans (canon_cons_congr _ ((canon_cons_same _ _ _ _).trans (canon_cons_congr _ ((canon_cons_same _ _ _ _).trans (canon_cons_congr _ (canon_cons_same _ _ _ _))))))) ?_
  funext y
  refine View.canon_apply_of_pieces G _ ?_ y (hcov1 y)
  simp only [List.mem_cons, List.not_mem_nil, _root_.or_false]
  rintro p (rfl | rfl | rfl | rfl) <;> exact hw _

set_option maxHeartbeats 1000000 in
/-- The same of the combined block. -/
theorem canon_rC (G : Vec F S32x8x128 .bf16) (w w' : Fin 4 → S32x2x128.Idx → Elt F .bf16) (hw : ∀ p x, w p x = G ((rC p).emb x))
    (f : (coM : Memref sig .tc .vmem S32x8x128 .bf16).view.ty.Contents (Elt F)) :
    coM.view.writes (Elt F) f [⟨rC 3, w 3⟩, ⟨rC 3, w' 3⟩, ⟨rC 2, w 2⟩, ⟨rC 2, w' 2⟩, ⟨rC 1, w 1⟩, ⟨rC 1, w' 1⟩, ⟨rC 0, w 0⟩, ⟨rC 0, w' 0⟩] = G := by
  have hc : ∀ y : S32x8x128.Idx, ∃ p : Fin 4, y ∈ (rC p).set := by
    intro y
    refine ⟨⟨(y 1).val / 2, by have : (y 1).val < 8 := (y 1).isLt; omega⟩, ?_⟩
    rw [Rect.mem_set_unit]
    intro a
    match a with
    | 0 => exact ⟨Nat.zero_le _, by have : (y 0).val < 32 := (y 0).isLt; exact (Nat.zero_add 32).symm ▸ this⟩
    | 1 => exact ⟨by show 2 * ((y 1).val / 2) ≤ (y 1).val; omega, by show (y 1).val < 2 * ((y 1).val / 2) + 2; omega⟩
    | 2 => exact ⟨Nat.zero_le _, by have : (y 2).val < 128 := (y 2).isLt; exact (Nat.zero_add 128).symm ▸ this⟩
  have hcov1 : ∀ y : S32x8x128.Idx, ∃ p ∈ ([⟨rC 3, w 3⟩, ⟨rC 2, w 2⟩, ⟨rC 1, w 1⟩, ⟨rC 0, w 0⟩] : List (View.Piece (Elt F) S32x8x128 .bf16)), y ∈ p.1.set := by
    intro y
    obtain ⟨h, hh⟩ := hc y
    refine ⟨(⟨rC h, w h⟩ : View.Piece (Elt F) S32x8x128 .bf16), ?_, hh⟩
    clear hh
    fin_cases h <;> simp
  have hcov : ∀ y : S32x8x128.Idx, ∃ p ∈ ([⟨rC 3, w 3⟩, ⟨rC 3, w' 3⟩, ⟨rC 2, w 2⟩, ⟨rC 2, w' 2⟩, ⟨rC 1, w 1⟩, ⟨rC 1, w' 1⟩, ⟨rC 0, w 0⟩, ⟨rC 0, w' 0⟩] : List (View.Piece (Elt F) S32x8x128 .bf16)), y ∈ p.1.set := by
    intro y
    obtain ⟨h, hh⟩ := hc y
    refine ⟨(⟨rC h, w h⟩ : View.Piece (Elt F) S32x8x128 .bf16), ?_, hh⟩
    clear hh
    fin_cases h <;> simp
  have e := View.read_writes_eq_canon (coM : Memref sig .tc .vmem S32x8x128 .bf16).view f _ hcov
  refine Eq.trans e ?_
  refine Eq.trans ((canon_cons_same _ _ _ _).trans (canon_cons_congr _ ((canon_cons_same _ _ _ _).trans (canon_cons_congr _ ((canon_cons_same _ _ _ _).trans (canon_cons_congr _ (canon_cons_same _ _ _ _))))))) ?_
  funext y
  refine View.canon_apply_of_pieces G _ ?_ y (hcov1 y)
  simp only [List.mem_cons, List.not_mem_nil, _root_.or_false]
  rintro p (rfl | rfl | rfl | rfl) <;> exact hw _

/-- The stores as they are made: the offsets as numbers. -/
theorem canon_P (H : Fin 8 → Vec F S1x32x1x128 .bf16) (w0 w1 w2 w3 a0 a1 a2 a3 : Vec F S1x32x2x128 .bf16)
    (h0 : w0 = pairP (H 0) (H 1)) (h1 : w1 = pairP (H 2) (H 3)) (h2 : w2 = pairP (H 4) (H 5)) (h3 : w3 = pairP (H 6) (H 7))
    (i0 : ∀ a, (![0, 0, 0, 0] : Fin 4 → ℕ) a + S1x32x2x128.size a ≤ S1x32x8x128.size a) (i1 : ∀ a, (![0, 0, 2, 0] : Fin 4 → ℕ) a + S1x32x2x128.size a ≤ S1x32x8x128.size a)
    (i2 : ∀ a, (![0, 0, 4, 0] : Fin 4 → ℕ) a + S1x32x2x128.size a ≤ S1x32x8x128.size a) (i3 : ∀ a, (![0, 0, 6, 0] : Fin 4 → ℕ) a + S1x32x2x128.size a ≤ S1x32x8x128.size a)
    (f : (opM : Memref sig .tc .vmem S1x32x8x128 .bf16).view.ty.Contents (Elt F)) :
    opM.view.writes (Elt F) f [⟨Rect.unit (s := S1x32x8x128) ![0, 0, 6, 0] S1x32x2x128.size i3, w3⟩, ⟨Rect.unit (s := S1x32x8x128) ![0, 0, 6, 0] S1x32x2x128.size i3, a3⟩,
      ⟨Rect.unit (s := S1x32x8x128) ![0, 0, 4, 0] S1x32x2x128.size i2, w2⟩, ⟨Rect.unit (s := S1x32x8x128) ![0, 0, 4, 0] S1x32x2x128.size i2, a2⟩,
      ⟨Rect.unit (s := S1x32x8x128) ![0, 0, 2, 0] S1x32x2x128.size i1, w1⟩, ⟨Rect.unit (s := S1x32x8x128) ![0, 0, 2, 0] S1x32x2x128.size i1, a1⟩,
      ⟨Rect.unit (s := S1x32x8x128) ![0, 0, 0, 0] S1x32x2x128.size i0, w0⟩, ⟨Rect.unit (s := S1x32x8x128) ![0, 0, 0, 0] S1x32x2x128.size i0, a0⟩] = packP H := by
  subst h0 h1 h2 h3
  exact canon_rP (packP H) (fun p => pairP (H (evH p)) (H (odH p))) (fun p => match p with | 0 => a0 | 1 => a1 | 2 => a2 | 3 => a3) (pairP_pack H) f

theorem canon_C (H : Fin 8 → Vec F S32x1x128 .bf16) (w0 w1 w2 w3 a0 a1 a2 a3 : Vec F S32x2x128 .bf16)
    (h0 : w0 = pairC (H 0) (H 1)) (h1 : w1 = pairC (H 2) (H 3)) (h2 : w2 = pairC (H 4) (H 5)) (h3 : w3 = pairC (H 6) (H 7))
    (i0 : ∀ a, (![0, 0, 0] : Fin 3 → ℕ) a + S32x2x128.size a ≤ S32x8x128.size a) (i1 : ∀ a, (![0, 2, 0] : Fin 3 → ℕ) a + S32x2x128.size a ≤ S32x8x128.size a)
    (i2 : ∀ a, (![0, 4, 0] : Fin 3 → ℕ) a + S32x2x128.size a ≤ S32x8x128.size a) (i3 : ∀ a, (![0, 6, 0] : Fin 3 → ℕ) a + S32x2x128.size a ≤ S32x8x128.size a)
    (f : (coM : Memref sig .tc .vmem S32x8x128 .bf16).view.ty.Contents (Elt F)) :
    coM.view.writes (Elt F) f [⟨Rect.unit (s := S32x8x128) ![0, 6, 0] S32x2x128.size i3, w3⟩, ⟨Rect.unit (s := S32x8x128) ![0, 6, 0] S32x2x128.size i3, a3⟩,
      ⟨Rect.unit (s := S32x8x128) ![0, 4, 0] S32x2x128.size i2, w2⟩, ⟨Rect.unit (s := S32x8x128) ![0, 4, 0] S32x2x128.size i2, a2⟩,
      ⟨Rect.unit (s := S32x8x128) ![0, 2, 0] S32x2x128.size i1, w1⟩, ⟨Rect.unit (s := S32x8x128) ![0, 2, 0] S32x2x128.size i1, a1⟩,
      ⟨Rect.unit (s := S32x8x128) ![0, 0, 0] S32x2x128.size i0, w0⟩, ⟨Rect.unit (s := S32x8x128) ![0, 0, 0] S32x2x128.size i0, a0⟩] = packC H := by
  subst h0 h1 h2 h3
  exact canon_rC (packC H) (fun p => pairC (H (evH p)) (H (odH p))) (fun p => match p with | 0 => a0 | 1 => a1 | 2 => a2 | 3 => a3) (pairC_pack H) f

/-- One head of the packed block: the accumulator's head over its sum. -/
def headP (O : Vec F S32x8x128 .f32) (L : Vec F S8x32x1 .f32) (h : Fin 8) : Vec F S1x32x1x128 .bf16 := k0_pay10 (k0_pay9 (View.ld O (rO h)) (View.ld L (rM h)))

theorem headP_0 (O : Vec F S32x8x128 .f32) (L : Vec F S8x32x1 .f32) (iO : ∀ a, (![0, 0, 0] : Fin 3 → ℕ) a + S32x1x128.size a ≤ S32x8x128.size a) (iL : ∀ a, (![0, 0, 0] : Fin 3 → ℕ) a + S1x32x1.size a ≤ S8x32x1.size a) :
    (shapeCast S1x32x1x128 (truncf .bf16 (divf (shapeCast S32x128 (View.readAt (Elt F) oM.view (Rect.unit (s := S32x8x128) ![0, 0, 0] S32x1x128.size iO).toLoadRect O) shapeCasts_S32x1x128_S32x128 : FVec F S32x128 .f32)
      (broadcastTo S32x128 (shapeCast S32x1 (View.readAt (Elt F) lM.view (Rect.unit (s := S8x32x1) ![0, 0, 0] S1x32x1.size iL).toLoadRect L) shapeCasts_S1x32x1_S32x1 : FVec F S32x1 .f32) broadcasts_S32x1_S32x128)) bitsLt_bf16_f32) shapeCasts_S32x128_S1x32x1x128 : FVec F S1x32x1x128 .bf16) = headP O L 0 := rfl

theorem headP_1 (O : Vec F S32x8x128 .f32) (L : Vec F S8x32x1 .f32) (iO : ∀ a, (![0, 1, 0] : Fin 3 → ℕ) a + S32x1x128.size a ≤ S32x8x128.size a) (iL : ∀ a, (![1, 0, 0] : Fin 3 → ℕ) a + S1x32x1.size a ≤ S8x32x1.size a) :
    (shapeCast S1x32x1x128 (truncf .bf16 (divf (shapeCast S32x128 (View.readAt (Elt F) oM.view (Rect.unit (s := S32x8x128) ![0, 1, 0] S32x1x128.size iO).toLoadRect O) shapeCasts_S32x1x128_S32x128 : FVec F S32x128 .f32)
      (broadcastTo S32x128 (shapeCast S32x1 (View.readAt (Elt F) lM.view (Rect.unit (s := S8x32x1) ![1, 0, 0] S1x32x1.size iL).toLoadRect L) shapeCasts_S1x32x1_S32x1 : FVec F S32x1 .f32) broadcasts_S32x1_S32x128)) bitsLt_bf16_f32) shapeCasts_S32x128_S1x32x1x128 : FVec F S1x32x1x128 .bf16) = headP O L 1 := rfl

theorem headP_2 (O : Vec F S32x8x128 .f32) (L : Vec F S8x32x1 .f32) (iO : ∀ a, (![0, 2, 0] : Fin 3 → ℕ) a + S32x1x128.size a ≤ S32x8x128.size a) (iL : ∀ a, (![2, 0, 0] : Fin 3 → ℕ) a + S1x32x1.size a ≤ S8x32x1.size a) :
    (shapeCast S1x32x1x128 (truncf .bf16 (divf (shapeCast S32x128 (View.readAt (Elt F) oM.view (Rect.unit (s := S32x8x128) ![0, 2, 0] S32x1x128.size iO).toLoadRect O) shapeCasts_S32x1x128_S32x128 : FVec F S32x128 .f32)
      (broadcastTo S32x128 (shapeCast S32x1 (View.readAt (Elt F) lM.view (Rect.unit (s := S8x32x1) ![2, 0, 0] S1x32x1.size iL).toLoadRect L) shapeCasts_S1x32x1_S32x1 : FVec F S32x1 .f32) broadcasts_S32x1_S32x128)) bitsLt_bf16_f32) shapeCasts_S32x128_S1x32x1x128 : FVec F S1x32x1x128 .bf16) = headP O L 2 := rfl

theorem headP_3 (O : Vec F S32x8x128 .f32) (L : Vec F S8x32x1 .f32) (iO : ∀ a, (![0, 3, 0] : Fin 3 → ℕ) a + S32x1x128.size a ≤ S32x8x128.size a) (iL : ∀ a, (![3, 0, 0] : Fin 3 → ℕ) a + S1x32x1.size a ≤ S8x32x1.size a) :
    (shapeCast S1x32x1x128 (truncf .bf16 (divf (shapeCast S32x128 (View.readAt (Elt F) oM.view (Rect.unit (s := S32x8x128) ![0, 3, 0] S32x1x128.size iO).toLoadRect O) shapeCasts_S32x1x128_S32x128 : FVec F S32x128 .f32)
      (broadcastTo S32x128 (shapeCast S32x1 (View.readAt (Elt F) lM.view (Rect.unit (s := S8x32x1) ![3, 0, 0] S1x32x1.size iL).toLoadRect L) shapeCasts_S1x32x1_S32x1 : FVec F S32x1 .f32) broadcasts_S32x1_S32x128)) bitsLt_bf16_f32) shapeCasts_S32x128_S1x32x1x128 : FVec F S1x32x1x128 .bf16) = headP O L 3 := rfl

theorem headP_4 (O : Vec F S32x8x128 .f32) (L : Vec F S8x32x1 .f32) (iO : ∀ a, (![0, 4, 0] : Fin 3 → ℕ) a + S32x1x128.size a ≤ S32x8x128.size a) (iL : ∀ a, (![4, 0, 0] : Fin 3 → ℕ) a + S1x32x1.size a ≤ S8x32x1.size a) :
    (shapeCast S1x32x1x128 (truncf .bf16 (divf (shapeCast S32x128 (View.readAt (Elt F) oM.view (Rect.unit (s := S32x8x128) ![0, 4, 0] S32x1x128.size iO).toLoadRect O) shapeCasts_S32x1x128_S32x128 : FVec F S32x128 .f32)
      (broadcastTo S32x128 (shapeCast S32x1 (View.readAt (Elt F) lM.view (Rect.unit (s := S8x32x1) ![4, 0, 0] S1x32x1.size iL).toLoadRect L) shapeCasts_S1x32x1_S32x1 : FVec F S32x1 .f32) broadcasts_S32x1_S32x128)) bitsLt_bf16_f32) shapeCasts_S32x128_S1x32x1x128 : FVec F S1x32x1x128 .bf16) = headP O L 4 := rfl

theorem headP_5 (O : Vec F S32x8x128 .f32) (L : Vec F S8x32x1 .f32) (iO : ∀ a, (![0, 5, 0] : Fin 3 → ℕ) a + S32x1x128.size a ≤ S32x8x128.size a) (iL : ∀ a, (![5, 0, 0] : Fin 3 → ℕ) a + S1x32x1.size a ≤ S8x32x1.size a) :
    (shapeCast S1x32x1x128 (truncf .bf16 (divf (shapeCast S32x128 (View.readAt (Elt F) oM.view (Rect.unit (s := S32x8x128) ![0, 5, 0] S32x1x128.size iO).toLoadRect O) shapeCasts_S32x1x128_S32x128 : FVec F S32x128 .f32)
      (broadcastTo S32x128 (shapeCast S32x1 (View.readAt (Elt F) lM.view (Rect.unit (s := S8x32x1) ![5, 0, 0] S1x32x1.size iL).toLoadRect L) shapeCasts_S1x32x1_S32x1 : FVec F S32x1 .f32) broadcasts_S32x1_S32x128)) bitsLt_bf16_f32) shapeCasts_S32x128_S1x32x1x128 : FVec F S1x32x1x128 .bf16) = headP O L 5 := rfl

theorem headP_6 (O : Vec F S32x8x128 .f32) (L : Vec F S8x32x1 .f32) (iO : ∀ a, (![0, 6, 0] : Fin 3 → ℕ) a + S32x1x128.size a ≤ S32x8x128.size a) (iL : ∀ a, (![6, 0, 0] : Fin 3 → ℕ) a + S1x32x1.size a ≤ S8x32x1.size a) :
    (shapeCast S1x32x1x128 (truncf .bf16 (divf (shapeCast S32x128 (View.readAt (Elt F) oM.view (Rect.unit (s := S32x8x128) ![0, 6, 0] S32x1x128.size iO).toLoadRect O) shapeCasts_S32x1x128_S32x128 : FVec F S32x128 .f32)
      (broadcastTo S32x128 (shapeCast S32x1 (View.readAt (Elt F) lM.view (Rect.unit (s := S8x32x1) ![6, 0, 0] S1x32x1.size iL).toLoadRect L) shapeCasts_S1x32x1_S32x1 : FVec F S32x1 .f32) broadcasts_S32x1_S32x128)) bitsLt_bf16_f32) shapeCasts_S32x128_S1x32x1x128 : FVec F S1x32x1x128 .bf16) = headP O L 6 := rfl

theorem headP_7 (O : Vec F S32x8x128 .f32) (L : Vec F S8x32x1 .f32) (iO : ∀ a, (![0, 7, 0] : Fin 3 → ℕ) a + S32x1x128.size a ≤ S32x8x128.size a) (iL : ∀ a, (![7, 0, 0] : Fin 3 → ℕ) a + S1x32x1.size a ≤ S8x32x1.size a) :
    (shapeCast S1x32x1x128 (truncf .bf16 (divf (shapeCast S32x128 (View.readAt (Elt F) oM.view (Rect.unit (s := S32x8x128) ![0, 7, 0] S32x1x128.size iO).toLoadRect O) shapeCasts_S32x1x128_S32x128 : FVec F S32x128 .f32)
      (broadcastTo S32x128 (shapeCast S32x1 (View.readAt (Elt F) lM.view (Rect.unit (s := S8x32x1) ![7, 0, 0] S1x32x1.size iL).toLoadRect L) shapeCasts_S1x32x1_S32x1 : FVec F S32x1 .f32) broadcasts_S32x1_S32x128)) bitsLt_bf16_f32) shapeCasts_S32x128_S1x32x1x128 : FVec F S1x32x1x128 .bf16) = headP O L 7 := rfl

/-- The packed block. -/
def opOf (O : Vec F S32x8x128 .f32) (L : Vec F S8x32x1 .f32) : Vec F S1x32x8x128 .bf16 := packP (headP O L)

theorem slicesW (h : Fin 8) : S1x8x32x1.Slices ![0, h.val, 0, 0] S1x1x32x1 := by revert h; decide

/-- One head of the combined block, from the two weights and the two packed heads. -/
def headC (wa wb : FVec F S1x8x32x1 .f32) (op ro : Vec F S1x32x8x128 .bf16) (h : Fin 8) : Vec F S32x1x128 .bf16 :=
  shapeCast S32x1x128 (truncf .bf16 (addf
    (mulf (extf .f32 (shapeCast S32x128 (View.ld op (rQ h)) shapeCasts_S1x32x1x128_S32x128 : FVec F S32x128 .bf16) bitsLt_bf16_f32)
      (broadcastTo S32x128 (shapeCast S32x1 (extractStridedSlice S1x1x32x1 ![0, h.val, 0, 0] wa (slicesW h)) shapeCasts_S1x1x32x1_S32x1) broadcasts_S32x1_S32x128))
    (mulf (extf .f32 (shapeCast S32x128 (View.ld ro (rQ h)) shapeCasts_S1x32x1x128_S32x128 : FVec F S32x128 .bf16) bitsLt_bf16_f32)
      (broadcastTo S32x128 (shapeCast S32x1 (extractStridedSlice S1x1x32x1 ![0, h.val, 0, 0] wb (slicesW h)) shapeCasts_S1x1x32x1_S32x1) broadcasts_S32x1_S32x128))) bitsLt_bf16_f32) shapeCasts_S32x128_S32x1x128

/-- The combined block, from the two packed blocks, the two maxima and the two sums. -/
def coOf (op ro : Vec F S1x32x8x128 .bf16) (om rm ol rl : Vec F S1x8x32x1 .f32) : Vec F S32x8x128 .bf16 :=
  packC (headC (k0_pay27 om rm ol rl) (k0_pay28 om rm ol rl) op ro)

end Cert.KernelIdeal.Hand
end
-- ==== Proof.Moves.lean ====
/-
  Rules of the last grid point: a transfer to a peer, what a landed block reads, what is stored for sending.
-/
module

public import proofs.«01_k».proof.Proof.Gen.KernelIdeal.Launch
public import proofs.«01_k».proof.Proof.Gen.KernelIdeal.Skeleton
public import Idealize.ShloMosaic.Lib.Pipeline.Frame
public import Idealize.ShloMosaic.Lib.Tactic
public import Idealize.ShloMosaic.Lib.Transfers
public import Idealize.ShloMosaic.Lib.Rounds
public import Idealize.ShloMosaic.Lib.Ring
public import Idealize.ShloMosaic.Lib.WritesUnit
public import proofs.«01_k».proof.Proof.Step
public import proofs.«01_k».proof.Proof.Protocol
public import proofs.«01_k».proof.Proof.Ghost
public import proofs.«01_k».proof.Proof.FirstBody
public import proofs.«01_k».proof.Proof.Comb
public import Idealize.ShloMosaic.Lib.Pipeline.FrameBody
public import Idealize.ShloMosaic.Lib.Pipeline.ValueKit

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.Rounds Idealize.ShloMosaic.Pipeline Idealize.ShloMosaic.Transfers Idealize.ShloMosaic.Ring
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ UU ℕ

theorem lv_le (c : Dev nD) (m lvl : ℕ) (h : m < 18) (hl : (if 9 ≤ m ∧ m < 12 then 2 else if 15 ≤ m then 3 else 0) ≤ lvl) : lv (dC c m h) () ≤ lvl := hl

/-- A transfer from this device's `src` to the peer's `dst`: it pays the two cells' only duties. -/
theorem send_dma (A : Sent F) (K : GSem nD τ sig → ℕ) (c c' : Dev nD) {d' : Dev nD} (hd : d' = c') (n m : ℕ) (h : n < 18) (hn : 6 ≤ n) (h' : m < 18) (hm : 6 ≤ m) (O : CellTallies nD τ sig Unit) (W : Waits sig Unit)
    {s : Shape} {e : EltTy} {src : Memref sig .tc .vmem s e} {dst : Memref sig .tc .vmem s e}
    {hsc : dst.view.ref.isScScratch = false}
    {hsrc : src.view.WordExact} {hdst : dst.view.WordExact} {hsem : DmaTarget.Typed .vmem (.dma (dS m h')) (.remote (d' : Thread nD τ) dst (.dma (dS n h)) hsc)}
    (q : PosShare TreeShare) (fs : Buf (Elt F) (src.view.loc (c : Thread nD τ))) (fd : Buf (Elt F) (dst.view.loc (c' : Thread nD τ)))
    (hN : dst.view.dmaCredit = dmaAmt m) (hnm : dmaAmt n = dmaAmt m)
    (hp₁ : (src.view.loc (c : Thread nD τ) ↦[src.view.set]{q} fs : sProp 𝕄) ⊢ dmaPay A c n)
    (hp₂ : (dst.view.loc (c' : Thread nD τ) ↦[dst.view.set]{fullShare} (dst.view.write (Elt F) fd (src.view.read (Elt F) fs) Finset.univ) : sProp 𝕄) ⊢ dmaPay A c' m)
    {α : Type} {k : PUnit → Prog (TpuEff nD τ sig (Elt F) Λ₀ .tc) α} {Q : α → sProp 𝕄} :
    iprop(allInv A K ∗ (src.view.loc (c : Thread nD τ) ↦[src.view.set]{q} fs) ∗ (dst.view.loc (c' : Thread nD τ) ↦[dst.view.set]{fullShare} fd)
        ∗ owes (c : Thread nD τ) (O + tallyAt (dC c' m h') () (dmaAmt m)) W
        ∗ dutyTok ER (dC c n h) 0 0 ∗ reached ER (dC c n h) 0 ∗ dutyTok ER (dC c' m h') 0 0 ∗ reached ER (dC c' m h') 0)
      ⊢ iprop((cred (tallyAt (dC c n h) () (dmaAmt n)) ∗ owes (c : Thread nD τ) O W -∗ wp frame (wpE (defs₀ (F := F)) 𝒱₀ c none) Set.univ (k ⟨⟩) Q)
          -∗ wp frame (wpE (defs₀ (F := F)) 𝒱₀ c none) Set.univ (.op (.enqueueDma src (.remote (d' : Thread nD τ) dst (.dma (dS n h)) hsc) (.dma (dS m h')) hsrc hdst hsem) k) Q) := by
  subst hd
  iintro ⟨#HI, Hs, Hd, HO, Ht, #Hr, Ht', #Hr'⟩ Hk
  iapply (Rounds.wp_send_pointsTo 𝒱₀ ER (Rd A) (c : Thread nD τ) none (c' := (d' : Thread nD τ)) (src := src) (dst := dst)
      (sS := .dma (dS n h)) (sem := .dma (dS m h')) (q := q) (fs := fs) (κ₁ := K (dC c n h)) (κ₂ := K (dC d' m h'))
      (r₁ := 0) (r₂ := 0) (d₁ := 0) (d₂ := 0) (fd := fd)
      (by rw [duties_dma A c n h hn]; exact Finset.mem_singleton_self _) (by rw [duties_dma A d' m h' hm]; exact Finset.mem_singleton_self _)
      () () (dmaAmt m) hN ((amount_dma A c n h 0).trans hnm) (amount_dma A d' m h' 0) O rfl (W := W)
      (by rw [payload_dma]; exact hp₁)
      (by rw [payload_dma]; exact hp₂)) $$ [Hs Hd HO Ht Ht']
  · isplitr; · iapply (inv_dma A K c n h hn); iexact HI
    isplitr; · iapply (inv_dma A K d' m h' hm); iexact HI
    isplitl [Hs]; · iexact Hs
    isplitl [Hd]; · iexact Hd
    isplitl [HO]; · iexact HO
    isplitl [Ht]; · iexact Ht
    isplitr; · iexact Hr
    isplitl [Ht']; · iexact Ht'
    iexact Hr'
  iintro ⟨Hc, HO⟩
  rw [← hnm]
  iapply Hk
  isplitl [Hc]; · iexact Hc
  iexact HO

/-- The whole of a scratch overwritten by what another scratch reads is that scratch's contents. -/
theorem om_stored (f : omM.view.ref.ty.Idx → Elt F omM.view.ref.ty.elt) (M : mM.view.ref.ty.Idx → Elt F mM.view.ref.ty.elt) (inb) (hl) (hc) :
    omM.view.writes (Elt F) f [⟨Rect.unit (s := S1x8x32x1) ![0, 0, 0, 0] S1x8x32x1.size inb, (shapeCast S1x8x32x1 (View.readAt (Elt F) mM.view (Rect.unit (s := S8x32x1) ![0, 0, 0] S8x32x1.size hl).toLoadRect M) hc : FVec F S1x8x32x1 .f32)⟩]
      = (k0_pay21 (F := F) M) := by
  refine (write_whole omM.view f inb (fun a => by fin_cases a <;> rfl) _).trans ?_
  rw [View.readAt_eq_ld]
  exact congrArg (k0_pay21 (F := F)) (View.ld_unit_lit hl M (fun a => by fin_cases a <;> rfl))

theorem ol_stored (f : olM.view.ref.ty.Idx → Elt F olM.view.ref.ty.elt) (M : lM.view.ref.ty.Idx → Elt F lM.view.ref.ty.elt) (inb) (hl) (hc) :
    olM.view.writes (Elt F) f [⟨Rect.unit (s := S1x8x32x1) ![0, 0, 0, 0] S1x8x32x1.size inb, (shapeCast S1x8x32x1 (View.readAt (Elt F) lM.view (Rect.unit (s := S8x32x1) ![0, 0, 0] S8x32x1.size hl).toLoadRect M) hc : FVec F S1x8x32x1 .f32)⟩]
      = (k0_pay22 (F := F) M) := by
  refine (write_whole olM.view f inb (fun a => by fin_cases a <;> rfl) _).trans ?_
  rw [View.readAt_eq_ld]
  exact congrArg (k0_pay22 (F := F)) (View.ld_unit_lit hl M (fun a => by fin_cases a <;> rfl))

/-- What the slab brought by transfer 0 reads, widened for the result. -/
theorem slab0 (f : agM.view.ref.ty.Idx → Elt F agM.view.ref.ty.elt) (inb) :
    k0_pay40 (View.readAt (Elt F) agM.view (Rect.unit (s := S3x32x8x128) ![0, 0, 0, 0] S1x32x8x128.size inb).toLoadRect f) = k0_pay39 (F := F) (ag0.view.read (Elt F) f) := by
  rfl
/-- Loading a slab touches that slab only. -/
theorem slab0_set (inb) : agM.view.setOn (Rect.unit (s := S3x32x8x128) ![0, 0, 0, 0] S1x32x8x128.size inb).toLoadRect.set ⊆ ag0.view.set := by
  rw [ag0_set]
  intro x hx
  simp [View.setOn] at hx
  exact hx

/-- What the slab brought by transfer 1 reads, widened for the result. -/
theorem slab1 (f : agM.view.ref.ty.Idx → Elt F agM.view.ref.ty.elt) (inb) :
    k0_pay41 (View.readAt (Elt F) agM.view (Rect.unit (s := S3x32x8x128) ![1, 0, 0, 0] S1x32x8x128.size inb).toLoadRect f) = k0_pay39 (F := F) (ag1.view.read (Elt F) f) := by
  rfl
/-- Loading a slab touches that slab only. -/
theorem slab1_set (inb) : agM.view.setOn (Rect.unit (s := S3x32x8x128) ![1, 0, 0, 0] S1x32x8x128.size inb).toLoadRect.set ⊆ ag1.view.set := by
  rw [ag1_set]
  intro x hx
  simp [View.setOn] at hx
  exact hx

/-- What the slab brought by transfer 2 reads, widened for the result. -/
theorem slab2 (f : agM.view.ref.ty.Idx → Elt F agM.view.ref.ty.elt) (inb) :
    k0_pay5 (View.readAt (Elt F) agM.view (Rect.unit (s := S3x32x8x128) ![2, 0, 0, 0] S1x32x8x128.size inb).toLoadRect f) = k0_pay39 (F := F) (ag2.view.read (Elt F) f) := by
  rfl
/-- Loading a slab touches that slab only. -/
theorem slab2_set (inb) : agM.view.setOn (Rect.unit (s := S3x32x8x128) ![2, 0, 0, 0] S1x32x8x128.size inb).toLoadRect.set ⊆ ag2.view.set := by
  rw [ag2_set]
  intro x hx
  simp [View.setOn] at hx
  exact hx

theorem land_ro (c c' : Dev nD) (fd : Buf (Elt F) (roM.view.loc (c' : Thread nD τ))) (fs : Buf (Elt F) (opM.view.loc (c : Thread nD τ))) :
    (roM.view.loc (c' : Thread nD τ) ↦[roM.view.set]{fullShare} (roM.view.write (Elt F) fd (opM.view.read (Elt F) fs) Finset.univ) : sProp 𝕄) ⊢ vPt c' roM fs :=
  Entails.of_eq (congrArg (fun f => (vPt c' roM f : sProp 𝕄)) (View.write_whole_univ roM.view.ref fd fs))

theorem land_rm (c c' : Dev nD) (fd : Buf (Elt F) (rmM.view.loc (c' : Thread nD τ))) (fs : Buf (Elt F) (omM.view.loc (c : Thread nD τ))) :
    (rmM.view.loc (c' : Thread nD τ) ↦[rmM.view.set]{fullShare} (rmM.view.write (Elt F) fd (omM.view.read (Elt F) fs) Finset.univ) : sProp 𝕄) ⊢ vPt c' rmM fs :=
  Entails.of_eq (congrArg (fun f => (vPt c' rmM f : sProp 𝕄)) (View.write_whole_univ rmM.view.ref fd fs))

theorem land_rl (c c' : Dev nD) (fd : Buf (Elt F) (rlM.view.loc (c' : Thread nD τ))) (fs : Buf (Elt F) (olM.view.loc (c : Thread nD τ))) :
    (rlM.view.loc (c' : Thread nD τ) ↦[rlM.view.set]{fullShare} (rlM.view.write (Elt F) fd (olM.view.read (Elt F) fs) Finset.univ) : sProp 𝕄) ⊢ vPt c' rlM fs :=
  Entails.of_eq (congrArg (fun f => (vPt c' rlM f : sProp 𝕄)) (View.write_whole_univ rlM.view.ref fd fs))

theorem land_ag0 (c c' : Dev nD) (fd : Buf (Elt F) (ag0.view.loc (c' : Thread nD τ))) (fs : Buf (Elt F) (coM.view.loc (c : Thread nD τ))) :
    (ag0.view.loc (c' : Thread nD τ) ↦[ag0.view.set]{fullShare} (ag0.view.write (Elt F) fd (coM.view.read (Elt F) fs) Finset.univ) : sProp 𝕄) ⊢ agPt c' ag0 fs := by
  unfold agPt
  iintro H
  iexists _
  isplitr; · ipureintro; exact View.read_write_univ fd (coM.view.read (Elt F) fs)
  iexact H

theorem land_ag1 (c c' : Dev nD) (fd : Buf (Elt F) (ag1.view.loc (c' : Thread nD τ))) (fs : Buf (Elt F) (coM.view.loc (c : Thread nD τ))) :
    (ag1.view.loc (c' : Thread nD τ) ↦[ag1.view.set]{fullShare} (ag1.view.write (Elt F) fd (coM.view.read (Elt F) fs) Finset.univ) : sProp 𝕄) ⊢ agPt c' ag1 fs := by
  unfold agPt
  iintro H
  iexists _
  isplitr; · ipureintro; exact View.read_write_univ fd (coM.view.read (Elt F) fs)
  iexact H

theorem land_ag2 (c c' : Dev nD) (fd : Buf (Elt F) (ag2.view.loc (c' : Thread nD τ))) (fs : Buf (Elt F) (coM.view.loc (c : Thread nD τ))) :
    (ag2.view.loc (c' : Thread nD τ) ↦[ag2.view.set]{fullShare} (ag2.view.write (Elt F) fd (coM.view.read (Elt F) fs) Finset.univ) : sProp 𝕄) ⊢ agPt c' ag2 fs := by
  unfold agPt
  iintro H
  iexists _
  isplitr; · ipureintro; exact View.read_write_univ fd (coM.view.read (Elt F) fs)
  iexact H

/-- The combined block dealt to three readers, what remains aside; and put back. -/
theorem co_split (c : Dev nD) (f : Buf (Elt F) (coM.view.loc (c : Thread nD τ))) :
    (vPt c coM f : sProp 𝕄) ⊢ iprop((coM.view.loc (c : Thread nD τ) ↦[coM.view.set]{shareDrop fullShare 3} f) ∗ coSh c 0 f ∗ coSh c 1 f ∗ coSh c 2 f) :=
  (pointsTo_toks_split fullShare 3).trans (Entails.of_eq (congrArg (fun X => iprop((coM.view.loc (c : Thread nD τ) ↦[coM.view.set]{shareDrop fullShare 3} f) ∗ X)) (bigSep_fin3 _)))
theorem co_join (c : Dev nD) (f : Buf (Elt F) (coM.view.loc (c : Thread nD τ))) :
    iprop((coM.view.loc (c : Thread nD τ) ↦[coM.view.set]{shareDrop fullShare 3} f) ∗ coSh c 0 f ∗ coSh c 1 f ∗ coSh c 2 f) ⊢ (vPt c coM f : sProp 𝕄) :=
  (Entails.of_eq (congrArg (fun X => iprop((coM.view.loc (c : Thread nD τ) ↦[coM.view.set]{shareDrop fullShare 3} f) ∗ X)) (bigSep_fin3 _).symm)).trans (pointsTo_toks_join fullShare 3)

/-- A device's thirteen semaphores at rest. -/
def semsZero (c : Dev nD) : sProp 𝕄 :=
  iprop(semVal (barC c) 0 ∗ semVal (dC c 6) 0 ∗ semVal (dC c 7) 0 ∗ semVal (dC c 8) 0 ∗ semVal (dC c 9) 0 ∗ semVal (dC c 10) 0 ∗ semVal (dC c 11) 0
    ∗ semVal (dC c 12) 0 ∗ semVal (dC c 13) 0 ∗ semVal (dC c 14) 0 ∗ semVal (dC c 15) 0 ∗ semVal (dC c 16) 0 ∗ semVal (dC c 17) 0)

/-- The cells played out, closed. -/
theorem close_all (A : Sent F) (K : GSem nD τ sig → ℕ) (c : Dev nD) :
    iprop(allInv A K ∗ atPos ER (barC c) (0 + 1) ∅ 0 ∗ atPos ER (dC c 6) (0 + 1) ∅ 0 ∗ atPos ER (dC c 7) (0 + 1) ∅ 0 ∗ atPos ER (dC c 8) (0 + 1) ∅ 0
      ∗ atPos ER (dC c 9) (0 + 1) ∅ 0 ∗ atPos ER (dC c 10) (0 + 1) ∅ 0 ∗ atPos ER (dC c 11) (0 + 1) ∅ 0 ∗ atPos ER (dC c 12) (0 + 1) ∅ 0 ∗ atPos ER (dC c 13) (0 + 1) ∅ 0
      ∗ atPos ER (dC c 14) (0 + 1) ∅ 0 ∗ atPos ER (dC c 15) (0 + 1) ∅ 0 ∗ atPos ER (dC c 16) (0 + 1) ∅ 0 ∗ atPos ER (dC c 17) (0 + 1) ∅ 0)
      ⊢ (|={Set.univ}=> semsZero c : sProp 𝕄) := by
  unfold semsZero
  iintro ⟨#HI, HB, H6, H7, H8, H9, H10, H11, H12, H13, H14, H15, H16, H17⟩
  imod (close A (K (barC c)) (barC c)) $$ [HB] with HB
  · isplitr; · iapply (inv_bar A K c); iexact HI
    iexact HB
  imod (close A (K (dC c 6)) (dC c 6)) $$ [H6] with H6
  · isplitr; · iapply (inv_dma A K c 6 _ (by decide)); iexact HI
    iexact H6
  imod (close A (K (dC c 7)) (dC c 7)) $$ [H7] with H7
  · isplitr; · iapply (inv_dma A K c 7 _ (by decide)); iexact HI
    iexact H7
  imod (close A (K (dC c 8)) (dC c 8)) $$ [H8] with H8
  · isplitr; · iapply (inv_dma A K c 8 _ (by decide)); iexact HI
    iexact H8
  imod (close A (K (dC c 9)) (dC c 9)) $$ [H9] with H9
  · isplitr; · iapply (inv_dma A K c 9 _ (by decide)); iexact HI
    iexact H9
  imod (close A (K (dC c 10)) (dC c 10)) $$ [H10] with H10
  · isplitr; · iapply (inv_dma A K c 10 _ (by decide)); iexact HI
    iexact H10
  imod (close A (K (dC c 11)) (dC c 11)) $$ [H11] with H11
  · isplitr; · iapply (inv_dma A K c 11 _ (by decide)); iexact HI
    iexact H11
  imod (close A (K (dC c 12)) (dC c 12)) $$ [H12] with H12
  · isplitr; · iapply (inv_dma A K c 12 _ (by decide)); iexact HI
    iexact H12
  imod (close A (K (dC c 13)) (dC c 13)) $$ [H13] with H13
  · isplitr; · iapply (inv_dma A K c 13 _ (by decide)); iexact HI
    iexact H13
  imod (close A (K (dC c 14)) (dC c 14)) $$ [H14] with H14
  · isplitr; · iapply (inv_dma A K c 14 _ (by decide)); iexact HI
    iexact H14
  imod (close A (K (dC c 15)) (dC c 15)) $$ [H15] with H15
  · isplitr; · iapply (inv_dma A K c 15 _ (by decide)); iexact HI
    iexact H15
  imod (close A (K (dC c 16)) (dC c 16)) $$ [H16] with H16
  · isplitr; · iapply (inv_dma A K c 16 _ (by decide)); iexact HI
    iexact H16
  imod (close A (K (dC c 17)) (dC c 17)) $$ [H17] with H17
  · isplitr; · iapply (inv_dma A K c 17 _ (by decide)); iexact HI
    iexact H17
  imodintro
  isplitl [HB]; · iexact HB
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  iexact H17

/-- The device of the same z that holds batch `b`. -/
def src (c : Dev nD) (b : Fin 4) : Dev nD := ⟨2 * b.val + c.val % 2, by have := b.isLt; have := Nat.mod_lt c.val (show 0 < 2 by decide); show 2 * b.val + c.val % 2 < 8; omega⟩

/-- The result at one device: per batch the combined block of that batch's device, widened. -/
def outOf (X : Fin 4 → Vec F S32x8x128 .bf16) : Vec F S4x32x8x128 .f32 := fun j =>
  k0_pay39 (X (j 0)) (ix1 (j 1) (j 2) (j 3))
where
  /-- An index of one widened block. -/
  ix1 (a : Fin 32) (b : Fin 8) (d : Fin 128) : S1x32x8x128.Idx := fun e => match e with | 0 => (⟨0, by decide⟩ : Fin 1) | 1 => a | 2 => b | 3 => d

/-- Four blocks stored at four batches leave the four blocks. -/
theorem out_read (v : View sig .tc .vmem S4x32x8x128 .f32) (f : v.ty.Contents (Elt F)) (X : Fin 4 → Vec F S32x8x128 .bf16)
    (o1 o2 o3 o4 : Fin 4 → ℕ) (b1 b2 b3 b4 : Fin 4) (h1 : o1 = ![b1.val, 0, 0, 0]) (h2 : o2 = ![b2.val, 0, 0, 0]) (h3 : o3 = ![b3.val, 0, 0, 0]) (h4 : o4 = ![b4.val, 0, 0, 0])
    (hb : ∀ b : Fin 4, b ≠ b4 → b ≠ b3 → b ≠ b2 → b = b1) (i1) (i2) (i3) (i4)
    (w1 w2 w3 w4 : FVec F S1x32x8x128 .f32) (e1 : w1 = k0_pay39 (X b1)) (e2 : w2 = k0_pay39 (X b2)) (e3 : w3 = k0_pay39 (X b3)) (e4 : w4 = k0_pay39 (X b4)) :
    v.read (Elt F) (v.writes (Elt F) f [⟨Rect.unit (s := S4x32x8x128) o4 S1x32x8x128.size i4, w4⟩, ⟨Rect.unit (s := S4x32x8x128) o3 S1x32x8x128.size i3, w3⟩,
      ⟨Rect.unit (s := S4x32x8x128) o2 S1x32x8x128.size i2, w2⟩, ⟨Rect.unit (s := S4x32x8x128) o1 S1x32x8x128.size i1, w1⟩]) = outOf X := by
  subst e1 e2 e3 e4
  funext y
  have key : ∀ (b : Fin 4), y 0 = b → ∀ (a : Fin 4), (y a).val = (![b.val, 0, 0, 0] : Fin 4 → ℕ) a + (outOf.ix1 (y 1) (y 2) (y 3) a).val := by
    intro b hb a
    match a with
    | 0 => exact (congrArg Fin.val hb).trans (Nat.add_zero b.val).symm
    | 1 => exact (Nat.zero_add _).symm
    | 2 => exact (Nat.zero_add _).symm
    | 3 => exact (Nat.zero_add _).symm
  have out : ∀ (b : Fin 4), y 0 ≠ b → (y 0).val < (![b.val, 0, 0, 0] : Fin 4 → ℕ) 0 ∨ (![b.val, 0, 0, 0] : Fin 4 → ℕ) 0 + S1x32x8x128.size 0 ≤ (y 0).val := by
    intro b hb
    have : (y 0).val ≠ b.val := fun h => hb (Fin.ext h)
    show (y 0).val < b.val ∨ b.val + 1 ≤ (y 0).val
    omega
  by_cases c4 : y 0 = b4
  · rw [View.read_writes_cons_unit_of_mem v f i4 _ _ y _ h4 (key b4 c4)]; unfold outOf; rw [c4]
  rw [View.read_writes_cons_unit_of_not_mem v f i4 _ _ y h4 0 (out b4 c4)]
  by_cases c3 : y 0 = b3
  · rw [View.read_writes_cons_unit_of_mem v f i3 _ _ y _ h3 (key b3 c3)]; unfold outOf; rw [c3]
  rw [View.read_writes_cons_unit_of_not_mem v f i3 _ _ y h3 0 (out b3 c3)]
  by_cases c2 : y 0 = b2
  · rw [View.read_writes_cons_unit_of_mem v f i2 _ _ y _ h2 (key b2 c2)]; unfold outOf; rw [c2]
  rw [View.read_writes_cons_unit_of_not_mem v f i2 _ _ y h2 0 (out b2 c2)]
  have c1 := hb (y 0) c4 c3 c2
  rw [View.read_writes_cons_unit_of_mem v f i1 _ _ y _ h1 (key b1 c1)]; unfold outOf; rw [c1]

/-- The batch a device works on and its three neighbours' batches. -/
def bat (c : Dev nD) : Fin 4 := ⟨c.val / 2, by have : c.val < 8 := c.isLt; omega⟩
theorem off1_bat (c : Dev nD) : k0_off1 c = ![(bat c).val, 0, 0, 0] := (k0_off1_eq c).trans (by revert c; decide)
theorem off2_bat (c : Dev nD) : k0_off2 c = ![(bat (px c)).val, 0, 0, 0] := (k0_off2_eq c).trans (by revert c; decide)
theorem off3_bat (c : Dev nD) : k0_off3 c = ![(bat (py c)).val, 0, 0, 0] := (k0_off3_eq c).trans (by revert c; decide)
theorem off4_bat (c : Dev nD) : k0_off4 c = ![(bat (pd c)).val, 0, 0, 0] := (k0_off4_eq c).trans (by revert c; decide)
theorem src_bat (c : Dev nD) : src c (bat c) = c := by revert c; decide
theorem src_px (c : Dev nD) : src c (bat (px c)) = px c := by revert c; decide
theorem src_py (c : Dev nD) : src c (bat (py c)) = py c := by revert c; decide
theorem src_pd (c : Dev nD) : src c (bat (pd c)) = pd c := by revert c; decide
theorem bats (c : Dev nD) : ∀ b : Fin 4, b ≠ bat (pd c) → b ≠ bat (py c) → b ≠ bat (px c) → b = bat c := by revert c; decide

theorem whole_om (inb) (f : omM.view.ref.ty.Idx → Elt F omM.view.ref.ty.elt) :
    View.readAt (Elt F) omM.view (Rect.unit (s := S1x8x32x1) ![0, 0, 0, 0] S1x8x32x1.size inb).toLoadRect f = f := by
  rw [View.readAt_eq_ld]
  exact View.ld_unit_lit inb f (fun a => by fin_cases a <;> rfl)

theorem whole_rm (inb) (f : rmM.view.ref.ty.Idx → Elt F rmM.view.ref.ty.elt) :
    View.readAt (Elt F) rmM.view (Rect.unit (s := S1x8x32x1) ![0, 0, 0, 0] S1x8x32x1.size inb).toLoadRect f = f := by
  rw [View.readAt_eq_ld]
  exact View.ld_unit_lit inb f (fun a => by fin_cases a <;> rfl)

theorem whole_ol (inb) (f : olM.view.ref.ty.Idx → Elt F olM.view.ref.ty.elt) :
    View.readAt (Elt F) olM.view (Rect.unit (s := S1x8x32x1) ![0, 0, 0, 0] S1x8x32x1.size inb).toLoadRect f = f := by
  rw [View.readAt_eq_ld]
  exact View.ld_unit_lit inb f (fun a => by fin_cases a <;> rfl)

theorem whole_rl (inb) (f : rlM.view.ref.ty.Idx → Elt F rlM.view.ref.ty.elt) :
    View.readAt (Elt F) rlM.view (Rect.unit (s := S1x8x32x1) ![0, 0, 0, 0] S1x8x32x1.size inb).toLoadRect f = f := by
  rw [View.readAt_eq_ld]
  exact View.ld_unit_lit inb f (fun a => by fin_cases a <;> rfl)

/-- The two weights, folded. -/
theorem wA_fold (om rm ol rl : Vec F S1x8x32x1 .f32) :
    (divf (mulf (exp (subf om (maximumf om rm))) ol) (addf (mulf (exp (subf om (maximumf om rm))) ol) (mulf (exp (subf rm (maximumf om rm))) rl)) : FVec F S1x8x32x1 .f32) = k0_pay27 om rm ol rl := rfl
theorem wB_fold (om rm ol rl : Vec F S1x8x32x1 .f32) :
    (divf (mulf (exp (subf rm (maximumf om rm))) rl) (addf (mulf (exp (subf om (maximumf om rm))) ol) (mulf (exp (subf rm (maximumf om rm))) rl)) : FVec F S1x8x32x1 .f32) = k0_pay28 om rm ol rl := rfl

theorem headC_0 (wa wb : FVec F S1x8x32x1 .f32) (op ro : Vec F S1x32x8x128 .bf16) (i1) (i2) (s1) (s2) :
    (shapeCast S32x1x128 (truncf .bf16 (addf (mulf (extf .f32 (shapeCast S32x128 (View.readAt (Elt F) opM.view (Rect.unit (s := S1x32x8x128) ![0, 0, 0, 0] S1x32x1x128.size i1).toLoadRect op) shapeCasts_S1x32x1x128_S32x128 : FVec F S32x128 .bf16) bitsLt_bf16_f32)
        (broadcastTo S32x128 (shapeCast S32x1 (extractStridedSlice S1x1x32x1 ![0, 0, 0, 0] wa s1) shapeCasts_S1x1x32x1_S32x1) broadcasts_S32x1_S32x128))
      (mulf (extf .f32 (shapeCast S32x128 (View.readAt (Elt F) roM.view (Rect.unit (s := S1x32x8x128) ![0, 0, 0, 0] S1x32x1x128.size i2).toLoadRect ro) shapeCasts_S1x32x1x128_S32x128 : FVec F S32x128 .bf16) bitsLt_bf16_f32)
        (broadcastTo S32x128 (shapeCast S32x1 (extractStridedSlice S1x1x32x1 ![0, 0, 0, 0] wb s2) shapeCasts_S1x1x32x1_S32x1) broadcasts_S32x1_S32x128))) bitsLt_bf16_f32) shapeCasts_S32x128_S32x1x128 : FVec F S32x1x128 .bf16) = headC wa wb op ro 0 := rfl

theorem headC_1 (wa wb : FVec F S1x8x32x1 .f32) (op ro : Vec F S1x32x8x128 .bf16) (i1) (i2) (s1) (s2) :
    (shapeCast S32x1x128 (truncf .bf16 (addf (mulf (extf .f32 (shapeCast S32x128 (View.readAt (Elt F) opM.view (Rect.unit (s := S1x32x8x128) ![0, 0, 1, 0] S1x32x1x128.size i1).toLoadRect op) shapeCasts_S1x32x1x128_S32x128 : FVec F S32x128 .bf16) bitsLt_bf16_f32)
        (broadcastTo S32x128 (shapeCast S32x1 (extractStridedSlice S1x1x32x1 ![0, 1, 0, 0] wa s1) shapeCasts_S1x1x32x1_S32x1) broadcasts_S32x1_S32x128))
      (mulf (extf .f32 (shapeCast S32x128 (View.readAt (Elt F) roM.view (Rect.unit (s := S1x32x8x128) ![0, 0, 1, 0] S1x32x1x128.size i2).toLoadRect ro) shapeCasts_S1x32x1x128_S32x128 : FVec F S32x128 .bf16) bitsLt_bf16_f32)
        (broadcastTo S32x128 (shapeCast S32x1 (extractStridedSlice S1x1x32x1 ![0, 1, 0, 0] wb s2) shapeCasts_S1x1x32x1_S32x1) broadcasts_S32x1_S32x128))) bitsLt_bf16_f32) shapeCasts_S32x128_S32x1x128 : FVec F S32x1x128 .bf16) = headC wa wb op ro 1 := rfl

theorem headC_2 (wa wb : FVec F S1x8x32x1 .f32) (op ro : Vec F S1x32x8x128 .bf16) (i1) (i2) (s1) (s2) :
    (shapeCast S32x1x128 (truncf .bf16 (addf (mulf (extf .f32 (shapeCast S32x128 (View.readAt (Elt F) opM.view (Rect.unit (s := S1x32x8x128) ![0, 0, 2, 0] S1x32x1x128.size i1).toLoadRect op) shapeCasts_S1x32x1x128_S32x128 : FVec F S32x128 .bf16) bitsLt_bf16_f32)
        (broadcastTo S32x128 (shapeCast S32x1 (extractStridedSlice S1x1x32x1 ![0, 2, 0, 0] wa s1) shapeCasts_S1x1x32x1_S32x1) broadcasts_S32x1_S32x128))
      (mulf (extf .f32 (shapeCast S32x128 (View.readAt (Elt F) roM.view (Rect.unit (s := S1x32x8x128) ![0, 0, 2, 0] S1x32x1x128.size i2).toLoadRect ro) shapeCasts_S1x32x1x128_S32x128 : FVec F S32x128 .bf16) bitsLt_bf16_f32)
        (broadcastTo S32x128 (shapeCast S32x1 (extractStridedSlice S1x1x32x1 ![0, 2, 0, 0] wb s2) shapeCasts_S1x1x32x1_S32x1) broadcasts_S32x1_S32x128))) bitsLt_bf16_f32) shapeCasts_S32x128_S32x1x128 : FVec F S32x1x128 .bf16) = headC wa wb op ro 2 := rfl

theorem headC_3 (wa wb : FVec F S1x8x32x1 .f32) (op ro : Vec F S1x32x8x128 .bf16) (i1) (i2) (s1) (s2) :
    (shapeCast S32x1x128 (truncf .bf16 (addf (mulf (extf .f32 (shapeCast S32x128 (View.readAt (Elt F) opM.view (Rect.unit (s := S1x32x8x128) ![0, 0, 3, 0] S1x32x1x128.size i1).toLoadRect op) shapeCasts_S1x32x1x128_S32x128 : FVec F S32x128 .bf16) bitsLt_bf16_f32)
        (broadcastTo S32x128 (shapeCast S32x1 (extractStridedSlice S1x1x32x1 ![0, 3, 0, 0] wa s1) shapeCasts_S1x1x32x1_S32x1) broadcasts_S32x1_S32x128))
      (mulf (extf .f32 (shapeCast S32x128 (View.readAt (Elt F) roM.view (Rect.unit (s := S1x32x8x128) ![0, 0, 3, 0] S1x32x1x128.size i2).toLoadRect ro) shapeCasts_S1x32x1x128_S32x128 : FVec F S32x128 .bf16) bitsLt_bf16_f32)
        (broadcastTo S32x128 (shapeCast S32x1 (extractStridedSlice S1x1x32x1 ![0, 3, 0, 0] wb s2) shapeCasts_S1x1x32x1_S32x1) broadcasts_S32x1_S32x128))) bitsLt_bf16_f32) shapeCasts_S32x128_S32x1x128 : FVec F S32x1x128 .bf16) = headC wa wb op ro 3 := rfl

theorem headC_4 (wa wb : FVec F S1x8x32x1 .f32) (op ro : Vec F S1x32x8x128 .bf16) (i1) (i2) (s1) (s2) :
    (shapeCast S32x1x128 (truncf .bf16 (addf (mulf (extf .f32 (shapeCast S32x128 (View.readAt (Elt F) opM.view (Rect.unit (s := S1x32x8x128) ![0, 0, 4, 0] S1x32x1x128.size i1).toLoadRect op) shapeCasts_S1x32x1x128_S32x128 : FVec F S32x128 .bf16) bitsLt_bf16_f32)
        (broadcastTo S32x128 (shapeCast S32x1 (extractStridedSlice S1x1x32x1 ![0, 4, 0, 0] wa s1) shapeCasts_S1x1x32x1_S32x1) broadcasts_S32x1_S32x128))
      (mulf (extf .f32 (shapeCast S32x128 (View.readAt (Elt F) roM.view (Rect.unit (s := S1x32x8x128) ![0, 0, 4, 0] S1x32x1x128.size i2).toLoadRect ro) shapeCasts_S1x32x1x128_S32x128 : FVec F S32x128 .bf16) bitsLt_bf16_f32)
        (broadcastTo S32x128 (shapeCast S32x1 (extractStridedSlice S1x1x32x1 ![0, 4, 0, 0] wb s2) shapeCasts_S1x1x32x1_S32x1) broadcasts_S32x1_S32x128))) bitsLt_bf16_f32) shapeCasts_S32x128_S32x1x128 : FVec F S32x1x128 .bf16) = headC wa wb op ro 4 := rfl

theorem headC_5 (wa wb : FVec F S1x8x32x1 .f32) (op ro : Vec F S1x32x8x128 .bf16) (i1) (i2) (s1) (s2) :
    (shapeCast S32x1x128 (truncf .bf16 (addf (mulf (extf .f32 (shapeCast S32x128 (View.readAt (Elt F) opM.view (Rect.unit (s := S1x32x8x128) ![0, 0, 5, 0] S1x32x1x128.size i1).toLoadRect op) shapeCasts_S1x32x1x128_S32x128 : FVec F S32x128 .bf16) bitsLt_bf16_f32)
        (broadcastTo S32x128 (shapeCast S32x1 (extractStridedSlice S1x1x32x1 ![0, 5, 0, 0] wa s1) shapeCasts_S1x1x32x1_S32x1) broadcasts_S32x1_S32x128))
      (mulf (extf .f32 (shapeCast S32x128 (View.readAt (Elt F) roM.view (Rect.unit (s := S1x32x8x128) ![0, 0, 5, 0] S1x32x1x128.size i2).toLoadRect ro) shapeCasts_S1x32x1x128_S32x128 : FVec F S32x128 .bf16) bitsLt_bf16_f32)
        (broadcastTo S32x128 (shapeCast S32x1 (extractStridedSlice S1x1x32x1 ![0, 5, 0, 0] wb s2) shapeCasts_S1x1x32x1_S32x1) broadcasts_S32x1_S32x128))) bitsLt_bf16_f32) shapeCasts_S32x128_S32x1x128 : FVec F S32x1x128 .bf16) = headC wa wb op ro 5 := rfl

theorem headC_6 (wa wb : FVec F S1x8x32x1 .f32) (op ro : Vec F S1x32x8x128 .bf16) (i1) (i2) (s1) (s2) :
    (shapeCast S32x1x128 (truncf .bf16 (addf (mulf (extf .f32 (shapeCast S32x128 (View.readAt (Elt F) opM.view (Rect.unit (s := S1x32x8x128) ![0, 0, 6, 0] S1x32x1x128.size i1).toLoadRect op) shapeCasts_S1x32x1x128_S32x128 : FVec F S32x128 .bf16) bitsLt_bf16_f32)
        (broadcastTo S32x128 (shapeCast S32x1 (extractStridedSlice S1x1x32x1 ![0, 6, 0, 0] wa s1) shapeCasts_S1x1x32x1_S32x1) broadcasts_S32x1_S32x128))
      (mulf (extf .f32 (shapeCast S32x128 (View.readAt (Elt F) roM.view (Rect.unit (s := S1x32x8x128) ![0, 0, 6, 0] S1x32x1x128.size i2).toLoadRect ro) shapeCasts_S1x32x1x128_S32x128 : FVec F S32x128 .bf16) bitsLt_bf16_f32)
        (broadcastTo S32x128 (shapeCast S32x1 (extractStridedSlice S1x1x32x1 ![0, 6, 0, 0] wb s2) shapeCasts_S1x1x32x1_S32x1) broadcasts_S32x1_S32x128))) bitsLt_bf16_f32) shapeCasts_S32x128_S32x1x128 : FVec F S32x1x128 .bf16) = headC wa wb op ro 6 := rfl

theorem headC_7 (wa wb : FVec F S1x8x32x1 .f32) (op ro : Vec F S1x32x8x128 .bf16) (i1) (i2) (s1) (s2) :
    (shapeCast S32x1x128 (truncf .bf16 (addf (mulf (extf .f32 (shapeCast S32x128 (View.readAt (Elt F) opM.view (Rect.unit (s := S1x32x8x128) ![0, 0, 7, 0] S1x32x1x128.size i1).toLoadRect op) shapeCasts_S1x32x1x128_S32x128 : FVec F S32x128 .bf16) bitsLt_bf16_f32)
        (broadcastTo S32x128 (shapeCast S32x1 (extractStridedSlice S1x1x32x1 ![0, 7, 0, 0] wa s1) shapeCasts_S1x1x32x1_S32x1) broadcasts_S32x1_S32x128))
      (mulf (extf .f32 (shapeCast S32x128 (View.readAt (Elt F) roM.view (Rect.unit (s := S1x32x8x128) ![0, 0, 7, 0] S1x32x1x128.size i2).toLoadRect ro) shapeCasts_S1x32x1x128_S32x128 : FVec F S32x128 .bf16) bitsLt_bf16_f32)
        (broadcastTo S32x128 (shapeCast S32x1 (extractStridedSlice S1x1x32x1 ![0, 7, 0, 0] wb s2) shapeCasts_S1x1x32x1_S32x1) broadcasts_S32x1_S32x128))) bitsLt_bf16_f32) shapeCasts_S32x128_S32x1x128 : FVec F S32x1x128 .bf16) = headC wa wb op ro 7 := rfl

/-- The combined block read back whole and widened. -/
theorem co_load (H : Fin 8 → Vec F S32x1x128 .bf16) (w0 w1 w2 w3 a0 a1 a2 a3 : Vec F S32x2x128 .bf16)
    (h0 : w0 = pairC (H 0) (H 1)) (h1 : w1 = pairC (H 2) (H 3)) (h2 : w2 = pairC (H 4) (H 5)) (h3 : w3 = pairC (H 6) (H 7))
    (i0 : ∀ a, (![0, 0, 0] : Fin 3 → ℕ) a + S32x2x128.size a ≤ S32x8x128.size a) (i1 : ∀ a, (![0, 2, 0] : Fin 3 → ℕ) a + S32x2x128.size a ≤ S32x8x128.size a)
    (i2 : ∀ a, (![0, 4, 0] : Fin 3 → ℕ) a + S32x2x128.size a ≤ S32x8x128.size a) (i3 : ∀ a, (![0, 6, 0] : Fin 3 → ℕ) a + S32x2x128.size a ≤ S32x8x128.size a)
    (ib : ∀ a, (![0, 0, 0] : Fin 3 → ℕ) a + S32x8x128.size a ≤ S32x8x128.size a) :
    k0_pay39 (coM.view.readCov [⟨Rect.unit (s := S32x8x128) ![0, 6, 0] S32x2x128.size i3, w3⟩, ⟨Rect.unit (s := S32x8x128) ![0, 6, 0] S32x2x128.size i3, a3⟩,
      ⟨Rect.unit (s := S32x8x128) ![0, 4, 0] S32x2x128.size i2, w2⟩, ⟨Rect.unit (s := S32x8x128) ![0, 4, 0] S32x2x128.size i2, a2⟩,
      ⟨Rect.unit (s := S32x8x128) ![0, 2, 0] S32x2x128.size i1, w1⟩, ⟨Rect.unit (s := S32x8x128) ![0, 2, 0] S32x2x128.size i1, a1⟩,
      ⟨Rect.unit (s := S32x8x128) ![0, 0, 0] S32x2x128.size i0, w0⟩, ⟨Rect.unit (s := S32x8x128) ![0, 0, 0] S32x2x128.size i0, a0⟩] (Rect.unit (s := S32x8x128) ![0, 0, 0] S32x8x128.size ib).toLoadRect) = k0_pay39 (F := F) (packC H) :=
  (congrArg (fun f => k0_pay39 (F := F) (View.ld (coM.view.read (Elt F) f) (Rect.unit (s := S32x8x128) ![0, 0, 0] S32x8x128.size ib)))
      (canon_C H w0 w1 w2 w3 a0 a1 a2 a3 h0 h1 h2 h3 i0 i1 i2 i3 coM.view.junk)).trans
    (congrArg (k0_pay39 (F := F)) (View.ld_unit_lit ib (packC H) (fun a => by fin_cases a <;> rfl)))

end Cert.KernelIdeal.Hand
end
-- ==== Proof.LastBody.lean ====
/-
  The kernel's body at the last grid point: one flash step, the exchange across z, the combination, the exchange of combined blocks.
-/
module

public import proofs.«01_k».proof.Proof.Gen.KernelIdeal.Launch
public import proofs.«01_k».proof.Proof.Gen.KernelIdeal.Skeleton
public import Idealize.ShloMosaic.Lib.Pipeline.Frame
public import Idealize.ShloMosaic.Lib.Tactic
public import Idealize.ShloMosaic.Lib.Transfers
public import Idealize.ShloMosaic.Lib.Rounds
public import Idealize.ShloMosaic.Lib.Ring
public import Idealize.ShloMosaic.Lib.WritesUnit
public import proofs.«01_k».proof.Proof.Step
public import proofs.«01_k».proof.Proof.Protocol
public import proofs.«01_k».proof.Proof.Ghost
public import proofs.«01_k».proof.Proof.Comb
public import proofs.«01_k».proof.Proof.Moves
public import Idealize.ShloMosaic.Lib.Pipeline.FrameBody
public import Idealize.ShloMosaic.Lib.Pipeline.ValueKit

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.Rounds Idealize.ShloMosaic.Pipeline Idealize.ShloMosaic.Transfers Idealize.ShloMosaic.Ring
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ UU ℕ

variable (A : Sent F)

def Hid (P : Prop) : Prop := P

set_option maxHeartbeats 8000000 in
theorem lastRun (Kn : GSem nD τ sig → ℕ) (c : Dev nD) (W : Waits sig Unit) (i : grid0.Coords) (arg2 : Memref sig .tc .vmem S1x32x8x128 .f32) (harg2 : arg2.IsWhole) (arg3 : Memref sig .tc .vmem S1x1024x8x128 .f32) (harg3 : arg3.IsWhole) (arg4 : Memref sig .tc .vmem S1x1024x8x128 .f32) (harg4 : arg4.IsWhole) (arg5 : Memref sig .tc .vmem S4x32x8x128 .f32) (harg5 : arg5.IsWhole)
    (h1 : ¬ k0_cond1 i = 1#1) (h2 : Hid (k0_cond2 i = 1#1))
    (q : Buf (Elt F) (arg2.view.loc (c : Thread nD τ))) (k : Buf (Elt F) (arg3.view.loc (c : Thread nD τ))) (v : Buf (Elt F) (arg4.view.loc (c : Thread nD τ)))
    (O : Buf (Elt F) (oM.view.loc (c : Thread nD τ))) (M L' : Buf (Elt F) (mM.view.loc (c : Thread nD τ)))
    (kt vt : Buf (Elt F) (ktM.view.loc (c : Thread nD τ)))
    (fop : Buf (Elt F) (opM.view.loc (c : Thread nD τ))) (fom fol : Buf (Elt F) (omM.view.loc (c : Thread nD τ))) (fco : Buf (Elt F) (coM.view.loc (c : Thread nD τ)))
    (f5 : Buf (Elt F) (arg5.view.loc (c : Thread nD τ)))
    (hop : A.op c = opOf (stepO (arg2.view.read (Elt F) q) (arg3.view.read (Elt F) k) (arg4.view.read (Elt F) v) M O) (stepL (arg2.view.read (Elt F) q) (arg3.view.read (Elt F) k) M L'))
    (hom : A.om c = k0_pay21 (stepM (arg2.view.read (Elt F) q) (arg3.view.read (Elt F) k) M))
    (hol : A.ol c = k0_pay22 (stepL (arg2.view.read (Elt F) q) (arg3.view.read (Elt F) k) M L'))
    (hco : A.co c = coOf (A.op c) (A.op (pz c)) (A.om c) (A.om (pz c)) (A.ol c) (A.ol (pz c)))
    (K : PUnit → sProp 𝕄) :
    iprop(ghostB A Kn c ∗ levAts L lv ∗ owes (c : Thread nD τ) (Op c + Oz c) W
        ∗ hbPt c arg2 q ∗ hbPt c arg3 k ∗ hbPt c arg4 v ∗ hbPt c oM O ∗ hbPt c mM M ∗ hbPt c lM L' ∗ hbPt c ktM kt ∗ hbPt c vtM vt
        ∗ hbPt c opM fop ∗ hbPt c omM fom ∗ hbPt c olM fol ∗ hbPt c coM fco ∗ hbPt c arg5 f5
        ∗ (semsZero c ∗ (∃ W', owes (c : Thread nD τ) 0 W')
            ∗ hbPt c arg2 q ∗ hbPt c arg3 k ∗ hbPt c arg4 v
            ∗ (∃ f, ⌜arg5.view.read (Elt F) f = outOf (fun b => A.co (src c b))⌝ ∗ hbPt c arg5 f)
            ∗ hbAny c oM ∗ hbAny c mM ∗ hbAny c lM ∗ hbAny c ktM ∗ hbAny c vtM ∗ hbAny c opM ∗ hbAny c omM ∗ hbAny c olM
            ∗ hbAny c roM ∗ hbAny c rmM ∗ hbAny c rlM ∗ hbAny c coM ∗ hbAny c agM -∗ K ⟨⟩))
      ⊢ wp frame (wpE (defs₀ (F := F)) Variants.none c none) Set.univ (bodyOf (F := F) i arg2 harg2 arg3 harg3 arg4 harg4 arg5 harg5) K := by
  unfold bodyOf
  simp only [cc0__body_eq_skeleton]; unfold cc0__body_skel
  unfold ghostB
  iintro ⟨⟨#HI, #Hr12, HaB, Hat, HtZ, HtP, HcR, Hland⟩, #Hlev, HW, H2, H3, H4, HO, HM, HL, Hk, Hv, Hop, Hom, Hol, Hco, H5, Hc⟩
  sl_exec_parts
  sl_unfold_run_names
  -- the accumulators after the step, in closed form
  ihave HO := (show _ ⊢ (hbPt c oM (stepO (arg2.view.read (Elt F) q) (arg3.view.read (Elt F) k) (arg4.view.read (Elt F) v) M O) : sProp 𝕄) from Entails.of_eq (congrArg (fun f => (hbPt c oM f : sProp 𝕄)) (by
    simp -proj only [readCov_kt, readCov_vt, readAt_block, headO1, headO2, headO3, headO4, headO5, headO6, headO7]
    refine Eq.trans ?_ (canon_rO _ (headO (arg2.view.read (Elt F) q) (arg3.view.read (Elt F) k) (arg4.view.read (Elt F) v) M O) (fun h x => (stepO_at _ _ _ _ _ h x).symm) O)
    rfl))) $$ HO
  ihave HM := (show _ ⊢ (hbPt c mM (stepM (arg2.view.read (Elt F) q) (arg3.view.read (Elt F) k) M) : sProp 𝕄) from Entails.of_eq (congrArg (fun f => (hbPt c mM f : sProp 𝕄)) (by
    simp -proj only [readCov_kt, readCov_vt, readAt_block, headM1, headM2, headM3, headM4, headM5, headM6, headM7]
    refine Eq.trans ?_ (canon_rM _ (headM (arg2.view.read (Elt F) q) (arg3.view.read (Elt F) k) M) (fun h x => (stepM_at _ _ _ h x).symm) M)
    rfl))) $$ HM
  ihave HL := (show _ ⊢ (hbPt c lM (stepL (arg2.view.read (Elt F) q) (arg3.view.read (Elt F) k) M L') : sProp 𝕄) from Entails.of_eq (congrArg (fun f => (hbPt c lM f : sProp 𝕄)) (by
    simp -proj only [readCov_kt, readCov_vt, readAt_block, headL1, headL2, headL3, headL4, headL5, headL6, headL7]
    refine Eq.trans ?_ (canon_rL _ (headL (arg2.view.read (Elt F) q) (arg3.view.read (Elt F) k) M L') (fun h x => (stepL_at _ _ _ _ h x).symm) L')
    rfl))) $$ HL
  have h2' : k0_cond2 i = 1#1 := h2
  sl_exec_parts
  sl_unfold_run_names
  ihave Hop := (show _ ⊢ (hbPt c opM (opOf (stepO (arg2.view.read (Elt F) q) (arg3.view.read (Elt F) k) (arg4.view.read (Elt F) v) M O) (stepL (arg2.view.read (Elt F) q) (arg3.view.read (Elt F) k) M L')) : sProp 𝕄) from Entails.of_eq (congrArg (fun f => (hbPt c opM f : sProp 𝕄)) (by
    generalize (stepO (arg2.view.read (Elt F) q) (arg3.view.read (Elt F) k) (arg4.view.read (Elt F) v) M O) = O₁
    generalize (stepL (arg2.view.read (Elt F) q) (arg3.view.read (Elt F) k) M L') = L₁
    clear h2 h2'
    simp -proj only [headP_0, headP_1, headP_2, headP_3, headP_4, headP_5, headP_6, headP_7]
    refine canon_P (headP O₁ L₁) _ _ _ _ _ _ _ _ ?_ ?_ ?_ ?_ _ _ _ _ fop
    · exact pairP_cov _ _ _ _ _ _ _ _
    · exact pairP_cov _ _ _ _ _ _ _ _
    · exact pairP_cov _ _ _ _ _ _ _ _
    · exact pairP_cov _ _ _ _ _ _ _ _))) $$ Hop
  ihave Hom := (show _ ⊢ (hbPt c omM (k0_pay21 (stepM (arg2.view.read (Elt F) q) (arg3.view.read (Elt F) k) M)) : sProp 𝕄) from Entails.of_eq (congrArg (fun f => (hbPt c omM f : sProp 𝕄)) (om_stored _ _ _ _ _))) $$ Hom
  ihave Hol := (show _ ⊢ (hbPt c olM (k0_pay22 (stepL (arg2.view.read (Elt F) q) (arg3.view.read (Elt F) k) M L')) : sProp 𝕄) from Entails.of_eq (congrArg (fun f => (hbPt c olM f : sProp 𝕄)) (ol_stored _ _ _ _ _))) $$ Hol
  ihave Hop := (Entails.of_eq (show (hbPt c opM _ : sProp 𝕄) = vPt c opM (A.op c) by rw [vPt_eq c opM op_set, hop])) $$ Hop
  ihave Hom := (Entails.of_eq (show (hbPt c omM _ : sProp 𝕄) = vPt c omM (A.om c) by rw [vPt_eq c omM om_set, hom])) $$ Hom
  ihave Hol := (Entails.of_eq (show (hbPt c olM _ : sProp 𝕄) = vPt c olM (A.ol c) by rw [vPt_eq c olM ol_set, hol])) $$ Hol
  unfold landings barPay anyPt re12 at12 tokZ tokP crR
  icases Hland with ⟨⟨⟨⟨%g9, G9⟩, ⟨%g10, G10⟩, ⟨%g11, G11⟩⟩, #Q9, #Q10, #Q11⟩, ⟨⟨%g15, G15⟩, #Q15⟩, ⟨⟨%g16, G16⟩, #Q16⟩, ⟨⟨%g17, G17⟩, #Q17⟩⟩
  icases Hr12 with ⟨#R6, #R7, #R8, #R9, #R10, #R11, #R12, #R13, #R14, #R15, #R16, #R17⟩
  icases Hat with ⟨A6, A7, A8, A9, A10, A11, A12, A13, A14, A15, A16, A17⟩
  icases HtZ with ⟨T6, T7, T8, T9, T10, T11⟩
  icases HtP with ⟨T12, T13, T14, T15, T16, T17⟩
  icases HcR with ⟨C9, C10, C11, C15, C16, C17⟩
  ihave HW := (Entails.of_eq (show (owes (c : Thread nD τ) (Op c + Oz c) W : sProp 𝕄) = owes (c : Thread nD τ) (Op c + tallyAt (dC (pz c) 11) () (dmaAmt 11) + tallyAt (dC (pz c) 10) () (dmaAmt 10) + tallyAt (dC (pz c) 9) () (dmaAmt 9)) W by unfold Oz; simp only [add_assoc])) $$ HW
  iapply (send_dma A Kn c (pz c) (dev5_eq c _) 6 9 (by decide) (by decide) (by decide) (by decide) (Op c + tallyAt (dC (pz c) 11) () (dmaAmt 11) + tallyAt (dC (pz c) 10) () (dmaAmt 10)) W
      (α := _) (src := opM) (dst := roM) fullShare (A.op c) g9 rfl rfl (Entails.refl _)
      ((land_ro c (pz c) g9 (A.op c)).trans (Entails.of_eq (show (vPt (pz c) roM (A.op c) : sProp 𝕄) = vPt (pz c) roM (A.op (pz (pz c))) by rw [pz_pz])))) $$ [Hop G9 HW T6 T9]
  · isplitr; · iexact HI
    isplitl [Hop]; · iexact Hop
    isplitl [G9]; · iexact G9
    isplitl [HW]; · iexact HW
    isplitl [T6]; · iexact T6
    isplitr; · iexact R6
    isplitl [T9]; · iexact T9
    iexact Q9
  iintro ⟨C6, HW⟩
  sl_exec_parts
  iapply (send_dma A Kn c (pz c) (dev6_eq c _) 7 10 (by decide) (by decide) (by decide) (by decide) (Op c + tallyAt (dC (pz c) 11) () (dmaAmt 11)) W
      (α := _) (src := omM) (dst := rmM) fullShare (A.om c) g10 rfl rfl (Entails.refl _)
      ((land_rm c (pz c) g10 (A.om c)).trans (Entails.of_eq (show (vPt (pz c) rmM (A.om c) : sProp 𝕄) = vPt (pz c) rmM (A.om (pz (pz c))) by rw [pz_pz])))) $$ [Hom G10 HW T7 T10]
  · isplitr; · iexact HI
    isplitl [Hom]; · iexact Hom
    isplitl [G10]; · iexact G10
    isplitl [HW]; · iexact HW
    isplitl [T7]; · iexact T7
    isplitr; · iexact R7
    isplitl [T10]; · iexact T10
    iexact Q10
  iintro ⟨C7, HW⟩
  sl_exec_parts
  iapply (send_dma A Kn c (pz c) (dev7_eq c _) 8 11 (by decide) (by decide) (by decide) (by decide) (Op c) W
      (α := _) (src := olM) (dst := rlM) fullShare (A.ol c) g11 rfl rfl (Entails.refl _)
      ((land_rl c (pz c) g11 (A.ol c)).trans (Entails.of_eq (show (vPt (pz c) rlM (A.ol c) : sProp 𝕄) = vPt (pz c) rlM (A.ol (pz (pz c))) by rw [pz_pz])))) $$ [Hol G11 HW T8 T11]
  · isplitr; · iexact HI
    isplitl [Hol]; · iexact Hol
    isplitl [G11]; · iexact G11
    isplitl [HW]; · iexact HW
    isplitl [T8]; · iexact T8
    isplitr; · iexact R8
    isplitl [T11]; · iexact T11
    iexact Q11
  iintro ⟨C8, HW⟩
  sl_exec_parts
  iapply (wait_dma A Kn c 6 (by decide) (by decide) 0 (Op c) (lv_le _ 6 0 _ (by decide)) ((Op_above c).mono (by decide)) W (dst := opM) rfl) $$ [C6 HW A6]
  · isplitr; · iexact HI
    isplitr; · iexact Hlev
    isplitl [C6]; · iexact C6
    isplitl [HW]; · iexact HW
    iexact A6
  iintro ⟨⟨%W6, HW⟩, A6, Hop⟩
  ihave Hop := (show dmaPay A c 6 ⊢ (hbPt c opM (A.op c) : sProp 𝕄) from Entails.of_eq (vPt_eq c opM op_set (A.op c))) $$ Hop
  sl_exec_parts
  iapply (wait_dma A Kn c 9 (by decide) (by decide) 2 (Op c) (lv_le _ 9 2 _ (by decide)) (Op_above c) W6 (dst := roM) rfl) $$ [C9 HW A9]
  · isplitr; · iexact HI
    isplitr; · iexact Hlev
    isplitl [C9]; · iexact C9
    isplitl [HW]; · iexact HW
    iexact A9
  iintro ⟨⟨%W9, HW⟩, A9, Hro⟩
  ihave Hro := (show dmaPay A c 9 ⊢ (hbPt c roM (A.op (pz c)) : sProp 𝕄) from Entails.of_eq (vPt_eq c roM ro_set (A.op (pz c)))) $$ Hro
  sl_exec_parts
  iapply (wait_dma A Kn c 7 (by decide) (by decide) 0 (Op c) (lv_le _ 7 0 _ (by decide)) ((Op_above c).mono (by decide)) W9 (dst := omM) rfl) $$ [C7 HW A7]
  · isplitr; · iexact HI
    isplitr; · iexact Hlev
    isplitl [C7]; · iexact C7
    isplitl [HW]; · iexact HW
    iexact A7
  iintro ⟨⟨%W7, HW⟩, A7, Hom⟩
  ihave Hom := (show dmaPay A c 7 ⊢ (hbPt c omM (A.om c) : sProp 𝕄) from Entails.of_eq (vPt_eq c omM om_set (A.om c))) $$ Hom
  sl_exec_parts
  iapply (wait_dma A Kn c 10 (by decide) (by decide) 2 (Op c) (lv_le _ 10 2 _ (by decide)) (Op_above c) W7 (dst := rmM) rfl) $$ [C10 HW A10]
  · isplitr; · iexact HI
    isplitr; · iexact Hlev
    isplitl [C10]; · iexact C10
    isplitl [HW]; · iexact HW
    iexact A10
  iintro ⟨⟨%W10, HW⟩, A10, Hrm⟩
  ihave Hrm := (show dmaPay A c 10 ⊢ (hbPt c rmM (A.om (pz c)) : sProp 𝕄) from Entails.of_eq (vPt_eq c rmM rm_set (A.om (pz c)))) $$ Hrm
  sl_exec_parts
  iapply (wait_dma A Kn c 8 (by decide) (by decide) 0 (Op c) (lv_le _ 8 0 _ (by decide)) ((Op_above c).mono (by decide)) W10 (dst := olM) rfl) $$ [C8 HW A8]
  · isplitr; · iexact HI
    isplitr; · iexact Hlev
    isplitl [C8]; · iexact C8
    isplitl [HW]; · iexact HW
    iexact A8
  iintro ⟨⟨%W8, HW⟩, A8, Hol⟩
  ihave Hol := (show dmaPay A c 8 ⊢ (hbPt c olM (A.ol c) : sProp 𝕄) from Entails.of_eq (vPt_eq c olM ol_set (A.ol c))) $$ Hol
  sl_exec_parts
  iapply (wait_dma A Kn c 11 (by decide) (by decide) 2 (Op c) (lv_le _ 11 2 _ (by decide)) (Op_above c) W8 (dst := rlM) rfl) $$ [C11 HW A11]
  · isplitr; · iexact HI
    isplitr; · iexact Hlev
    isplitl [C11]; · iexact C11
    isplitl [HW]; · iexact HW
    iexact A11
  iintro ⟨⟨%W11, HW⟩, A11, Hrl⟩
  ihave Hrl := (show dmaPay A c 11 ⊢ (hbPt c rlM (A.ol (pz c)) : sProp 𝕄) from Entails.of_eq (vPt_eq c rlM rl_set (A.ol (pz c)))) $$ Hrl
  generalize hA1 : A.op c = op₁ at hop hco
  generalize hA2 : A.op (pz c) = ro₁ at hop hco
  generalize hA3 : A.om c = om₁ at hom hco
  generalize hA4 : A.om (pz c) = rm₁ at hom hco
  generalize hA5 : A.ol c = ol₁ at hol hco
  generalize hA6 : A.ol (pz c) = rl₁ at hol hco
  sl_exec_parts
  sl_unfold_run_names
  ihave Hco := (show _ ⊢ (hbPt c coM (A.co c) : sProp 𝕄) from Entails.of_eq (congrArg (fun f => (hbPt c coM f : sProp 𝕄)) (by
    rw [hco]
    clear hop hom hol hco hA1 hA2 hA3 hA4 hA5 hA6 h2 h2'
    simp -proj only [whole_om, whole_rm, whole_ol, whole_rl, wA_fold, wB_fold, headC_0, headC_1, headC_2, headC_3, headC_4, headC_5, headC_6, headC_7]
    refine canon_C (headC (k0_pay27 om₁ rm₁ ol₁ rl₁) (k0_pay28 om₁ rm₁ ol₁ rl₁) op₁ ro₁) _ _ _ _ _ _ _ _ ?_ ?_ ?_ ?_ _ _ _ _ fco
    · exact pairC_cov _ _ _ _ _ _ _ _
    · exact pairC_cov _ _ _ _ _ _ _ _
    · exact pairC_cov _ _ _ _ _ _ _ _
    · exact pairC_cov _ _ _ _ _ _ _ _))) $$ Hco
  ihave H5 := (show _ ⊢ (hbPt c arg5 (arg5.view.writes (Elt F) f5 [⟨Rect.unit (s := S4x32x8x128) (k0_off1 c) S1x32x8x128.size (k0_off1_inb i c h2'), k0_pay39 (A.co c)⟩]) : sProp 𝕄) from Entails.of_eq (congrArg (fun w => (hbPt c arg5 (arg5.view.writes (Elt F) f5 [⟨Rect.unit (s := S4x32x8x128) (k0_off1 c) S1x32x8x128.size (k0_off1_inb i c h2'), w⟩]) : sProp 𝕄)) (by
    rw [hco]
    clear hop hom hol hco hA1 hA2 hA3 hA4 hA5 hA6
    simp -proj only [whole_om, whole_rm, whole_ol, whole_rl, wA_fold, wB_fold, headC_0, headC_1, headC_2, headC_3, headC_4, headC_5, headC_6, headC_7]
    refine co_load (headC (k0_pay27 om₁ rm₁ ol₁ rl₁) (k0_pay28 om₁ rm₁ ol₁ rl₁) op₁ ro₁) _ _ _ _ _ _ _ _ ?_ ?_ ?_ ?_ _ _ _ _ _
    · exact pairC_cov _ _ _ _ _ _ _ _
    · exact pairC_cov _ _ _ _ _ _ _ _
    · exact pairC_cov _ _ _ _ _ _ _ _
    · exact pairC_cov _ _ _ _ _ _ _ _))) $$ H5
  ihave Hco := (Entails.of_eq (vPt_eq c coM co_set (A.co c)).symm) $$ Hco
  ihave Hco := (co_split c (A.co c)) $$ Hco
  icases Hco with ⟨HcoD, K12, K13, K14⟩
  ihave HW := (Entails.of_eq (show (owes (c : Thread nD τ) (Op c) W11 : sProp 𝕄) = owes (c : Thread nD τ) (0 + tallyAt (dC (pd c) 17) () (dmaAmt 17) + tallyAt (dC (py c) 16) () (dmaAmt 16) + tallyAt (dC (px c) 15) () (dmaAmt 15)) W11 by unfold Op; rw [zero_add])) $$ HW
  iapply (send_dma A Kn c (px c) (dev8_eq c _) 12 15 (by decide) (by decide) (by decide) (by decide) (0 + tallyAt (dC (pd c) 17) () (dmaAmt 17) + tallyAt (dC (py c) 16) () (dmaAmt 16)) W11
      (α := _) (src := coM) (dst := ag0) (shareTok fullShare 3 0) (A.co c) g15 rfl rfl (Entails.refl _)
      ((land_ag0 c (px c) g15 (A.co c)).trans (Entails.of_eq (show (agPt (px c) ag0 (A.co c) : sProp 𝕄) = agPt (px c) ag0 (A.co (px (px c))) by rw [px_px])))) $$ [K12 G15 HW T12 T15]
  · isplitr; · iexact HI
    isplitl [K12]; · iexact K12
    isplitl [G15]; · iexact G15
    isplitl [HW]; · iexact HW
    isplitl [T12]; · iexact T12
    isplitr; · iexact R12
    isplitl [T15]; · iexact T15
    iexact Q15
  iintro ⟨C12, HW⟩
  sl_exec_parts
  iapply (send_dma A Kn c (py c) (dev9_eq c _) 13 16 (by decide) (by decide) (by decide) (by decide) (0 + tallyAt (dC (pd c) 17) () (dmaAmt 17)) W11
      (α := _) (src := coM) (dst := ag1) (shareTok fullShare 3 1) (A.co c) g16 rfl rfl (Entails.refl _)
      ((land_ag1 c (py c) g16 (A.co c)).trans (Entails.of_eq (show (agPt (py c) ag1 (A.co c) : sProp 𝕄) = agPt (py c) ag1 (A.co (py (py c))) by rw [py_py])))) $$ [K13 G16 HW T13 T16]
  · isplitr; · iexact HI
    isplitl [K13]; · iexact K13
    isplitl [G16]; · iexact G16
    isplitl [HW]; · iexact HW
    isplitl [T13]; · iexact T13
    isplitr; · iexact R13
    isplitl [T16]; · iexact T16
    iexact Q16
  iintro ⟨C13, HW⟩
  sl_exec_parts
  iapply (send_dma A Kn c (pd c) (dev10_eq c _) 14 17 (by decide) (by decide) (by decide) (by decide) (0) W11
      (α := _) (src := coM) (dst := ag2) (shareTok fullShare 3 2) (A.co c) g17 rfl rfl (Entails.refl _)
      ((land_ag2 c (pd c) g17 (A.co c)).trans (Entails.of_eq (show (agPt (pd c) ag2 (A.co c) : sProp 𝕄) = agPt (pd c) ag2 (A.co (pd (pd c))) by rw [pd_pd])))) $$ [K14 G17 HW T14 T17]
  · isplitr; · iexact HI
    isplitl [K14]; · iexact K14
    isplitl [G17]; · iexact G17
    isplitl [HW]; · iexact HW
    isplitl [T14]; · iexact T14
    isplitr; · iexact R14
    isplitl [T17]; · iexact T17
    iexact Q17
  iintro ⟨C14, HW⟩
  sl_exec_parts
  iapply (wait_dma A Kn c 12 (by decide) (by decide) 0 0 (lv_le _ 12 0 _ (by decide)) Above.zero W11 (dst := coM) rfl) $$ [C12 HW A12]
  · isplitr; · iexact HI
    isplitr; · iexact Hlev
    isplitl [C12]; · iexact C12
    isplitl [HW]; · iexact HW
    iexact A12
  iintro ⟨⟨%W12, HW⟩, A12, K12⟩
  ihave K12 := (show dmaPay A c 12 ⊢ (coSh c 0 (A.co c) : sProp 𝕄) from Entails.refl _) $$ K12
  sl_exec_parts
  iapply (wait_dma A Kn c 13 (by decide) (by decide) 0 0 (lv_le _ 13 0 _ (by decide)) Above.zero W12 (dst := coM) rfl) $$ [C13 HW A13]
  · isplitr; · iexact HI
    isplitr; · iexact Hlev
    isplitl [C13]; · iexact C13
    isplitl [HW]; · iexact HW
    iexact A13
  iintro ⟨⟨%W13, HW⟩, A13, K13⟩
  ihave K13 := (show dmaPay A c 13 ⊢ (coSh c 1 (A.co c) : sProp 𝕄) from Entails.refl _) $$ K13
  sl_exec_parts
  iapply (wait_dma A Kn c 14 (by decide) (by decide) 0 0 (lv_le _ 14 0 _ (by decide)) Above.zero W13 (dst := coM) rfl) $$ [C14 HW A14]
  · isplitr; · iexact HI
    isplitr; · iexact Hlev
    isplitl [C14]; · iexact C14
    isplitl [HW]; · iexact HW
    iexact A14
  iintro ⟨⟨%W14, HW⟩, A14, K14⟩
  ihave K14 := (show dmaPay A c 14 ⊢ (coSh c 2 (A.co c) : sProp 𝕄) from Entails.refl _) $$ K14
  ihave Hco := (co_join c (A.co c)) $$ [HcoD K12 K13 K14]
  · isplitl [HcoD]; · iexact HcoD
    isplitl [K12]; · iexact K12
    isplitl [K13]; · iexact K13
    iexact K14
  ihave Hco := (Entails.of_eq (vPt_eq c coM co_set (A.co c))) $$ Hco
  sl_exec_parts
  iapply (wait_dma A Kn c 15 (by decide) (by decide) 3 0 (lv_le _ 15 3 _ (by decide)) Above.zero W14 (dst := ag0) rfl) $$ [C15 HW A15]
  · isplitr; · iexact HI
    isplitr; · iexact Hlev
    isplitl [C15]; · iexact C15
    isplitl [HW]; · iexact HW
    iexact A15
  iintro ⟨⟨%W15, HW⟩, A15, K15⟩
  ihave K15 := (show dmaPay A c 15 ⊢ (agPt c ag0 (A.co (px c)) : sProp 𝕄) from Entails.refl _) $$ K15
  unfold agPt
  icases K15 with ⟨%f15, %hf15, K15⟩
  sl_exec_parts
  iapply (wait_dma A Kn c 16 (by decide) (by decide) 3 0 (lv_le _ 16 3 _ (by decide)) Above.zero W15 (dst := ag1) rfl) $$ [C16 HW A16]
  · isplitr; · iexact HI
    isplitr; · iexact Hlev
    isplitl [C16]; · iexact C16
    isplitl [HW]; · iexact HW
    iexact A16
  iintro ⟨⟨%W16, HW⟩, A16, K16⟩
  ihave K16 := (show dmaPay A c 16 ⊢ (agPt c ag1 (A.co (py c)) : sProp 𝕄) from Entails.refl _) $$ K16
  unfold agPt
  icases K16 with ⟨%f16, %hf16, K16⟩
  sl_exec_parts
  iapply (wait_dma A Kn c 17 (by decide) (by decide) 3 0 (lv_le _ 17 3 _ (by decide)) Above.zero W16 (dst := ag2) rfl) $$ [C17 HW A17]
  · isplitr; · iexact HI
    isplitr; · iexact Hlev
    isplitl [C17]; · iexact C17
    isplitl [HW]; · iexact HW
    iexact A17
  iintro ⟨⟨%W17, HW⟩, A17, K17⟩
  ihave K17 := (show dmaPay A c 17 ⊢ (agPt c ag2 (A.co (pd c)) : sProp 𝕄) from Entails.refl _) $$ K17
  unfold agPt
  icases K17 with ⟨%f17, %hf17, K17⟩
  imod (close_all A Kn c) $$ [HaB A6 A7 A8 A9 A10 A11 A12 A13 A14 A15 A16 A17] with Hsem
  · isplitr; · iexact HI
    isplitl [HaB]; · iexact HaB
    isplitl [A6]; · iexact A6
    isplitl [A7]; · iexact A7
    isplitl [A8]; · iexact A8
    isplitl [A9]; · iexact A9
    isplitl [A10]; · iexact A10
    isplitl [A11]; · iexact A11
    isplitl [A12]; · iexact A12
    isplitl [A13]; · iexact A13
    isplitl [A14]; · iexact A14
    isplitl [A15]; · iexact A15
    isplitl [A16]; · iexact A16
    iexact A17
  sl_exec_parts
  sl_unfold_run_names
  sl_step
  iapply Hc
  isplitl [Hsem]; · iexact Hsem
  isplitl [HW]; · iexists _; iexact HW
  isplitl [H2]; · iexact H2
  isplitl [H3]; · iexact H3
  isplitl [H4]; · iexact H4
  isplitl [H5]
  · iexists _
    isplitr
    rotate_left
    · iexact H5
    ipureintro
    refine out_read arg5.view f5 (fun b => A.co (src c b)) _ _ _ _ (bat c) (bat (px c)) (bat (py c)) (bat (pd c)) (off1_bat c) (off2_bat c) (off3_bat c) (off4_bat c) (bats c) _ _ _ _ _ _ _ _ ?_ ?_ ?_ ?_
    · show _ = k0_pay39 (A.co (src c (bat c))); rw [src_bat]
    · show _ = k0_pay39 (A.co (src c (bat (px c)))); rw [src_px, ← hf15]; exact slab0 f15 _
    · show _ = k0_pay39 (A.co (src c (bat (py c)))); rw [src_py, ← hf16]; exact slab1 f16 _
    · show _ = k0_pay39 (A.co (src c (bat (pd c)))); rw [src_pd, ← hf17]; exact slab2 f17 _
  isplitl [HO]; · unfold hbAny; iexists _; iexact HO
  isplitl [HM]; · unfold hbAny; iexists _; iexact HM
  isplitl [HL]; · unfold hbAny; iexists _; iexact HL
  isplitl [Hk]; · unfold hbAny; iexists _; iexact Hk
  isplitl [Hv]; · unfold hbAny; iexists _; iexact Hv
  isplitl [Hop]; · unfold hbAny; iexists _; iexact Hop
  isplitl [Hom]; · unfold hbAny; iexists _; iexact Hom
  isplitl [Hol]; · unfold hbAny; iexists _; iexact Hol
  isplitl [Hro]; · unfold hbAny; iexists _; iexact Hro
  isplitl [Hrm]; · unfold hbAny; iexists _; iexact Hrm
  isplitl [Hrl]; · unfold hbAny; iexists _; iexact Hrl
  isplitl [Hco]; · unfold hbAny; iexists _; iexact Hco
  iapply (ag_join c)
  unfold anyPt
  isplitl [K15]; · iexists _; iexact K15
  isplitl [K16]; · iexists _; iexact K16
  iexists _; iexact K17

end Cert.KernelIdeal.Hand
end
-- ==== Proof.Values.lean ====
module

public import proofs.«01_k».proof.Proof.Gen.KernelIdeal.Launch
public import proofs.«01_k».proof.Proof.Gen.KernelIdeal.Skeleton
public import Idealize.ShloMosaic.Lib.Pipeline.Frame
public import Idealize.ShloMosaic.Lib.Tactic
public import Idealize.ShloMosaic.Lib.Transfers
public import Idealize.ShloMosaic.Lib.Rounds
public import Idealize.ShloMosaic.Lib.Ring
public import proofs.«01_k».proof.Proof.Step
public import proofs.«01_k».proof.Proof.Protocol
public import proofs.«01_k».proof.Proof.Ghost
public import proofs.«01_k».proof.Proof.Comb
public import proofs.«01_k».proof.Proof.Moves
public import proofs.«01_k».proof.Proof.Gen.KernelIdeal.Regions
public import Idealize.ShloMosaic.Lib.Pipeline.FrameBody
public import Idealize.ShloMosaic.Lib.Pipeline.ValueKit

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.Rounds Idealize.ShloMosaic.Pipeline Idealize.ShloMosaic.Transfers Idealize.ShloMosaic.Ring
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ UU ℕ

variable (m : (ℓ : Loc nD τ sig) → Buf (Elt F) ℓ)

/-! ## The prefetched table: every device's batch -/

/-- The one table of device `c`: the batch it computes. -/
def tbl (c : Dev nD) : pre0.Contents (Elt F) := fun | 0 => (fun _ => BitVec.ofNat 32 (c.val / 2) : (main_v11.ty).Contents (Elt F)) | ⟨_ + 1, h⟩ => absurd h (Nat.not_lt.2 (Nat.le_add_left _ _))

theorem tbl_at (c : Dev nD) (r : Rect S1) (h : r.shape.numel = 1) : (tbl (F := F) c).at 0 r h = (BitVec.ofNat 32 (c.val / 2)) := rfl

theorem tr0_eq (c : Dev nD) (i : grid0.Coords) : cc0_transform_0 inb_S1_S1_0 numel1_S1 (tbl (F := F) c) i = ![c.val / 2, 0, 0, 0] := by
  have e : (BitVec.ofNat 32 (c.val / 2)).toNat = c.val / 2 := by revert c; decide
  unfold cc0_transform_0
  rw [tbl_at c]
  show ![(BitVec.ofNat 32 (c.val / 2)).toNat, 0, 0, 0] = _
  rw [e]
theorem tr1_eq (c : Dev nD) (i : grid0.Coords) : cc0_transform_1 inb_S1_S1_0 numel1_S1 (tbl (F := F) c) i = ![c.val / 2, (i 0).val, 0, 0] := by
  have e : (BitVec.ofNat 32 (c.val / 2)).toNat = c.val / 2 := by revert c; decide
  have e' : ∀ x : Fin 4, (BitVec.ofNat 32 x.val).toNat = x.val := by decide
  unfold cc0_transform_1
  rw [tbl_at c]
  show ![(BitVec.ofNat 32 (c.val / 2)).toNat, (BitVec.ofNat 32 (i 0).val).toNat, 0, 0] = _
  rw [e, e' (i 0)]
theorem tr2_eq (c : Dev nD) (i : grid0.Coords) : cc0_transform_2 inb_S1_S1_0 numel1_S1 (tbl (F := F) c) i = ![c.val / 2, (i 0).val, 0, 0] := by
  have e : (BitVec.ofNat 32 (c.val / 2)).toNat = c.val / 2 := by revert c; decide
  have e' : ∀ x : Fin 4, (BitVec.ofNat 32 x.val).toNat = x.val := by decide
  unfold cc0_transform_2
  rw [tbl_at c]
  show ![(BitVec.ofNat 32 (c.val / 2)).toNat, (BitVec.ofNat 32 (i 0).val).toNat, 0, 0] = _
  rw [e, e' (i 0)]

theorem inbQB : ∀ (c : Dev nD) a, ((![c.val / 2, 0, 0, 0] : Fin 4 → ℕ) a + 1) * S1x32x8x128.size a ≤ S4x32x8x128.size a := by decide
theorem inbKB : ∀ (c : Dev nD) (x : Fin 4) a, ((![c.val / 2, x.val, 0, 0] : Fin 4 → ℕ) a + 1) * S1x1024x8x128.size a ≤ S4x4096x8x128.size a := by decide

theorem tbl_ok (c : Dev nD) : ok0 (tbl (F := F) c) :=
  ⟨fun i => ⟨by rw [tr0_eq]; exact inbQB c, Or.inl rfl⟩, fun i => ⟨by rw [tr1_eq]; exact inbKB c (i 0), Or.inl rfl⟩, fun i => ⟨by rw [tr2_eq]; exact inbKB c (i 0), Or.inl rfl⟩⟩

/-- Every device's admissible table. -/
def adm (c : Dev nD) : (p : Fin 1) → (pcfgs (F := F) p).Adm := fun _ => ⟨tbl c, tbl_ok c⟩

/-- The host program computes the table. -/
theorem v11_eq (c : Dev nD) : V1 m c main_v11 = (tbl (F := F) c) 0 := by
  have e : V1 m c main_v11 = (broadcastInDim S1 ![] bcast_S_S1 (addi (muli (constantI S_ 32 2#32) (Host.remui (Host.divui (constantI S_ 32 (Dev.word c)) (constantI S_ 32 4#32)) (constantI S_ 32 2#32)))
      (Host.remui (Host.divui (constantI S_ 32 (Dev.word c)) (constantI S_ 32 2#32)) (constantI S_ 32 2#32)) : (⟨S_, .i32⟩ : BufTy).Contents (Elt F)) : (⟨S1, .i32⟩ : BufTy).Contents (Elt F)) := by
    show StableHlo.after (hostOps0 c) (V0 m c) main_v11 = _
    rw [hostOps0]
    simp only [StableHlo.after_cons, StableHlo.after_nil, StableHlo.nullary_result, StableHlo.unary_result, StableHlo.binary_result]
    rfl
  rw [e]
  funext j
  have h : ∀ c : Dev nD, IntOp.addi (IntOp.muli 2#32 (IntOp.remui .host (IntOp.divui .host (Dev.word c) 4#32) 2#32)) (IntOp.remui .host (IntOp.divui .host (Dev.word c) 2#32) 2#32) = BitVec.ofNat 32 (c.val / 2) := by decide
  exact h c

/-! ## Blocks, accumulators, what is sent -/

abbrev tt (n : ℕ) : Fin grid0.N := ⟨n % 4, by rw [N_0]; exact Nat.mod_lt _ (by decide)⟩

/-- The blocks of device `c` at a point. -/
def qB (c : Dev nD) (t : Fin grid0.N) : Vec F S1x32x8x128 .f32 := fun j => m ((c : Thread nD τ).loc main_arg0) (qIx c j)
where
  /-- Where an element of the query block lies. -/
  qIx (c : Dev nD) (j : S1x32x8x128.Idx) : S4x32x8x128.Idx := fun e => match e with
    | 0 => (⟨c.val / 2, by have : c.val < 8 := c.isLt; omega⟩ : Fin 4) | 1 => (j 1 : Fin 32) | 2 => (j 2 : Fin 8) | 3 => (j 3 : Fin 128)
/-- Where an element of a key block lies. -/
def kIx (c : Dev nD) (t : Fin grid0.N) (j : S1x1024x8x128.Idx) : S4x4096x8x128.Idx := fun e => match e with
    | 0 => (⟨c.val / 2, by have : c.val < 8 := c.isLt; omega⟩ : Fin 4)
    | 1 => (⟨1024 * t.val + (j 1).val, by have h1 : (j 1).val < 1024 := (j 1).isLt; have h2 : t.val < 4 := N_0 ▸ t.isLt; omega⟩ : Fin 4096)
    | 2 => (j 2 : Fin 8) | 3 => (j 3 : Fin 128)
def kB (c : Dev nD) (t : Fin grid0.N) : Vec F S1x1024x8x128 .f32 := fun j => m ((c : Thread nD τ).loc main_arg1) (kIx c t j)
def vB (c : Dev nD) (t : Fin grid0.N) : Vec F S1x1024x8x128 .f32 := fun j => m ((c : Thread nD τ).loc main_arg2) (kIx c t j)

theorem coords_val (t : Fin grid0.N) : ((grid0.coords t) 0).val = t.val := by revert t; decide

set_option backward.isDefEq.respectTransparency.types false in
theorem blk0_read (c : Dev nD) (t : Fin grid0.N) (f : Buf (Elt F) ((c : Thread nD τ).loc main_arg0)) :
    (((win0 (adm (F := F) c 0)) 0).blk t).view.read (Elt F) f = fun j => f (qB.qIx c j) := by
  funext j
  refine congrArg (f : S4x32x8x128.Idx → _) (funext fun a => Fin.ext ?_)
  have h := congrFun (tr0_eq (F := F) c (grid0.coords t)) a
  have h0 : (j 0).val < 1 := (j 0).isLt
  show cc0_transform_0 inb_S1_S1_0 numel1_S1 (tbl (F := F) c) (grid0.coords t) a * S1x32x8x128.size a + 1 * (j a).val = _
  rw [h]
  fin_cases a
  · show c.val / 2 * 1 + 1 * (j 0).val = c.val / 2; omega
  · show 0 * 32 + 1 * (j 1).val = (j 1).val; omega
  · show 0 * 8 + 1 * (j 2).val = (j 2).val; omega
  · show 0 * 128 + 1 * (j 3).val = (j 3).val; omega

set_option backward.isDefEq.respectTransparency.types false in
theorem blk1_read (c : Dev nD) (t : Fin grid0.N) (f : Buf (Elt F) ((c : Thread nD τ).loc main_arg1)) :
    (((win0 (adm (F := F) c 0)) 1).blk t).view.read (Elt F) f = fun j => f (kIx c t j) := by
  funext j
  refine congrArg (f : S4x4096x8x128.Idx → _) (funext fun a => Fin.ext ?_)
  have h := congrFun (tr1_eq (F := F) c (grid0.coords t)) a
  have h0 : (j 0).val < 1 := (j 0).isLt
  have ht := coords_val t
  show cc0_transform_1 inb_S1_S1_0 numel1_S1 (tbl (F := F) c) (grid0.coords t) a * S1x1024x8x128.size a + 1 * (j a).val = _
  rw [h]
  fin_cases a
  · show c.val / 2 * 1 + 1 * (j 0).val = c.val / 2; omega
  · show ((grid0.coords t) 0).val * 1024 + 1 * (j 1).val = 1024 * t.val + (j 1).val; omega
  · show 0 * 8 + 1 * (j 2).val = (j 2).val; omega
  · show 0 * 128 + 1 * (j 3).val = (j 3).val; omega

set_option backward.isDefEq.respectTransparency.types false in
theorem blk2_read (c : Dev nD) (t : Fin grid0.N) (f : Buf (Elt F) ((c : Thread nD τ).loc main_arg2)) :
    (((win0 (adm (F := F) c 0)) 2).blk t).view.read (Elt F) f = fun j => f (kIx c t j) := by
  funext j
  refine congrArg (f : S4x4096x8x128.Idx → _) (funext fun a => Fin.ext ?_)
  have h := congrFun (tr2_eq (F := F) c (grid0.coords t)) a
  have h0 : (j 0).val < 1 := (j 0).isLt
  have ht := coords_val t
  show cc0_transform_2 inb_S1_S1_0 numel1_S1 (tbl (F := F) c) (grid0.coords t) a * S1x1024x8x128.size a + 1 * (j a).val = _
  rw [h]
  fin_cases a
  · show c.val / 2 * 1 + 1 * (j 0).val = c.val / 2; omega
  · show ((grid0.coords t) 0).val * 1024 + 1 * (j 1).val = 1024 * t.val + (j 1).val; omega
  · show 0 * 8 + 1 * (j 2).val = (j 2).val; omega
  · show 0 * 128 + 1 * (j 3).val = (j 3).val; omega

/-- The accumulators of device `c` after `n` points. -/
def accM (c : Dev nD) : ℕ → Vec F S8x32x1 .f32
  | 0 => k0_pay6
  | n + 1 => stepM (qB m c (tt n)) (kB m c (tt n)) (accM c n)
def accL (c : Dev nD) : ℕ → Vec F S8x32x1 .f32
  | 0 => k0_pay7
  | n + 1 => stepL (qB m c (tt n)) (kB m c (tt n)) (accM m c n) (accL c n)
def accO (c : Dev nD) : ℕ → Vec F S32x8x128 .f32
  | 0 => k0_pay8
  | n + 1 => stepO (qB m c (tt n)) (kB m c (tt n)) (vB m c (tt n)) (accM m c n) (accO c n)

def opV (c : Dev nD) : Vec F S1x32x8x128 .bf16 := opOf (accO m c 4) (accL m c 4)
def omV (c : Dev nD) : Vec F S1x8x32x1 .f32 := k0_pay21 (accM m c 4)
def olV (c : Dev nD) : Vec F S1x8x32x1 .f32 := k0_pay22 (accL m c 4)
def coV (c : Dev nD) : Vec F S32x8x128 .bf16 := coOf (opV m c) (opV m (pz c)) (omV m c) (omV m (pz c)) (olV m c) (olV m (pz c))

/-- What every device sends. -/
def sent : Sent F := ⟨opV m, omV m, olV m, coV m⟩

/-- The result at device `c`. -/
def resV (c : Dev nD) : Vec F S4x32x8x128 .f32 := outOf fun b => coV m (src c b)

end Cert.KernelIdeal.Hand
end
-- ==== Proof.Points.lean ====
module

public import proofs.«01_k».proof.Proof.Gen.KernelIdeal.Launch
public import proofs.«01_k».proof.Proof.Gen.KernelIdeal.Skeleton
public import Idealize.ShloMosaic.Lib.Pipeline.Frame
public import Idealize.ShloMosaic.Lib.Tactic
public import Idealize.ShloMosaic.Lib.Transfers
public import Idealize.ShloMosaic.Lib.Rounds
public import Idealize.ShloMosaic.Lib.Ring
public import proofs.«01_k».proof.Proof.Step
public import proofs.«01_k».proof.Proof.Protocol
public import proofs.«01_k».proof.Proof.Ghost
public import proofs.«01_k».proof.Proof.FirstBody
public import proofs.«01_k».proof.Proof.MidBody
public import proofs.«01_k».proof.Proof.LastBody
public import proofs.«01_k».proof.Proof.Values
public import proofs.«01_k».proof.Proof.Gen.KernelIdeal.Regions
public import Idealize.ShloMosaic.Lib.Pipeline.FrameBody
public import Idealize.ShloMosaic.Lib.Pipeline.ValueKit

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.Rounds Idealize.ShloMosaic.Pipeline Idealize.ShloMosaic.Transfers Idealize.ShloMosaic.Ring
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ UU ℕ

variable (m : (ℓ : Loc nD τ sig) → Buf (Elt F) ℓ)

/-! ## The state between points -/

/-- The thirteen scratch buffers, contents not chosen. -/
def scr (c : Dev nD) : sProp 𝕄 :=
  iprop(hbAny c oM ∗ hbAny c mM ∗ hbAny c lM ∗ hbAny c ktM ∗ hbAny c vtM ∗ hbAny c opM ∗ hbAny c omM ∗ hbAny c olM ∗ hbAny c roM ∗ hbAny c rmM ∗ hbAny c rlM ∗ hbAny c coM ∗ hbAny c agM)

/-- Before the first point, -/
def PhiA (c : Dev nD) : sProp 𝕄 := iprop((∃ K, ghostA (sent m) K c) ∗ levAts L lv ∗ scr c)
/-- after `n` points, the barrier behind, -/
def PhiB (c : Dev nD) (n : ℕ) : sProp 𝕄 :=
  iprop((∃ K, ghostB (sent m) K c) ∗ levAts L lv ∗ eqPt c oM (accO m c n) ∗ eqPt c mM (accM m c n) ∗ eqPt c lM (accL m c n)
    ∗ hbAny c ktM ∗ hbAny c vtM ∗ hbAny c opM ∗ hbAny c omM ∗ hbAny c olM ∗ hbAny c coM)
/-- and after the last point. -/
def PhiC (c : Dev nD) : sProp 𝕄 := iprop(semsZero c ∗ scr c)

def Phi (c : Dev nD) : ℕ → sProp 𝕄
  | 0 => PhiA m c
  | 1 => PhiB m c 1
  | 2 => PhiB m c 2
  | 3 => PhiB m c 3
  | _ => PhiC c

/-- What device `c` owes before a point. -/
def owedAt (c : Dev nD) : ℕ → CellTallies nD τ sig Unit
  | 0 => O₀ c
  | 1 => Op c + Oz c
  | 2 => Op c + Oz c
  | 3 => Op c + Oz c
  | _ => 0

/-! ## Whole memrefs -/

theorem own_open (c : Dev nD) {S : Shape} {e : EltTy} (M : Memref sig .tc .vmem S e) (hM : M.IsWhole) (X : S.Idx → Elt F e) :
    (owns (c : Thread nD τ) M fullShare X : sProp 𝕄) ⊢ iprop(∃ f, ⌜M.view.read (Elt F) f = X⌝ ∗ hbPt c M f) := by
  unfold owns
  iintro ⟨%f, %h, H⟩
  iexists f
  isplitr; · ipureintro; exact h
  iapply (Entails.of_eq (vPt_eq c M hM.set_eq_univ f)); iexact H

theorem own_close (c : Dev nD) {S : Shape} {e : EltTy} (M : Memref sig .tc .vmem S e) (hM : M.IsWhole) (X : S.Idx → Elt F e) (f : Buf (Elt F) (M.view.loc (c : Thread nD τ))) (h : M.view.read (Elt F) f = X) :
    (hbPt c M f : sProp 𝕄) ⊢ owns (c : Thread nD τ) M fullShare X := by
  unfold owns
  iintro H
  iexists f
  isplitr; · ipureintro; exact h
  iapply (Entails.of_eq (vPt_eq c M hM.set_eq_univ f).symm); iexact H

/-! ## One point -/

theorem pointFirst (c : Dev nD) (i : grid0.Coords) (arg2 : Memref sig .tc .vmem S1x32x8x128 .f32) (harg2 : arg2.IsWhole) (arg3 : Memref sig .tc .vmem S1x1024x8x128 .f32) (harg3 : arg3.IsWhole) (arg4 : Memref sig .tc .vmem S1x1024x8x128 .f32) (harg4 : arg4.IsWhole) (arg5 : Memref sig .tc .vmem S4x32x8x128 .f32) (harg5 : arg5.IsWhole)
    (h1 : k0_cond1 i = 1#1) (h2 : ¬ k0_cond2 i = 1#1) (P : sProp 𝕄) :
    iprop(PhiA m c ∗ (∃ W, owes (c : Thread nD τ) (O₀ c) W) ∗ owns (c : Thread nD τ) arg2 fullShare (qB m c (tt 0)) ∗ owns (c : Thread nD τ) arg3 fullShare (kB m c (tt 0)) ∗ owns (c : Thread nD τ) arg4 fullShare (vB m c (tt 0)) ∗ P)
      ⊢ wp frame (wpE (defs₀ (F := F)) Variants.none c none) Set.univ (bodyOf (F := F) i arg2 harg2 arg3 harg3 arg4 harg4 arg5 harg5) fun _ =>
        iprop(PhiB m c 1 ∗ (∃ W, owes (c : Thread nD τ) (Op c + Oz c) W) ∗ owns (c : Thread nD τ) arg2 fullShare (qB m c (tt 0)) ∗ owns (c : Thread nD τ) arg3 fullShare (kB m c (tt 0)) ∗ owns (c : Thread nD τ) arg4 fullShare (vB m c (tt 0)) ∗ P) := by
  unfold PhiA PhiB scr
  iintro ⟨⟨⟨%K, HG⟩, #Hlev, HO, HM, HL, Hk, Hv, Hop, Hom, Hol, Hro, Hrm, Hrl, Hco, Hag⟩, ⟨%W, HW⟩, H2, H3, H4, HP⟩
  ihave H2 := (own_open c arg2 harg2 _) $$ H2
  ihave H3 := (own_open c arg3 harg3 _) $$ H3
  ihave H4 := (own_open c arg4 harg4 _) $$ H4
  icases H2 with ⟨%q, %hq, H2⟩
  icases H3 with ⟨%k, %hk, H3⟩
  icases H4 with ⟨%v, %hv, H4⟩
  ihave HO := (show (hbAny c oM : sProp 𝕄) ⊢ iprop(∃ f, hbPt c oM f) from .rfl) $$ HO
  ihave HM := (show (hbAny c mM : sProp 𝕄) ⊢ iprop(∃ f, hbPt c mM f) from .rfl) $$ HM
  ihave HL := (show (hbAny c lM : sProp 𝕄) ⊢ iprop(∃ f, hbPt c lM f) from .rfl) $$ HL
  ihave Hk := (show (hbAny c ktM : sProp 𝕄) ⊢ iprop(∃ f, hbPt c ktM f) from .rfl) $$ Hk
  ihave Hv := (show (hbAny c vtM : sProp 𝕄) ⊢ iprop(∃ f, hbPt c vtM f) from .rfl) $$ Hv
  icases HO with ⟨%fo, HO⟩
  icases HM with ⟨%fm, HM⟩
  icases HL with ⟨%fl, HL⟩
  icases Hk with ⟨%fk, Hk⟩
  icases Hv with ⟨%fv, Hv⟩
  iapply (firstRun (sent m) K c W i arg2 harg2 arg3 harg3 arg4 harg4 arg5 harg5 h1 h2 q k v fo fm fl fk fv _)
  isplitl [HG]; · iexact HG
  isplitr; · iexact Hlev
  isplitl [Hro]; · iexact Hro
  isplitl [Hrm]; · iexact Hrm
  isplitl [Hrl]; · iexact Hrl
  isplitl [Hag]; · iexact Hag
  isplitl [HW]; · iexact HW
  isplitl [H2]; · iexact H2
  isplitl [H3]; · iexact H3
  isplitl [H4]; · iexact H4
  isplitl [HO]; · iexact HO
  isplitl [HM]; · iexact HM
  isplitl [HL]; · iexact HL
  isplitl [Hk]; · iexact Hk
  isplitl [Hv]; · iexact Hv
  rw [hq, hk, hv]
  iintro ⟨HG, HW, H2, H3, H4, HO, HM, HL, Hk, Hv⟩
  isplitr [HW H2 H3 H4 HP]
  · isplitl [HG]; · iexists K; iexact HG
    isplitr; · iexact Hlev
    isplitl [HO]; · iexact HO
    isplitl [HM]; · iexact HM
    isplitl [HL]; · iexact HL
    isplitl [Hk]; · iexact Hk
    isplitl [Hv]; · iexact Hv
    isplitl [Hop]; · iexact Hop
    isplitl [Hom]; · iexact Hom
    isplitl [Hol]; · iexact Hol
    iexact Hco
  isplitl [HW]; · iexact HW
  isplitl [H2]; · iapply (own_close c arg2 harg2 _ q hq); iexact H2
  isplitl [H3]; · iapply (own_close c arg3 harg3 _ k hk); iexact H3
  isplitl [H4]; · iapply (own_close c arg4 harg4 _ v hv); iexact H4
  iexact HP

theorem pointMid (n : ℕ) (c : Dev nD) (i : grid0.Coords) (arg2 : Memref sig .tc .vmem S1x32x8x128 .f32) (harg2 : arg2.IsWhole) (arg3 : Memref sig .tc .vmem S1x1024x8x128 .f32) (harg3 : arg3.IsWhole) (arg4 : Memref sig .tc .vmem S1x1024x8x128 .f32) (harg4 : arg4.IsWhole) (arg5 : Memref sig .tc .vmem S4x32x8x128 .f32) (harg5 : arg5.IsWhole)
    (h1 : ¬ k0_cond1 i = 1#1) (h2 : ¬ k0_cond2 i = 1#1) (P : sProp 𝕄) :
    iprop(PhiB m c n ∗ (∃ W, owes (c : Thread nD τ) (Op c + Oz c) W) ∗ owns (c : Thread nD τ) arg2 fullShare (qB m c (tt n)) ∗ owns (c : Thread nD τ) arg3 fullShare (kB m c (tt n)) ∗ owns (c : Thread nD τ) arg4 fullShare (vB m c (tt n)) ∗ P)
      ⊢ wp frame (wpE (defs₀ (F := F)) Variants.none c none) Set.univ (bodyOf (F := F) i arg2 harg2 arg3 harg3 arg4 harg4 arg5 harg5) fun _ =>
        iprop(PhiB m c (n + 1) ∗ (∃ W, owes (c : Thread nD τ) (Op c + Oz c) W) ∗ owns (c : Thread nD τ) arg2 fullShare (qB m c (tt n)) ∗ owns (c : Thread nD τ) arg3 fullShare (kB m c (tt n)) ∗ owns (c : Thread nD τ) arg4 fullShare (vB m c (tt n)) ∗ P) := by
  unfold PhiB
  iintro ⟨⟨HG, #Hlev, HO, HM, HL, Hk, Hv, Hop, Hom, Hol, Hco⟩, HW, H2, H3, H4, HP⟩
  ihave H2 := (own_open c arg2 harg2 _) $$ H2
  ihave H3 := (own_open c arg3 harg3 _) $$ H3
  ihave H4 := (own_open c arg4 harg4 _) $$ H4
  icases H2 with ⟨%q, %hq, H2⟩
  icases H3 with ⟨%k, %hk, H3⟩
  icases H4 with ⟨%v, %hv, H4⟩
  ihave HO := (eqPt_elim c oM (accO m c n)) $$ HO
  ihave HM := (eqPt_elim c mM (accM m c n)) $$ HM
  ihave HL := (eqPt_elim c lM (accL m c n)) $$ HL
  ihave Hk := (show (hbAny c ktM : sProp 𝕄) ⊢ iprop(∃ f, hbPt c ktM f) from .rfl) $$ Hk
  ihave Hv := (show (hbAny c vtM : sProp 𝕄) ⊢ iprop(∃ f, hbPt c vtM f) from .rfl) $$ Hv
  icases Hk with ⟨%fk, Hk⟩
  icases Hv with ⟨%fv, Hv⟩
  iapply (midRun c i arg2 harg2 arg3 harg3 arg4 harg4 arg5 harg5 h1 h2 q k v (accO m c n) (accM m c n) (accL m c n) fk fv _)
  isplitl [H2]; · iexact H2
  isplitl [H3]; · iexact H3
  isplitl [H4]; · iexact H4
  isplitl [HO]; · iexact HO
  isplitl [HM]; · iexact HM
  isplitl [HL]; · iexact HL
  isplitl [Hk]; · iexact Hk
  isplitl [Hv]; · iexact Hv
  rw [hq, hk, hv]
  iintro ⟨H2, H3, H4, HO, HM, HL, Hk, Hv⟩
  isplitr [HW H2 H3 H4 HP]
  · isplitl [HG]; · iexact HG
    isplitr; · iexact Hlev
    isplitl [HO]; · iexact HO
    isplitl [HM]; · iexact HM
    isplitl [HL]; · iexact HL
    isplitl [Hk]; · iexact Hk
    isplitl [Hv]; · iexact Hv
    isplitl [Hop]; · iexact Hop
    isplitl [Hom]; · iexact Hom
    isplitl [Hol]; · iexact Hol
    iexact Hco
  isplitl [HW]; · iexact HW
  isplitl [H2]; · iapply (own_close c arg2 harg2 _ q hq); iexact H2
  isplitl [H3]; · iapply (own_close c arg3 harg3 _ k hk); iexact H3
  isplitl [H4]; · iapply (own_close c arg4 harg4 _ v hv); iexact H4
  iexact HP

theorem pointLast (c : Dev nD) (i : grid0.Coords) (arg2 : Memref sig .tc .vmem S1x32x8x128 .f32) (harg2 : arg2.IsWhole) (arg3 : Memref sig .tc .vmem S1x1024x8x128 .f32) (harg3 : arg3.IsWhole) (arg4 : Memref sig .tc .vmem S1x1024x8x128 .f32) (harg4 : arg4.IsWhole) (arg5 : Memref sig .tc .vmem S4x32x8x128 .f32) (harg5 : arg5.IsWhole)
    (h1 : ¬ k0_cond1 i = 1#1) (h2 : Hid (k0_cond2 i = 1#1)) :
    iprop(PhiB m c 3 ∗ (∃ W, owes (c : Thread nD τ) (Op c + Oz c) W) ∗ owns (c : Thread nD τ) arg2 fullShare (qB m c (tt 3)) ∗ owns (c : Thread nD τ) arg3 fullShare (kB m c (tt 3)) ∗ owns (c : Thread nD τ) arg4 fullShare (vB m c (tt 3)) ∗ (∃ d, owns (c : Thread nD τ) arg5 fullShare d))
      ⊢ wp frame (wpE (defs₀ (F := F)) Variants.none c none) Set.univ (bodyOf (F := F) i arg2 harg2 arg3 harg3 arg4 harg4 arg5 harg5) fun _ =>
        iprop(PhiC c ∗ (∃ W, owes (c : Thread nD τ) 0 W) ∗ owns (c : Thread nD τ) arg2 fullShare (qB m c (tt 3)) ∗ owns (c : Thread nD τ) arg3 fullShare (kB m c (tt 3)) ∗ owns (c : Thread nD τ) arg4 fullShare (vB m c (tt 3)) ∗ owns (c : Thread nD τ) arg5 fullShare (resV m c)) := by
  unfold PhiB PhiC scr
  iintro ⟨⟨⟨%K, HG⟩, #Hlev, HO, HM, HL, Hk, Hv, Hop, Hom, Hol, Hco⟩, ⟨%W, HW⟩, H2, H3, H4, ⟨%d5, H5⟩⟩
  ihave H2 := (own_open c arg2 harg2 _) $$ H2
  ihave H3 := (own_open c arg3 harg3 _) $$ H3
  ihave H4 := (own_open c arg4 harg4 _) $$ H4
  ihave H5 := (own_open c arg5 harg5 _) $$ H5
  icases H2 with ⟨%q, %hq, H2⟩
  icases H3 with ⟨%k, %hk, H3⟩
  icases H4 with ⟨%v, %hv, H4⟩
  icases H5 with ⟨%f5, -, H5⟩
  ihave HO := (eqPt_elim c oM (accO m c 3)) $$ HO
  ihave HM := (eqPt_elim c mM (accM m c 3)) $$ HM
  ihave HL := (eqPt_elim c lM (accL m c 3)) $$ HL
  ihave Hk := (show (hbAny c ktM : sProp 𝕄) ⊢ iprop(∃ f, hbPt c ktM f) from .rfl) $$ Hk
  ihave Hv := (show (hbAny c vtM : sProp 𝕄) ⊢ iprop(∃ f, hbPt c vtM f) from .rfl) $$ Hv
  ihave Hop := (show (hbAny c opM : sProp 𝕄) ⊢ iprop(∃ f, hbPt c opM f) from .rfl) $$ Hop
  ihave Hom := (show (hbAny c omM : sProp 𝕄) ⊢ iprop(∃ f, hbPt c omM f) from .rfl) $$ Hom
  ihave Hol := (show (hbAny c olM : sProp 𝕄) ⊢ iprop(∃ f, hbPt c olM f) from .rfl) $$ Hol
  ihave Hco := (show (hbAny c coM : sProp 𝕄) ⊢ iprop(∃ f, hbPt c coM f) from .rfl) $$ Hco
  icases Hk with ⟨%fk, Hk⟩
  icases Hv with ⟨%fv, Hv⟩
  icases Hop with ⟨%fop, Hop⟩
  icases Hom with ⟨%fom, Hom⟩
  icases Hol with ⟨%fol, Hol⟩
  icases Hco with ⟨%fco, Hco⟩
  iapply (lastRun (sent m) K c W i arg2 harg2 arg3 harg3 arg4 harg4 arg5 harg5 h1 h2 q k v (accO m c 3) (accM m c 3) (accL m c 3) fk fv fop fom fol fco f5
    (by rw [hq, hk, hv]; rfl) (by rw [hq, hk]; rfl) (by rw [hq, hk]; rfl) rfl _)
  isplitl [HG]; · iexact HG
  isplitr; · iexact Hlev
  isplitl [HW]; · iexact HW
  isplitl [H2]; · iexact H2
  isplitl [H3]; · iexact H3
  isplitl [H4]; · iexact H4
  isplitl [HO]; · iexact HO
  isplitl [HM]; · iexact HM
  isplitl [HL]; · iexact HL
  isplitl [Hk]; · iexact Hk
  isplitl [Hv]; · iexact Hv
  isplitl [Hop]; · iexact Hop
  isplitl [Hom]; · iexact Hom
  isplitl [Hol]; · iexact Hol
  isplitl [Hco]; · iexact Hco
  isplitl [H5]; · iexact H5
  iintro ⟨HZ, HW, H2, H3, H4, ⟨%g, %hg, H5⟩, HS⟩
  isplitl [HZ HS]
  · isplitl [HZ]; · iexact HZ
    iexact HS
  isplitl [HW]; · iexact HW
  isplitl [H2]; · iapply (own_close c arg2 harg2 _ q hq); iexact H2
  isplitl [H3]; · iapply (own_close c arg3 harg3 _ k hk); iexact H3
  isplitl [H4]; · iapply (own_close c arg4 harg4 _ v hv); iexact H4
  iapply (own_close c arg5 harg5 (resV m c) g hg); iexact H5

end Cert.KernelIdeal.Hand
end
-- ==== Proof.Region.lean ====
module

public import proofs.«01_k».proof.Proof.Gen.KernelIdeal.Launch
public import proofs.«01_k».proof.Proof.Gen.KernelIdeal.Skeleton
public import Idealize.ShloMosaic.Lib.Pipeline.Frame
public import Idealize.ShloMosaic.Lib.Tactic
public import Idealize.ShloMosaic.Lib.Transfers
public import Idealize.ShloMosaic.Lib.Rounds
public import Idealize.ShloMosaic.Lib.Ring
public import proofs.«01_k».proof.Proof.Step
public import proofs.«01_k».proof.Proof.Protocol
public import proofs.«01_k».proof.Proof.Ghost
public import proofs.«01_k».proof.Proof.Points
public import proofs.«01_k».proof.Proof.Values
public import proofs.«01_k».proof.Proof.Gen.KernelIdeal.Regions
public import Idealize.ShloMosaic.Lib.Pipeline.Regions
public import Idealize.ShloMosaic.Lib.Pipeline.FrameBody
public import Idealize.ShloMosaic.Lib.Pipeline.ValueKit

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.Rounds Idealize.ShloMosaic.Pipeline Idealize.ShloMosaic.Transfers Idealize.ShloMosaic.Ring
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ UU ℕ

variable (m : (ℓ : Loc nD τ sig) → Buf (Elt F) ℓ)

/-! ## Opening the transfer cells at the region's entry -/

/-- The right to open its twelve transfer cells. -/
def op12 (c : Dev nD) : sProp 𝕄 :=
  iprop(openTok ER (dC c 6) ∗ openTok ER (dC c 7) ∗ openTok ER (dC c 8) ∗ openTok ER (dC c 9) ∗ openTok ER (dC c 10) ∗ openTok ER (dC c 11) ∗ openTok ER (dC c 12) ∗ openTok ER (dC c 13) ∗ openTok ER (dC c 14) ∗ openTok ER (dC c 15) ∗ openTok ER (dC c 16) ∗ openTok ER (dC c 17))

/-- What a device holds between the launch and its region: everything but the buffers, the transfer cells not yet opened. -/
def ghost0 (A : Sent F) (K : GSem nD τ sig → ℕ) (c : Dev nD) : sProp 𝕄 :=
  iprop(allInv A K ∗ reBar c ∗ op12 c ∗ atPos ER (barC c) 0 ∅ 0 ∗ tokB c ∗ tokZ c ∗ tokP c ∗ crB c ∗ crR c)

theorem sems12 (c : Dev nD) : (ownSems0 osem c : sProp 𝕄) = iprop(semVal (dC c 6) 0 ∗ semVal (dC c 7) 0 ∗ semVal (dC c 8) 0 ∗ semVal (dC c 9) 0 ∗ semVal (dC c 10) 0 ∗ semVal (dC c 11) 0 ∗ semVal (dC c 12) 0 ∗ semVal (dC c 13) 0 ∗ semVal (dC c 14) 0 ∗ semVal (dC c 15) 0 ∗ semVal (dC c 16) 0 ∗ semVal (dC c 17) 0) :=
  bigSep_univ_eq_bigSepL ([0, 1, 2, 3, 4, 5, 6, 7, 8, 9, 10, 11] : List (Fin 12)) (by decide) (by decide) _

theorem open_all (A : Sent F) (K : GSem nD τ sig → ℕ) (c : Dev nD) :
    iprop(ghost0 A K c ∗ ownSems0 osem c) ⊢ (|={Set.univ}=> ghostA A K c : sProp 𝕄) := by
  rw [sems12]
  unfold ghost0 op12 ghostA re12 at12
  iintro ⟨⟨#HI, HB, ⟨O6, O7, O8, O9, O10, O11, O12, O13, O14, O15, O16, O17⟩, HaB, HtB, HtZ, HtP, HcB, HcR⟩, S6, S7, S8, S9, S10, S11, S12, S13, S14, S15, S16, S17⟩
  imod (Rounds.cell_open ER (Rd A) (g := dC c 6) (Set.mem_univ (K (dC c 6)))) $$ [O6 S6] with ⟨A6, #R6⟩
  · isplitr; · iapply (inv_dma A K c 6 _ (by decide)); iexact HI
    isplitl [O6]; · iexact O6
    iexact S6
  imod (Rounds.cell_open ER (Rd A) (g := dC c 7) (Set.mem_univ (K (dC c 7)))) $$ [O7 S7] with ⟨A7, #R7⟩
  · isplitr; · iapply (inv_dma A K c 7 _ (by decide)); iexact HI
    isplitl [O7]; · iexact O7
    iexact S7
  imod (Rounds.cell_open ER (Rd A) (g := dC c 8) (Set.mem_univ (K (dC c 8)))) $$ [O8 S8] with ⟨A8, #R8⟩
  · isplitr; · iapply (inv_dma A K c 8 _ (by decide)); iexact HI
    isplitl [O8]; · iexact O8
    iexact S8
  imod (Rounds.cell_open ER (Rd A) (g := dC c 9) (Set.mem_univ (K (dC c 9)))) $$ [O9 S9] with ⟨A9, #R9⟩
  · isplitr; · iapply (inv_dma A K c 9 _ (by decide)); iexact HI
    isplitl [O9]; · iexact O9
    iexact S9
  imod (Rounds.cell_open ER (Rd A) (g := dC c 10) (Set.mem_univ (K (dC c 10)))) $$ [O10 S10] with ⟨A10, #R10⟩
  · isplitr; · iapply (inv_dma A K c 10 _ (by decide)); iexact HI
    isplitl [O10]; · iexact O10
    iexact S10
  imod (Rounds.cell_open ER (Rd A) (g := dC c 11) (Set.mem_univ (K (dC c 11)))) $$ [O11 S11] with ⟨A11, #R11⟩
  · isplitr; · iapply (inv_dma A K c 11 _ (by decide)); iexact HI
    isplitl [O11]; · iexact O11
    iexact S11
  imod (Rounds.cell_open ER (Rd A) (g := dC c 12) (Set.mem_univ (K (dC c 12)))) $$ [O12 S12] with ⟨A12, #R12⟩
  · isplitr; · iapply (inv_dma A K c 12 _ (by decide)); iexact HI
    isplitl [O12]; · iexact O12
    iexact S12
  imod (Rounds.cell_open ER (Rd A) (g := dC c 13) (Set.mem_univ (K (dC c 13)))) $$ [O13 S13] with ⟨A13, #R13⟩
  · isplitr; · iapply (inv_dma A K c 13 _ (by decide)); iexact HI
    isplitl [O13]; · iexact O13
    iexact S13
  imod (Rounds.cell_open ER (Rd A) (g := dC c 14) (Set.mem_univ (K (dC c 14)))) $$ [O14 S14] with ⟨A14, #R14⟩
  · isplitr; · iapply (inv_dma A K c 14 _ (by decide)); iexact HI
    isplitl [O14]; · iexact O14
    iexact S14
  imod (Rounds.cell_open ER (Rd A) (g := dC c 15) (Set.mem_univ (K (dC c 15)))) $$ [O15 S15] with ⟨A15, #R15⟩
  · isplitr; · iapply (inv_dma A K c 15 _ (by decide)); iexact HI
    isplitl [O15]; · iexact O15
    iexact S15
  imod (Rounds.cell_open ER (Rd A) (g := dC c 16) (Set.mem_univ (K (dC c 16)))) $$ [O16 S16] with ⟨A16, #R16⟩
  · isplitr; · iapply (inv_dma A K c 16 _ (by decide)); iexact HI
    isplitl [O16]; · iexact O16
    iexact S16
  imod (Rounds.cell_open ER (Rd A) (g := dC c 17) (Set.mem_univ (K (dC c 17)))) $$ [O17 S17] with ⟨A17, #R17⟩
  · isplitr; · iapply (inv_dma A K c 17 _ (by decide)); iexact HI
    isplitl [O17]; · iexact O17
    iexact S17
  imodintro
  isplitr; · iexact HI
  isplitl [HB]; · iexact HB
  isplitr
  · isplitr; · iexact R6
    isplitr; · iexact R7
    isplitr; · iexact R8
    isplitr; · iexact R9
    isplitr; · iexact R10
    isplitr; · iexact R11
    isplitr; · iexact R12
    isplitr; · iexact R13
    isplitr; · iexact R14
    isplitr; · iexact R15
    isplitr; · iexact R16
    iexact R17
  isplitl [HaB]; · iexact HaB
  isplitl [A6 A7 A8 A9 A10 A11 A12 A13 A14 A15 A16 A17]
  · isplitl [A6]; · iexact A6
    isplitl [A7]; · iexact A7
    isplitl [A8]; · iexact A8
    isplitl [A9]; · iexact A9
    isplitl [A10]; · iexact A10
    isplitl [A11]; · iexact A11
    isplitl [A12]; · iexact A12
    isplitl [A13]; · iexact A13
    isplitl [A14]; · iexact A14
    isplitl [A15]; · iexact A15
    isplitl [A16]; · iexact A16
    iexact A17
  isplitl [HtB]; · iexact HtB
  isplitl [HtZ]; · iexact HtZ
  isplitl [HtP]; · iexact HtP
  isplitl [HcB]; · iexact HcB
  iexact HcR

/-! ## The proof data -/

set_option backward.isDefEq.respectTransparency.types false in
/-- The region's proof data at device `c`. -/
def pdats (p : Fin 1) (c : Dev nD) : Dat τ (Elt F) Unit ℕ UU ℕ (pinD (pcfgs (F := F)) adm c p) c where
  A w := m ((c : Thread nD τ).loc (arrRef spec0 w))
  after | (0 : Fin 4) => fun t => qB m c t | (1 : Fin 4) => fun t => kB m c t | (2 : Fin 4) => fun t => vB m c t | (3 : Fin 4) => fun _ => resV m c | ⟨_ + 4, h⟩ => absurd h (Nat.not_lt.2 (Nat.le_add_left _ _))
  Φ t := Phi m c t.val
  q _ := fullShare
  owed t := owedAt c t.val

set_option backward.isDefEq.respectTransparency.types false in
theorem before_w0 (c : Dev nD) (t : Fin grid0.N) (d) : (pdats m 0 c).before (0 : Fin 4) t d = qB m c t :=
  ((pdats m 0 c).before_in_eq_fetched (0 : Fin 4) rfl (fun _ => rfl) (fun _ _ _ => rfl) (fun t => (blk0_read c t _).symm) t d).trans (blk0_read c t _)
set_option backward.isDefEq.respectTransparency.types false in
theorem before_w1 (c : Dev nD) (t : Fin grid0.N) (d) : (pdats m 0 c).before (1 : Fin 4) t d = kB m c t :=
  ((pdats m 0 c).before_in_eq_fetched (1 : Fin 4) rfl (fun _ => rfl) (fun _ _ _ => rfl) (fun t => (blk1_read c t _).symm) t d).trans (blk1_read c t _)
set_option backward.isDefEq.respectTransparency.types false in
theorem before_w2 (c : Dev nD) (t : Fin grid0.N) (d) : (pdats m 0 c).before (2 : Fin 4) t d = vB m c t :=
  ((pdats m 0 c).before_in_eq_fetched (2 : Fin 4) rfl (fun _ => rfl) (fun _ _ _ => rfl) (fun t => (blk2_read c t _).symm) t d).trans (blk2_read c t _)

/-! ## The body obligation -/

abbrev cfgC (c : Dev nD) : Pipeline.Cfg sig Λ₀ := cfg0 (F := F) (adm c 0)

section Body

/-- The staging memrefs at a point. -/
abbrev stQ (c : Dev nD) (t : Fin grid0.N) : Memref sig .tc .vmem S1x32x8x128 .f32 := stage0_0 (((cfgC (F := F) c).slots t (0 : Fin 4)).cast nbuf0_0)
abbrev stK (c : Dev nD) (t : Fin grid0.N) : Memref sig .tc .vmem S1x1024x8x128 .f32 := stage0_1 (((cfgC (F := F) c).slots t (1 : Fin 4)).cast nbuf0_1)
abbrev stV (c : Dev nD) (t : Fin grid0.N) : Memref sig .tc .vmem S1x1024x8x128 .f32 := stage0_2 (((cfgC (F := F) c).slots t (2 : Fin 4)).cast nbuf0_2)
abbrev stO (c : Dev nD) (t : Fin grid0.N) : Memref sig .tc .vmem S4x32x8x128 .f32 := stage0_3 (((cfgC (F := F) c).slots t (3 : Fin 4)).cast nbuf0_3)

abbrev bodyAt (c : Dev nD) (t : Fin grid0.N) : Prog (TpuEff nD τ sig (Elt F) Λ₀ .tc) PUnit :=
  bodyOf (F := F) (grid0.coords t) (stQ (F := F) c t) (hstage0_0 _) (stK (F := F) c t) (hstage0_1 _) (stV (F := F) c t) (hstage0_2 _) (stO (F := F) c t) (hstage0_3 _)

def bodyPre (c : Dev nD) (t : Fin grid0.N) : sProp 𝕄 :=
  iprop((pdats m 0 c).Φ t.castSucc ∗ (pdats m 0 c).owesAt () t.castSucc
    ∗ (∃ d, owns (c : Thread nD τ) (stQ (F := F) c t) fullShare ((pdats m 0 c).before (0 : Fin 4) t d))
    ∗ (∃ d, owns (c : Thread nD τ) (stK (F := F) c t) fullShare ((pdats m 0 c).before (1 : Fin 4) t d))
    ∗ (∃ d, owns (c : Thread nD τ) (stV (F := F) c t) fullShare ((pdats m 0 c).before (2 : Fin 4) t d))
    ∗ (∃ d, owns (c : Thread nD τ) (stO (F := F) c t) fullShare ((pdats m 0 c).before (3 : Fin 4) t d)))

/-- What the point leaves of the output's buffer: as found before the last point, the result after it. -/
def oPost (c : Dev nD) (t : Fin grid0.N) : sProp 𝕄 :=
  match (cfgC (F := F) c).idle (3 : Fin 4) ((cfgC (F := F) c).grid.coords t) with
  | true =>
    match ((cfgC (F := F) c).win (3 : Fin 4)).flush t with
    | false => iprop(∃ d, owns (c : Thread nD τ) (stO (F := F) c t) fullShare ((pdats m 0 c).before (3 : Fin 4) t d))
    | true =>
      match (cfgC (F := F) c).loose (3 : Fin 4) with
      | true => iprop(∃ d, owns (c : Thread nD τ) (stO (F := F) c t) fullShare
          (((cfgC (F := F) c).win (3 : Fin 4)).fill (grid0.coords t) d (((cfgC (F := F) c).win (3 : Fin 4)).cut (grid0.coords t) ((pdats m 0 c).after (3 : Fin 4) t))))
      | false => owns (c : Thread nD τ) (stO (F := F) c t) fullShare ((pdats m 0 c).after (3 : Fin 4) t)
  | false =>
    match (cfgC (F := F) c).loose (3 : Fin 4) with
    | true => iprop(∃ d, owns (c : Thread nD τ) (stO (F := F) c t) fullShare
        (((cfgC (F := F) c).win (3 : Fin 4)).fill (grid0.coords t) d (((cfgC (F := F) c).win (3 : Fin 4)).cut (grid0.coords t) ((pdats m 0 c).after (3 : Fin 4) t))))
    | false => owns (c : Thread nD τ) (stO (F := F) c t) fullShare ((pdats m 0 c).after (3 : Fin 4) t)

def bodyPost (c : Dev nD) (t : Fin grid0.N) : sProp 𝕄 :=
  iprop((pdats m 0 c).Φ t.succ ∗ (pdats m 0 c).owesAt () t.succ
    ∗ owns (c : Thread nD τ) (stQ (F := F) c t) fullShare ((pdats m 0 c).after (0 : Fin 4) t)
    ∗ owns (c : Thread nD τ) (stK (F := F) c t) fullShare ((pdats m 0 c).after (1 : Fin 4) t)
    ∗ owns (c : Thread nD τ) (stV (F := F) c t) fullShare ((pdats m 0 c).after (2 : Fin 4) t)
    ∗ oPost m c t)

theorem idle_w3 (c : Dev nD) (t : Fin grid0.N) : (cfgC (F := F) c).idle (3 : Fin 4) ((cfgC (F := F) c).grid.coords t) = !(k0_cond2 (grid0.coords t) == 1#1) := rfl
theorem loose_w3 (c : Dev nD) : (cfgC (F := F) c).loose (3 : Fin 4) = false := rfl
theorem flush_w3 (c : Dev nD) (t : Fin grid0.N) : ((cfgC (F := F) c).win (3 : Fin 4)).flush t = true ↔ t.val % 4 = 3 :=
  Window.flush_oneBlock _ rfl (by exact (by decide : grid0.oneBlock reads0_3 = true)) N_0 (by decide) t

theorem owes_in (c : Dev nD) (t : Fin (grid0.N + 1)) (O : CellTallies nD τ sig Unit) (h0 : (pdats m 0 c).owed t = O) :
    iprop(∃ W, owes (c : Thread nD τ) O W) ⊢ ((pdats m 0 c).owesAt () t : sProp 𝕄) := by
  unfold Dat.owesAt Pipeline.owesWithin Dat.bound
  rw [h0]
  iintro ⟨%W, HO⟩; iexists W
  isplitr; · ipureintro; exact fun _ _ => Or.inl trivial
  iexact HO

theorem owes_out (c : Dev nD) (t : Fin (grid0.N + 1)) (O : CellTallies nD τ sig Unit) (h0 : (pdats m 0 c).owed t = O) :
    ((pdats m 0 c).owesAt () t : sProp 𝕄) ⊢ iprop(∃ W, owes (c : Thread nD τ) O W) := by
  unfold Dat.owesAt Pipeline.owesWithin
  rw [h0]
  iintro ⟨%W, -, HO⟩; iexists W; iexact HO

theorem body_pre (c : Dev nD) (t : Fin grid0.N) (O : CellTallies nD τ sig Unit) (P : sProp 𝕄)
    (h0 : (pdats m 0 c).owed t.castSucc = O) (hP : (pdats m 0 c).Φ t.castSucc = P) :
    bodyPre m c t ⊢ iprop(P ∗ (∃ W, owes (c : Thread nD τ) O W) ∗ owns (c : Thread nD τ) (stQ (F := F) c t) fullShare (qB m c t)
      ∗ owns (c : Thread nD τ) (stK (F := F) c t) fullShare (kB m c t) ∗ owns (c : Thread nD τ) (stV (F := F) c t) fullShare (vB m c t)
      ∗ (∃ d, owns (c : Thread nD τ) (stO (F := F) c t) fullShare ((pdats m 0 c).before (3 : Fin 4) t d))) := by
  unfold bodyPre
  simp only [before_w0, before_w1, before_w2]
  rw [hP]
  iintro ⟨HP, HW, ⟨%d0, H2⟩, ⟨%d1, H3⟩, ⟨%d2, H4⟩, H5⟩
  isplitl [HP]; · iexact HP
  isplitl [HW]; · iapply (owes_out m c t.castSucc O h0); iexact HW
  isplitl [H2]; · iexact H2
  isplitl [H3]; · iexact H3
  isplitl [H4]; · iexact H4
  iexact H5

theorem body_post (c : Dev nD) (t : Fin grid0.N) (O : CellTallies nD τ sig Unit) (P R : sProp 𝕄)
    (h0 : (pdats m 0 c).owed t.succ = O) (hP : (pdats m 0 c).Φ t.succ = P) (hR : oPost m c t = R) :
    iprop(P ∗ (∃ W, owes (c : Thread nD τ) O W) ∗ owns (c : Thread nD τ) (stQ (F := F) c t) fullShare (qB m c t)
      ∗ owns (c : Thread nD τ) (stK (F := F) c t) fullShare (kB m c t) ∗ owns (c : Thread nD τ) (stV (F := F) c t) fullShare (vB m c t) ∗ R) ⊢ bodyPost m c t := by
  unfold bodyPost
  rw [hP, hR]
  iintro ⟨HP, HW, H2, H3, H4, H5⟩
  isplitl [HP]; · iexact HP
  isplitl [HW]; · iapply (owes_in m c t.succ O h0); iexact HW
  isplitl [H2]; · iexact H2
  isplitl [H3]; · iexact H3
  isplitl [H4]; · iexact H4
  iexact H5

theorem oPost_idle (c : Dev nD) (t : Fin grid0.N) (h : ¬ k0_cond2 (grid0.coords t) = 1#1) (h3 : t.val % 4 ≠ 3) :
    oPost m c t = iprop(∃ d, owns (c : Thread nD τ) (stO (F := F) c t) fullShare ((pdats m 0 c).before (3 : Fin 4) t d)) := by
  have e1 : (cfgC (F := F) c).idle (3 : Fin 4) ((cfgC (F := F) c).grid.coords t) = true := by
    rw [idle_w3]; simp [h]
  have e2 : ((cfgC (F := F) c).win (3 : Fin 4)).flush t = false := by
    rw [Bool.eq_false_iff]; exact fun hh => h3 ((flush_w3 c t).mp hh)
  unfold oPost
  rw [e1, e2]

theorem oPost_live (c : Dev nD) (t : Fin grid0.N) (h : k0_cond2 (grid0.coords t) = 1#1) :
    oPost m c t = owns (c : Thread nD τ) (stO (F := F) c t) fullShare (resV m c) := by
  have e1 : (cfgC (F := F) c).idle (3 : Fin 4) ((cfgC (F := F) c).grid.coords t) = false := by
    rw [idle_w3]; simp [h]
  unfold oPost
  rw [e1, loose_w3]
  rfl

theorem cond1_at : ∀ t : Fin grid0.N, k0_cond1 (grid0.coords t) = 1#1 ↔ t.val = 0 := by decide
theorem cond2_at : ∀ t : Fin grid0.N, k0_cond2 (grid0.coords t) = 1#1 ↔ t.val = 3 := by decide

theorem body_obligation (c : Dev nD) : BodyObligationLoose (pdats m 0 c) (defs₀ (F := F)) Variants.none () Set.univ := fun t => by
  rw [bigSep_W0, bigSep_W0]
  show bodyPre m c t ⊢ wp frame (wpE (defs₀ (F := F)) Variants.none c none) Set.univ (bodyAt (F := F) c t) (fun _ => bodyPost m c t)
  rcases fin_N0 t with rfl | rfl | rfl | rfl
  · refine (body_pre m c t0_0 (O₀ c) (PhiA m c) rfl rfl).trans ?_
    refine (pointFirst m c (grid0.coords t0_0) (stQ (F := F) c t0_0) (hstage0_0 _) (stK (F := F) c t0_0) (hstage0_1 _) (stV (F := F) c t0_0) (hstage0_2 _) (stO (F := F) c t0_0) (hstage0_3 _) (by decide) (by decide) _).trans ?_
    exact wp_mono _ _ _ fun _ => body_post m c t0_0 (Op c + Oz c) (PhiB m c 1) _ rfl rfl (oPost_idle m c t0_0 (by decide) (by decide))
  · refine (body_pre m c t0_1 (Op c + Oz c) (PhiB m c 1) rfl rfl).trans ?_
    refine (pointMid m 1 c (grid0.coords t0_1) (stQ (F := F) c t0_1) (hstage0_0 _) (stK (F := F) c t0_1) (hstage0_1 _) (stV (F := F) c t0_1) (hstage0_2 _) (stO (F := F) c t0_1) (hstage0_3 _) (by decide) (by decide) _).trans ?_
    exact wp_mono _ _ _ fun _ => body_post m c t0_1 (Op c + Oz c) (PhiB m c 2) _ rfl rfl (oPost_idle m c t0_1 (by decide) (by decide))
  · refine (body_pre m c t0_2 (Op c + Oz c) (PhiB m c 2) rfl rfl).trans ?_
    refine (pointMid m 2 c (grid0.coords t0_2) (stQ (F := F) c t0_2) (hstage0_0 _) (stK (F := F) c t0_2) (hstage0_1 _) (stV (F := F) c t0_2) (hstage0_2 _) (stO (F := F) c t0_2) (hstage0_3 _) (by decide) (by decide) _).trans ?_
    exact wp_mono _ _ _ fun _ => body_post m c t0_2 (Op c + Oz c) (PhiB m c 3) _ rfl rfl (oPost_idle m c t0_2 (by decide) (by decide))
  · refine (body_pre m c t0_3 (Op c + Oz c) (PhiB m c 3) rfl rfl).trans ?_
    refine (BIBase.Entails.trans ?_ (pointLast m c (grid0.coords t0_3) (stQ (F := F) c t0_3) (hstage0_0 _) (stK (F := F) c t0_3) (hstage0_1 _) (stV (F := F) c t0_3) (hstage0_2 _) (stO (F := F) c t0_3) (hstage0_3 _) (by decide) (by unfold Hid; decide))).trans ?_
    · iintro ⟨H0, H1, H2, H3, H4, ⟨%d, H5⟩⟩
      isplitl [H0]; · iexact H0
      isplitl [H1]; · iexact H1
      isplitl [H2]; · iexact H2
      isplitl [H3]; · iexact H3
      isplitl [H4]; · iexact H4
      iexists _; iexact H5
    · exact wp_mono _ _ _ fun _ => body_post m c t0_3 0 (PhiC c) _ rfl rfl (oPost_live m c t0_3 (by decide))

end Body

/-! ## The region -/

theorem harr (w : Fin 4) : (spec0 w).arr.IsWhole := arr_whole0 w

theorem hshare (c : Dev nD) : ∀ w, (pdats m 0 c).share w = fullShare := (pdats m 0 c).share_full fun _ => rfl

theorem A_eq (c : Dev nD) : ∀ w : Fin 4, (pdats m 0 c).A w = V1 m c (arrRef spec0 w)
  | 0 => (V1_of m c main_arg0 (by decide)).symm
  | 1 => (V1_of m c main_arg1 (by decide)).symm
  | 2 => (V1_of m c main_arg2 (by decide)).symm
  | 3 => (V1_of m c main_v12 (by decide)).symm

/-- What a device keeps beside its unscoped buffers before the region. -/
def rest0 (c : Dev nD) : sProp 𝕄 := iprop((∃ K, ghost0 (sent m) K c) ∗ (∃ W, owes (c : Thread nD τ) (O₀ c) W))

/-- What the region leaves: the arrays, the barrier at zero, nothing owed. -/
def Tn (c : Dev nD) : sProp 𝕄 := iprop((pdats m 0 c).arrays ((pdats m 0 c).arrAt · grid0.N) ∗ semVal (barC c) 0)

theorem lv_stage (c : Dev nD) : ∀ (w : Fin 4) (s : Fin (spec0 w).nbuf), lv ((c : Thread nD τ), .dma ((spec0 w).sem s)) () ≤ 0 := by
  intro w s
  have h : ∀ (w : Fin 4) (s : Fin (spec0 w).nbuf), ((spec0 w).sem s).val < 6 := by decide
  have := h w s
  show (if 9 ≤ ((spec0 w).sem s).val ∧ ((spec0 w).sem s).val < 12 then 2 else if 15 ≤ ((spec0 w).sem s).val then 3 else 0) ≤ 0
  rw [if_neg (by omega), if_neg (by omega)]

theorem owed_above (c : Dev nD) (n : ℕ) : Above (0 + 1) (owedAt c n) := by
  unfold owedAt
  split
  · exact O₀_above c
  · exact ((Op_above c).mono (by decide)).add ((Oz_above c).mono (by decide))
  · exact ((Op_above c).mono (by decide)).add ((Oz_above c).mono (by decide))
  · exact ((Op_above c).mono (by decide)).add ((Oz_above c).mono (by decide))
  · exact Above.zero

theorem osem_disj : ∀ (k : Fin 12) (w : Fin 4) (s : Fin (spec0 w).nbuf), osem k ≠ SemLoc.dma ((spec0 w).sem s) := by decide

set_option backward.isDefEq.respectTransparency.types false in
theorem entry_arrays (c : Dev nD) : (StableHlo.held (c : Thread nD τ) (Pipeline.ucRefs τ sig) (V1 m c) : sProp 𝕄)
    ⊢ iprop((pdats m 0 c).arrays ((pdats m 0 c).arrAt · 0) ∗ prefHeld pre0 c (fun _ => fullShare) (tbl (F := F) c)) := by
  rw [← Pipeline.unscopedBufs_held]
  refine (PerCore.arrays_of_unscopedBufs (p := 0) pcfgs adm (pdats m) winFacts0 harr c (hshare m c) (fun b => V1 m c b) (A_eq m c)).trans ?_
  refine sep_mono_right ?_
  rw [show (Pipeline.unscopedRest (pcfgs (F := F) 0).spec c (fun b => V1 m c b) : sProp 𝕄) = _ from Pipeline.unscopedRest_split preFacts0 c _]
  refine (BIBase.Entails.trans (sep_mono_left (BIBase.Entails.of_eq (congrArg (prefHeld pre0 c (fun _ => fullShare)) ?_))) sep_elim_left)
  funext k
  match k with
  | 0 => exact v11_eq m c

set_option backward.isDefEq.respectTransparency.types false in
/-- The region, on every device. -/
def reg : PerCore.RegionSeg (pcfgs (F := F)) adm (pdats m) () (defs₀ (F := F)) Variants.none L lv 0 where
  win := winFacts0.to₀
  block_pos := block_pos0
  stage_whole := stage_whole0
  K := Fin 12
  osem := osem
  ho := ⟨by decide, osem_inj, osem_disj⟩
  hbody := body_obligation m
  hwaits c := Pipeline.PerCore.cellsWaits_intro _ (pdats m) () 0 c fun w s t => mayWait_of c _ _ 0 (lv_stage c w s) (owed_above c t.val)
  pre c := iprop(StableHlo.held (c : Thread nD τ) (Pipeline.ucRefs τ sig) (V1 m c) ∗ rest0 m c)
  post c := iprop(Tn m c ∗ ∃ W, owes (c : Thread nD τ) (0 : CellTallies nD τ sig Unit) W)
  X c := iprop((∃ K, ghostA (sent m) K c) ∗ levAts L lv)
  Y c := semVal (barC c) 0
  Z c := iprop(emp)
  hentry c := by
    unfold rest0
    iintro ⟨⟨HH, ⟨%K, HG⟩, HW⟩, HS, #Hlev⟩
    imod (open_all (sent m) K c) $$ [HG HS] with HG
    · isplitl [HG]; · iexact HG
      iexact HS
    imodintro
    ihave HH := (entry_arrays m c) $$ HH
    icases HH with ⟨HA, HP⟩
    isplitl [HA]; · iexact HA
    isplitl [HP]; · iexact HP
    isplitl [HW]; · iapply (owes_in m c 0 (O₀ c) rfl); iexact HW
    isplitl [HG]
    · isplitl [HG]; · iexists K; iexact HG
      iexact Hlev
    iempintro
  hin c := by
    show iprop(_ ∗ _ ∗ _) ⊢ PhiA m c
    rw [show (scopedRest (pcfgs (F := F) 0).spec c : sProp 𝕄) = scr c from scopedRest0_eq c]
    unfold PhiA
    iintro ⟨⟨HG, Hlev⟩, -, HS⟩
    isplitl [HG]; · iexact HG
    isplitl [Hlev]; · iexact Hlev
    iexact HS
  hout c := by
    show PhiC c ⊢ _
    rw [show (scopedRest (pcfgs (F := F) 0).spec c : sProp 𝕄) = scr c from scopedRest0_eq c, sems12]
    unfold PhiC semsZero
    iintro ⟨⟨HB, HS⟩, HR⟩
    isplitl [HB]; · iexact HB
    isplitl [HS]; · iexact HS
    iexact HR
  hexit c := by
    unfold Tn
    iintro ⟨HA, HW, HB, -⟩
    imodintro
    isplitl [HA HB]
    · isplitl [HA]; · iexact HA
      iexact HB
    iapply (owes_out m c (Fin.last grid0.N) 0 rfl); iexact HW

end Cert.KernelIdeal.Hand
end
-- ==== Proof.Launch.lean ====
/-
  The launch: ghost state made and dealt to the devices, the two segments of every device, and what the whole run leaves.
-/
module

public import proofs.«01_k».proof.Proof.Gen.KernelIdeal.Launch
public import proofs.«01_k».proof.Proof.Gen.KernelIdeal.Skeleton
public import Idealize.ShloMosaic.Lib.Pipeline.Frame
public import Idealize.ShloMosaic.Lib.Tactic
public import Idealize.ShloMosaic.Lib.Transfers
public import Idealize.ShloMosaic.Lib.Rounds
public import Idealize.ShloMosaic.Lib.Ring
public import proofs.«01_k».proof.Proof.Step
public import proofs.«01_k».proof.Proof.Protocol
public import proofs.«01_k».proof.Proof.Ghost
public import proofs.«01_k».proof.Proof.Points
public import proofs.«01_k».proof.Proof.Region
public import Idealize.ShloMosaic.Lib.Pipeline.ValueKit.Geometry
public import proofs.«01_k».proof.Proof.Values
public import proofs.«01_k».proof.Proof.Gen.KernelIdeal.Regions
public import Idealize.ShloMosaic.Lib.Pipeline.Regions
public import Idealize.ShloMosaic.Lib.Pipeline.FrameBody
public import Idealize.ShloMosaic.Lib.Pipeline.ValueKit

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.Rounds Idealize.ShloMosaic.Pipeline Idealize.ShloMosaic.Transfers Idealize.ShloMosaic.Ring
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ UU ℕ

variable (m : (ℓ : Loc nD τ sig) → Buf (Elt F) ℓ)

/-! ## The duties, and who pays them -/

/-- Every cell's duties, sixteen a device: four on its barrier, one on each transfer cell. -/
abbrev slotSem : Fin 16 → SemLoc sig × Fin 4 := fun k =>
  if k.val < 4 then (.reg barS, ⟨k.val % 4, Nat.mod_lt _ (by decide)⟩) else (.dma ⟨(k.val + 2) % 18, Nat.mod_lt _ (by decide)⟩, 0)
theorem slotSem_inj : Function.Injective slotSem := by decide

def duty (ck : Dev nD × Fin 16) : GSem nD τ sig × ℕ × Fin 4 := (((ck.1 : Thread nD τ), (slotSem ck.2).1), 0, (slotSem ck.2).2)
theorem duty_inj : Function.Injective duty := fun a b h =>
  Prod.ext (congrArg (fun t : GSem nD τ sig × ℕ × Fin 4 => t.1.1.1) h)
    (slotSem_inj (Prod.ext (congrArg (fun t : GSem nD τ sig × ℕ × Fin 4 => t.1.2) h) (congrArg (fun t : GSem nD τ sig × ℕ × Fin 4 => t.2.2) h)))
def duties : Finset (GSem nD τ sig × ℕ × Fin 4) := Finset.univ.map ⟨duty, duty_inj⟩

/-- The device that pays a duty, slot by slot. -/
def payer (c : Dev nD) (k : Fin 16) : Dev nD :=
  match k.val with
  | 0 => pz c | 1 => px c | 2 => py c | 3 => pd c
  | 7 => pz c | 8 => pz c | 9 => pz c
  | 13 => px c | 14 => py c | 15 => pd c
  | _ => c
theorem payer_payer (c : Dev nD) (k : Fin 16) : payer (payer c k) k = c := by revert c k; decide
def swapE : (Dev nD × Fin 16) ≃ (Dev nD × Fin 16) where
  toFun ck := (payer ck.1 ck.2, ck.2)
  invFun ck := (payer ck.1 ck.2, ck.2)
  left_inv ck := Prod.ext (payer_payer _ _) rfl
  right_inv ck := Prod.ext (payer_payer _ _) rfl

theorem deal : bigSep duties (fun x => (dutyTok ER x.1 x.2.1 x.2.2 : sProp 𝕄)) ⊢ bigSep Finset.univ fun c : Dev nD => iprop(tokB c ∗ tokZ c ∗ tokP c) := by
  unfold duties
  rw [bigSep_map, bigSep_univ_equiv swapE, bigSep_univ_prod]
  refine bigSep_mono fun c _ => ?_
  rw [bigSep_univ_eq_bigSepL ([0, 1, 2, 3, 4, 5, 6, 7, 8, 9, 10, 11, 12, 13, 14, 15] : List (Fin 16)) (by decide) (by decide)]
  unfold tokB tokZ tokP
  show iprop(dutyTok ER (barC (pz c)) 0 0 ∗ dutyTok ER (barC (px c)) 0 1 ∗ dutyTok ER (barC (py c)) 0 2 ∗ dutyTok ER (barC (pd c)) 0 3
    ∗ dutyTok ER (dC c 6) 0 0 ∗ dutyTok ER (dC c 7) 0 0 ∗ dutyTok ER (dC c 8) 0 0
    ∗ dutyTok ER (dC (pz c) 9) 0 0 ∗ dutyTok ER (dC (pz c) 10) 0 0 ∗ dutyTok ER (dC (pz c) 11) 0 0
    ∗ dutyTok ER (dC c 12) 0 0 ∗ dutyTok ER (dC c 13) 0 0 ∗ dutyTok ER (dC c 14) 0 0
    ∗ dutyTok ER (dC (px c) 15) 0 0 ∗ dutyTok ER (dC (py c) 16) 0 0 ∗ dutyTok ER (dC (pd c) 17) 0 0) ⊢ _
  iintro ⟨H0, H1, H2, H3, H4, H5, H6, H7, H8, H9, H10, H11, H12, H13, H14, H15⟩
  isplitl [H0 H1 H2 H3]
  · isplitl [H0]; · iexact H0
    isplitl [H1]; · iexact H1
    isplitl [H2]; · iexact H2
    iexact H3
  isplitl [H4 H5 H6 H7 H8 H9]
  · isplitl [H4]; · iexact H4
    isplitl [H5]; · iexact H5
    isplitl [H6]; · iexact H6
    isplitl [H7]; · iexact H7
    isplitl [H8]; · iexact H8
    iexact H9
  isplitl [H10]; · iexact H10
  isplitl [H11]; · iexact H11
  isplitl [H12]; · iexact H12
  isplitl [H13]; · iexact H13
  isplitl [H14]; · iexact H14
  iexact H15

/-! ## The launch credit -/

/-- The units a cell of `c` is owed when every device owes `k` of them to the device `p` names. -/
theorem owed_same (p : Dev nD → Dev nD) (hp : ∀ c, p (p c) = c) (sm : SemLoc sig) (k : ℕ) (c : Dev nD) :
    ∑ d : Dev nD, (tallyAt (((p d : Dev nD) : Thread nD τ), sm) () k : CellTallies nD τ sig Unit) ((c : Thread nD τ), sm) () = k := by
  rw [Finset.sum_eq_single (p c)]
  · rw [hp, tallyAt_apply, if_pos ⟨rfl, rfl⟩]
  · intro d _ hd
    rw [tallyAt_apply, if_neg]
    rintro ⟨h, -⟩
    have h' : c = p d := congrArg (fun g : GSem nD τ sig => g.1.1) h
    exact hd (by rw [h', hp])
  · intro h; exact absurd (Finset.mem_univ _) h

theorem owed_other (p : Dev nD → Dev nD) (sm sm' : SemLoc sig) (k : ℕ) (c : Dev nD) (h : sm' ≠ sm) :
    ∑ d : Dev nD, (tallyAt (((p d : Dev nD) : Thread nD τ), sm) () k : CellTallies nD τ sig Unit) ((c : Thread nD τ), sm') () = 0 := by
  refine Finset.sum_eq_zero fun d _ => ?_
  rw [tallyAt_apply, if_neg]
  rintro ⟨h', -⟩
  exact h (congrArg (fun g : GSem nD τ sig => g.2) h')

theorem owed_sum (g : GSem nD τ sig) : ∑ d : Dev nD, O₀ d g () =
    ((∑ d : Dev nD, (tallyAt (dC (pd d) 17) () (dmaAmt 17) : CellTallies nD τ sig Unit) g ()) + (∑ d : Dev nD, (tallyAt (dC (py d) 16) () (dmaAmt 16) : CellTallies nD τ sig Unit) g ())
      + (∑ d : Dev nD, (tallyAt (dC (px d) 15) () (dmaAmt 15) : CellTallies nD τ sig Unit) g ()))
    + ((∑ d : Dev nD, (tallyAt (dC (pz d) 11) () (dmaAmt 11) : CellTallies nD τ sig Unit) g ()) + (∑ d : Dev nD, (tallyAt (dC (pz d) 10) () (dmaAmt 10) : CellTallies nD τ sig Unit) g ())
      + (∑ d : Dev nD, (tallyAt (dC (pz d) 9) () (dmaAmt 9) : CellTallies nD τ sig Unit) g ()))
    + ((∑ d : Dev nD, (tallyAt (barC (pd d)) () 1 : CellTallies nD τ sig Unit) g ()) + (∑ d : Dev nD, (tallyAt (barC (py d)) () 1 : CellTallies nD τ sig Unit) g ())
      + (∑ d : Dev nD, (tallyAt (barC (px d)) () 1 : CellTallies nD τ sig Unit) g ()) + (∑ d : Dev nD, (tallyAt (barC (pz d)) () 1 : CellTallies nD τ sig Unit) g ())) := by
  simp only [← Finset.sum_add_distrib]
  rfl

theorem credit_of (c : Dev nD) (sm : SemLoc sig) (k : ℕ) (h : ∑ d : Dev nD, O₀ d ((c : Thread nD τ), sm) () = k) :
    (cred (tallyOn ((c : Thread nD τ), sm) (launchCredit (Pipeline.owing O₀) 0 ((c : Thread nD τ), sm))) : sProp 𝕄) ⊢ cred (tallyAt ((c : Thread nD τ), sm) () k) := by
  refine BIBase.Entails.of_eq (congrArg _ ?_)
  unfold tallyAt
  refine congrArg _ (Finsupp.ext fun u => ?_)
  cases u
  rw [Pipeline.launchCredit_owing, Finsupp.single_eq_same, h]

theorem sum_bar (c : Dev nD) : ∑ d : Dev nD, O₀ d (barC c) () = 4 := by
  rw [owed_sum, owed_same pd pd_pd, owed_same py py_py, owed_same px px_px, owed_same pz pz_pz,
    owed_other _ _ _ _ _ (by decide), owed_other _ _ _ _ _ (by decide), owed_other _ _ _ _ _ (by decide), owed_other _ _ _ _ _ (by decide), owed_other _ _ _ _ _ (by decide), owed_other _ _ _ _ _ (by decide)]
theorem sum_9 (c : Dev nD) : ∑ d : Dev nD, O₀ d (dC c 9) () = dmaAmt 9 := by
  rw [owed_sum, owed_other pd (.dma (dS 17)) (.dma (dS 9)) _ c (by decide), owed_other py (.dma (dS 16)) (.dma (dS 9)) _ c (by decide), owed_other px (.dma (dS 15)) (.dma (dS 9)) _ c (by decide), owed_other pz (.dma (dS 11)) (.dma (dS 9)) _ c (by decide), owed_other pz (.dma (dS 10)) (.dma (dS 9)) _ c (by decide), owed_same pz pz_pz (.dma (dS 9)), owed_other pd (.reg barS) (.dma (dS 9)) _ c (by decide), owed_other py (.reg barS) (.dma (dS 9)) _ c (by decide), owed_other px (.reg barS) (.dma (dS 9)) _ c (by decide), owed_other pz (.reg barS) (.dma (dS 9)) _ c (by decide)]
  simp only [Nat.add_zero, Nat.zero_add]
theorem sum_10 (c : Dev nD) : ∑ d : Dev nD, O₀ d (dC c 10) () = dmaAmt 10 := by
  rw [owed_sum, owed_other pd (.dma (dS 17)) (.dma (dS 10)) _ c (by decide), owed_other py (.dma (dS 16)) (.dma (dS 10)) _ c (by decide), owed_other px (.dma (dS 15)) (.dma (dS 10)) _ c (by decide), owed_other pz (.dma (dS 11)) (.dma (dS 10)) _ c (by decide), owed_same pz pz_pz (.dma (dS 10)), owed_other pz (.dma (dS 9)) (.dma (dS 10)) _ c (by decide), owed_other pd (.reg barS) (.dma (dS 10)) _ c (by decide), owed_other py (.reg barS) (.dma (dS 10)) _ c (by decide), owed_other px (.reg barS) (.dma (dS 10)) _ c (by decide), owed_other pz (.reg barS) (.dma (dS 10)) _ c (by decide)]
  simp only [Nat.add_zero, Nat.zero_add]
theorem sum_11 (c : Dev nD) : ∑ d : Dev nD, O₀ d (dC c 11) () = dmaAmt 11 := by
  rw [owed_sum, owed_other pd (.dma (dS 17)) (.dma (dS 11)) _ c (by decide), owed_other py (.dma (dS 16)) (.dma (dS 11)) _ c (by decide), owed_other px (.dma (dS 15)) (.dma (dS 11)) _ c (by decide), owed_same pz pz_pz (.dma (dS 11)), owed_other pz (.dma (dS 10)) (.dma (dS 11)) _ c (by decide), owed_other pz (.dma (dS 9)) (.dma (dS 11)) _ c (by decide), owed_other pd (.reg barS) (.dma (dS 11)) _ c (by decide), owed_other py (.reg barS) (.dma (dS 11)) _ c (by decide), owed_other px (.reg barS) (.dma (dS 11)) _ c (by decide), owed_other pz (.reg barS) (.dma (dS 11)) _ c (by decide)]
  simp only [Nat.add_zero, Nat.zero_add]
theorem sum_15 (c : Dev nD) : ∑ d : Dev nD, O₀ d (dC c 15) () = dmaAmt 15 := by
  rw [owed_sum, owed_other pd (.dma (dS 17)) (.dma (dS 15)) _ c (by decide), owed_other py (.dma (dS 16)) (.dma (dS 15)) _ c (by decide), owed_same px px_px (.dma (dS 15)), owed_other pz (.dma (dS 11)) (.dma (dS 15)) _ c (by decide), owed_other pz (.dma (dS 10)) (.dma (dS 15)) _ c (by decide), owed_other pz (.dma (dS 9)) (.dma (dS 15)) _ c (by decide), owed_other pd (.reg barS) (.dma (dS 15)) _ c (by decide), owed_other py (.reg barS) (.dma (dS 15)) _ c (by decide), owed_other px (.reg barS) (.dma (dS 15)) _ c (by decide), owed_other pz (.reg barS) (.dma (dS 15)) _ c (by decide)]
  simp only [Nat.add_zero, Nat.zero_add]
theorem sum_16 (c : Dev nD) : ∑ d : Dev nD, O₀ d (dC c 16) () = dmaAmt 16 := by
  rw [owed_sum, owed_other pd (.dma (dS 17)) (.dma (dS 16)) _ c (by decide), owed_same py py_py (.dma (dS 16)), owed_other px (.dma (dS 15)) (.dma (dS 16)) _ c (by decide), owed_other pz (.dma (dS 11)) (.dma (dS 16)) _ c (by decide), owed_other pz (.dma (dS 10)) (.dma (dS 16)) _ c (by decide), owed_other pz (.dma (dS 9)) (.dma (dS 16)) _ c (by decide), owed_other pd (.reg barS) (.dma (dS 16)) _ c (by decide), owed_other py (.reg barS) (.dma (dS 16)) _ c (by decide), owed_other px (.reg barS) (.dma (dS 16)) _ c (by decide), owed_other pz (.reg barS) (.dma (dS 16)) _ c (by decide)]
  simp only [Nat.add_zero, Nat.zero_add]
theorem sum_17 (c : Dev nD) : ∑ d : Dev nD, O₀ d (dC c 17) () = dmaAmt 17 := by
  rw [owed_sum, owed_same pd pd_pd (.dma (dS 17)), owed_other py (.dma (dS 16)) (.dma (dS 17)) _ c (by decide), owed_other px (.dma (dS 15)) (.dma (dS 17)) _ c (by decide), owed_other pz (.dma (dS 11)) (.dma (dS 17)) _ c (by decide), owed_other pz (.dma (dS 10)) (.dma (dS 17)) _ c (by decide), owed_other pz (.dma (dS 9)) (.dma (dS 17)) _ c (by decide), owed_other pd (.reg barS) (.dma (dS 17)) _ c (by decide), owed_other py (.reg barS) (.dma (dS 17)) _ c (by decide), owed_other px (.reg barS) (.dma (dS 17)) _ c (by decide), owed_other pz (.reg barS) (.dma (dS 17)) _ c (by decide)]
  simp only [Nat.add_zero, Nat.zero_add]

theorem creds (c : Dev nD) : (Pipeline.launchCred O₀ c : sProp 𝕄) ⊢ iprop(crB c ∗ crR c) := by
  unfold Pipeline.launchCred
  refine (bigSep_subset (Finset.subset_univ ([.reg barS, .dma (dS 9), .dma (dS 10), .dma (dS 11), .dma (dS 15), .dma (dS 16), .dma (dS 17)] : List (SemLoc sig)).toFinset)).trans ?_
  rw [bigSep_eq_bigSepL _ (by decide)]
  unfold crB crR
  have e9 := credit_of (F := F) c (.dma (dS 9)) _ (sum_9 c)
  have e10 := credit_of (F := F) c (.dma (dS 10)) _ (sum_10 c)
  have e11 := credit_of (F := F) c (.dma (dS 11)) _ (sum_11 c)
  have e15 := credit_of (F := F) c (.dma (dS 15)) _ (sum_15 c)
  have e16 := credit_of (F := F) c (.dma (dS 16)) _ (sum_16 c)
  have e17 := credit_of (F := F) c (.dma (dS 17)) _ (sum_17 c)
  have one (Φ : SemLoc sig → sProp 𝕄) : bigSepL [SemLoc.reg barS, .dma (dS 9), .dma (dS 10), .dma (dS 11), .dma (dS 15), .dma (dS 16), .dma (dS 17)] Φ
      = iprop(Φ (.reg barS) ∗ Φ (.dma (dS 9)) ∗ Φ (.dma (dS 10)) ∗ Φ (.dma (dS 11)) ∗ Φ (.dma (dS 15)) ∗ Φ (.dma (dS 16)) ∗ Φ (.dma (dS 17))) := rfl
  rw [one]
  show (_ : sProp 𝕄) ⊢ (_ : sProp 𝕄)
  iintro ⟨H0, H9, H10, H11, H15, H16, H17⟩
  isplitl [H0]; · iapply (credit_of c (.reg barS) 4 (sum_bar c)); iexact H0
  isplitl [H9]; · iapply e9; iexact H9
  isplitl [H10]; · iapply e10; iexact H10
  isplitl [H11]; · iapply e11; iexact H11
  isplitl [H15]; · iapply e15; iexact H15
  isplitl [H16]; · iapply e16; iexact H16
  iapply e17; iexact H17

/-! ## The launch element -/

theorem disjoint_cells : Disjoint (barCells : Finset (GSem nD τ sig)) scCells := by
  rw [Finset.disjoint_left]
  rintro g h₁ h₂
  obtain ⟨c, -, rfl⟩ := Finset.mem_map.mp h₁
  obtain ⟨ck, -, h⟩ := Finset.mem_map.mp h₂
  exact osem_ne_bar ck.2 (congrArg Prod.snd h)

theorem phinj : Function.Injective (Pipeline.PerCore.cellOf (nD := nD) (τ := τ) (pinD (pcfgs (F := F)) adm)) :=
  Pipeline.PerCore.cellOf_injective _ (fun c p => by obtain rfl : p = 0 := Subsingleton.elim _ _; exact (by decide : Pipeline.SpecSemsDistinct spec0))
    fun c p p' h => absurd (Subsingleton.elim p p') h

def u₀ : UU :=
  (initOf (Pipeline.PerCore.cells (pinD (pcfgs (F := F)) adm) phinj) (Pipeline.PerCore.launchToks (pinD (pcfgs (F := F)) adm) phinj),
    Rounds.launchOf barCells scCells duties)

/-- All of a resource on device 0, nothing on the others. -/
def atZero (X : sProp 𝕄) (c : Dev nD) : sProp 𝕄 := if c = 0 then X else iprop(emp)
theorem atZero_sum (X : sProp 𝕄) : bigSep Finset.univ (atZero X) = X := by
  rw [bigSep_univ_at _ (0 : Dev nD), bigSep_congr (s := Finset.univ.erase (0 : Dev nD)) (Ψ := fun _ => (BI.emp : sProp 𝕄))
      fun c hc => by unfold atZero; rw [if_neg (Finset.ne_of_mem_erase hc)]; rfl, BI.bigSep_emp_const]
  unfold atZero; rw [if_pos rfl]
  exact BI.equiv_iff.mp sep_emp

def G : Dev nD → sProp 𝕄 := atZero (BI.own (ER (Rounds.launchOf barCells scCells duties)))

/-- What every device may consult. -/
def known (A : Sent F) (κ : GSem nD τ sig → ℕ) : sProp 𝕄 := iprop(allInv A κ ∗ bigSep barCells fun g => reached ER g 0)
instance known_persistent (A : Sent F) (κ : GSem nD τ sig → ℕ) : BI.Persistent (known A κ : sProp 𝕄) := by unfold known; infer_instance

theorem reached_bar (c : Dev nD) : (bigSep barCells fun g => (reached ER g 0 : sProp 𝕄)) ⊢ reached ER (barC c) 0 :=
  bigSep_elim (Finset.mem_map_of_mem barEmb (Finset.mem_univ c))

/-- What is one device's alone. -/
def alone (c : Dev nD) : sProp 𝕄 := iprop(atPos ER (barC c) 0 ∅ 0 ∗ op12 c ∗ tokB c ∗ tokZ c ∗ tokP c)
def bundle (c : Dev nD) : sProp 𝕄 :=
  iprop(StableHlo.held (c : Thread nD τ) (Pipeline.ucRefs τ sig) (V0 m c) ∗ (crB c ∗ crR c) ∗ owes (c : Thread nD τ) (O₀ c) ∅)

abbrev T0 (c : Dev nD) : sProp 𝕄 := iprop(StableHlo.held (c : Thread nD τ) (Pipeline.ucRefs τ sig) (V0 m c) ∗ rest0 m c)

theorem T0_intro (κ : GSem nD τ sig → ℕ) (c : Dev nD) : iprop(known (sent m) κ ∗ (alone c ∗ bundle m c)) ⊢ T0 m c := by
  unfold known alone bundle T0 rest0 ghost0 reBar
  iintro ⟨⟨#HI, #HR⟩, ⟨Ha, Ho, HtB, HtZ, HtP⟩, Hh, ⟨HcB, HcR⟩, HO⟩
  isplitl [Hh]; · iexact Hh
  isplitr [HO]
  · iexists κ
    isplitr; · iexact HI
    isplitr
    · isplitr; · iapply (reached_bar (F := F) (pz c)); iexact HR
      isplitr; · iapply (reached_bar (F := F) (px c)); iexact HR
      isplitr; · iapply (reached_bar (F := F) (py c)); iexact HR
      iapply (reached_bar (F := F) (pd c)); iexact HR
    isplitl [Ho]; · iexact Ho
    isplitl [Ha]; · iexact Ha
    isplitl [HtB]; · iexact HtB
    isplitl [HtZ]; · iexact HtZ
    isplitl [HtP]; · iexact HtP
    isplitl [HcB]; · iexact HcB
    iexact HcR
  iexists ∅; iexact HO

theorem unscopedSems0_eq (c : Dev nD) : (unscopedSems0 c : sProp 𝕄) = semVal (barC c) 0 := by
  unfold unscopedSems0
  rw [show (Finset.univ.filter fun sm : SemLoc sig => ¬ sm.isScoped .tc) = {SemLoc.reg barS} from by decide, BI.bigSep_singleton]

theorem split_up (Φ Ψ : Dev nD → sProp 𝕄) : bigSep Finset.univ (fun c => iprop(Φ c ∗ Ψ c)) ⊢ iprop(bigSep Finset.univ Φ ∗ bigSep Finset.univ Ψ) :=
  BIBase.Entails.of_eq (bigSep_sep' ..)
theorem pair_up (Φ Ψ : Dev nD → sProp 𝕄) : iprop(bigSep Finset.univ Φ ∗ bigSep Finset.univ Ψ) ⊢ bigSep Finset.univ (fun c => iprop(Φ c ∗ Ψ c)) :=
  BIBase.Entails.of_eq (bigSep_sep' ..).symm

variable (ρ : Dev nD → PrngReg)

theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c)) ∗ levAts L lv)
      ⊢ (|={Set.univ}=> bigSep Finset.univ (T0 m) : sProp 𝕄) := by
  have hcore (c : Dev nD) : iprop(unscopedBufs c (fun b => m ((c : Thread nD τ).loc b)) ∗ unscopedSems0 c
        ∗ owes (c : Thread nD τ) (O₀ c) ∅ ∗ Pipeline.launchCred O₀ c ∗ prngReg c (ρ c) ∗ G c)
      ⊢ (iprop(bundle m c ∗ (semVal (barC c) 0 ∗ G c)) : sProp 𝕄) := by
    rw [show unscopedBufs c (fun b => m ((c : Thread nD τ).loc b)) = StableHlo.held (c : Thread nD τ) (Pipeline.ucRefs τ sig) (V0 m c) from Pipeline.unscopedBufs_held c (V0 m c),
      unscopedSems0_eq]
    unfold bundle
    iintro ⟨Hh, Hus, HO, Hcr, -, HG⟩
    ihave Hc := (creds (F := F) c) $$ Hcr
    isplitl [Hh Hc HO]
    · isplitl [Hh]; · iexact Hh
      isplitl [Hc]; · iexact Hc
      iexact HO
    isplitl [Hus] <;> iassumption
  have hv : bigSep Finset.univ (fun c : Dev nD => (semVal (barC c) 0 : sProp 𝕄)) ⊢ bigSep barCells (fun g => (semVal g 0 : sProp 𝕄)) :=
    BIBase.Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (barC c) 0 ∅ 0 : sProp 𝕄)) :=
    BIBase.Entails.of_eq (bigSep_map (s := Finset.univ) barEmb (Φ := fun g : GSem nD τ sig => (atPos ER g 0 ∅ 0 : sProp 𝕄)))
  have hopen : bigSep scCells (fun g => (openTok ER g : sProp 𝕄)) ⊢ bigSep Finset.univ (fun c : Dev nD => (op12 c : sProp 𝕄)) :=
    BIBase.Entails.of_eq (by
      rw [bigSep_map, bigSep_univ_prod]
      exact bigSep_congr fun c _ => bigSep_univ_eq_bigSepL ([0, 1, 2, 3, 4, 5, 6, 7, 8, 9, 10, 11] : List (Fin 12)) (by decide) (by decide) _)
  iintro ⟨H, -⟩
  ihave H' := (show (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c))
      ⊢ (bigSep Finset.univ fun c : Dev nD => iprop(bundle m c ∗ (semVal (barC c) 0 ∗ G c)) : sProp 𝕄) from bigSep_mono fun c _ => hcore c) $$ H
  ihave H2 := (split_up _ _) $$ H'; icases H2 with ⟨HB, H3⟩
  ihave H4 := (split_up _ _) $$ H3; icases H4 with ⟨Hv, HG⟩
  ihave Hu := (show bigSep Finset.univ (G (F := F)) ⊢ BI.own (ER (Rounds.launchOf barCells scCells duties)) from
    BIBase.Entails.of_eq (atZero_sum (F := F) (BI.own (ER (Rounds.launchOf barCells scCells duties))))) $$ HG
  imod (Rounds.fund_launch ER (Rd (sent m)) disjoint_cells (fun g _ h => h) duties) $$ [Hv Hu] with ⟨%κ, -, #Hinv, #Hr, Hat, Hopen, Htok⟩
  · isplitl [Hv]
    · iapply hv $$ Hv
    · iexact Hu
  imodintro
  iapply (bigSep_with_persistent (R := known (sent m) κ) (Φ := fun c => iprop(alone c ∗ bundle m c)) fun c _ => T0_intro m κ c)
  isplitr
  · unfold known allInv
    isplitr; · iexact Hinv
    iexact Hr
  iapply pair_up
  isplitr [HB]
  · unfold alone
    iapply pair_up; isplitl [Hat]; · iapply hat $$ Hat
    iapply pair_up; isplitl [Hopen]; · iapply hopen $$ Hopen
    iapply (deal (F := F)); iexact Htok
  · iexact HB

/-! ## The run -/

def segs (c : Dev nD) : List (PerCore.Seg (pcfgs (F := F)) adm (pdats m) () (defs₀ (F := F)) Variants.none L lv) :=
  [.host (seg0 m Variants.none L lv (fun _ => rest0 m) c), .region (reg m)]

set_option backward.isDefEq.respectTransparency.types false in
/-- The output array at the end of the region. -/
theorem arr_out (c : Dev nD) : (pdats m 0 c).arrAt (3 : Fin 4) grid0.N = resV m c := by
  refine (pdats m 0 c).arrAt_eq_of_after_last (3 : Fin 4) t0_3 ⟨(flush_w3 c t0_3).mpr (by decide), fun t ht => ?_, fun a => match a with | 0 => ⟨rfl, rfl⟩ | 1 => ⟨rfl, rfl⟩ | 2 => ⟨rfl, rfl⟩ | 3 => ⟨rfl, rfl⟩⟩ (resV m c) (fun j => rfl)
  have h := (flush_w3 c t).mp ht
  have h4 : t.val < 4 := lt_of_lt_of_eq t.isLt N_0
  exact Fin.ext (by show t.val = 3; omega)

theorem unscoped_eq : ∀ sm : SemLoc sig, sm.isScoped .tc = false → sm = .reg barS := by decide

set_option backward.isDefEq.respectTransparency.types false in
/-- THE RUN: from any memory with zero counters every weakly fair execution of the program on the eight devices ends; every end has the
    arguments as launched, the result at the value the blocks give, and every counter at zero. -/
theorem run_main : θ_run defs (onTc (τ := τ) (main (F := F))) ⟨m, fun _ => 0, ρ⟩
    (fun r => (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_v12) = resV m c) ∧ r.2.sem = fun _ => 0) :=
  PerCore.θ_run_regions_kit_sems (pcfgs (F := F)) adm (pdats m) () phinj EP defs₀ Variants.none L lv m ρ main (segs m)
    (fun c Q => by
      rewrite [main_chain c, PerCore.Seg.run_eq_chain,
        show (segs m c).map PerCore.Seg.prog = [
          StableHlo.seq (hostOps0 c),
          Prog.lift (.customCall (Pipeline.entry 0) ()) ] from rfl]
      dsimp (config := { failIfUnchanged := false }) only
      exact .rfl)
    (fun c => by simp only [segs, PerCore.Seg.pipes_host, PerCore.Seg.pipes_region, PerCore.Seg.pipes_nil]; decide)
    (O₀ := O₀) (hL := L_of_ne) (G := G) (u₀ := u₀ (F := F))
    (hu₀ := by
      unfold u₀ G
      iintro Hu
      ihave H := (ownU_pair _ _) $$ Hu
      icases H with ⟨HP, HX⟩
      imodintro
      isplitl [HP]; · iexact HP
      rw [atZero_sum]; iexact HX)
    (T₀ := T0 m) (Tₙ := Tn m)
    (hch := fun c => ⟨.rfl, .rfl, .rfl⟩)
    (hinit := init m ρ)
    (QY := fun c s => (∀ w : Fin 4, s.mem (((spec0 w).arr.view.loc (c.tc : Thread nD τ))) = (pdats m 0 c).arrAt w grid0.N) ∧ s.sem (barC c) = 0)
    (hfin := fun c s' => by
      dsimp only [Tn]
      iintro ⟨⟨HA, Hb⟩, HSI⟩
      icombine HSI Hb gives %hb
      ihave H := (PerCore.arrays_read (p := 0) (pcfgs (F := F)) adm (pdats m) harr c (hshare m c) _ s') $$ [HA HSI]
      · isplitl [HA]; · iexact HA
        iexact HSI
      icases H with ⟨%hA, HSI⟩
      imodintro
      isplitr
      · ipureintro
        exact ⟨hA, by simpa using hb⟩
      iexact HSI)
    (hQ := fun s h hs => ⟨fun c => by
        obtain ⟨hA, -⟩ := h c
        exact ⟨(hA 0).trans ((pdats m 0 c).arrAt_in (0 : Fin 4) rfl _), (hA 1).trans ((pdats m 0 c).arrAt_in (1 : Fin 4) rfl _),
          (hA 2).trans ((pdats m 0 c).arrAt_in (2 : Fin 4) rfl _), (hA 3).trans (arr_out m c)⟩,
      sem_eq_zero hs fun c sm hsm => by
        obtain rfl := unscoped_eq sm hsm
        exact (h c).2⟩)

end Cert.KernelIdeal.Hand
end
-- ==== Proof.Frames.lean ====
/-
  The frame claims of the kernel, at machine words and at the extended reals, each from its run; and the
  named constant, whose word is the one the kernel prints.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Launch
public import proofs.«01_k».proof.Proof.Words.Launch

@[expose] public section

set_option maxRecDepth 16384

noncomputable section

namespace Cert.Proof

open Idealize.ShloMosaic Idealize.SL.Sem

/-- The kernel at machine words ends, leaves its arguments alone, and every semaphore at zero. -/
theorem frame_kernel : Cert.quiescent_Kernel := fun m g _ =>
  (θ_run Cert.Kernel.defs _ _).mono (fun _ h => ⟨fun c => ⟨(h.1 c).1, (h.1 c).2.1, (h.1 c).2.2.1⟩, h.2⟩)
    (Cert.Kernel.Hand.run_main (F := Bits) m g)

/-- The kernel at the extended reals ends, leaves its arguments alone, and every semaphore at zero. -/
theorem frame_ideal : Cert.quiescent_KernelIdeal := fun m g _ =>
  (θ_run Cert.KernelIdeal.defs _ _).mono (fun _ h => ⟨fun c => ⟨(h.1 c).1, (h.1 c).2.1, (h.1 c).2.2.1⟩, h.2⟩)
    (Cert.KernelIdeal.Hand.run_main (F := Ideal) m g)

/-- The reference ends, leaves its arguments alone, and every semaphore at zero. -/
theorem frame_reference : Cert.quiescent_ReferenceIdeal := fun m g _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m g)

/-- The constant named `inv_sqrt_d` is the word the kernel prints. -/
theorem named_word : Cert.preserves_Kernel_KernelIdeal :=
  IdealRules.named_const.statement Cert.KernelIdeal.κ "inv_sqrt_d" .f32 0x3DB504F3#32 _ rfl

end Cert.Proof

end
-- ==== Proof.Value.Consts.lean ====
/-
  The float constants of the programs as extended reals.
-/
module

public import Idealize.ShloMosaic.PureOps.Ideal

@[expose] public section

namespace Cert.Consts

open Idealize.ShloMosaic

theorem neg_inf : Ideal.ofBits .f32 0xFF800000#32 = ⊥ := by simp [Ideal.ofBits, Ideal.ieee]
theorem pos_inf : Ideal.ofBits .f32 0x7F800000#32 = ⊤ := by simp [Ideal.ofBits, Ideal.ieee]
theorem d_head : Ideal.ofBits .f32 0x43000000#32 = ((128 : ℝ) : EReal) := by simp [Ideal.ofBits, Ideal.ieee, -EReal.coe_mul]; norm_num

end Cert.Consts
-- ==== Proof.Value.Step.lean ====
/-
  The kernel's arithmetic at the extended reals, read at one element: one step of the accumulators, the
  packed quotient, and the merge of the two halves.
-/
module

public import proofs.«01_k».proof.Proof.Gen.KernelIdeal.Skeleton
public import proofs.«01_k».proof.Proof.Step
public import proofs.«01_k».proof.Proof.Comb
public import proofs.«01_k».proof.Proof.Moves
public import proofs.«01_k».proof.Proof.Value.Consts
public import Idealize.ShloMosaic.Lib.Pointwise

@[expose] public section

set_option maxRecDepth 16384

noncomputable section

namespace Cert.KernelIdeal.Hand

open Cert.KernelIdeal Cert.KernelIdeal.Gen
open Idealize.ShloMosaic Idealize.ShloMosaic.TcCoe Idealize.SL.Sem

/-- The score of a query row against a key of the block. -/
def sc (q : FVec Ideal S1x32x8x128 .f32) (k : FVec Ideal S1x1024x8x128 .f32) (h : Fin 8) (r : Fin 32) (j : Fin 1024) : EReal :=
  (∑ d : Fin 128, q (ix4 0 r h d) * k (ix4 0 j h d)) * (((Real.sqrt 128)⁻¹ : ℝ) : EReal)

theorem headS_pt (q : FVec Ideal S1x32x8x128 .f32) (k : FVec Ideal S1x1024x8x128 .f32) (h : Fin 8) (r : Fin 32) (j : Fin 1024) :
    headS (F := Ideal) q k h (ix2 r j) = sc q k h r j := by
  unfold headS
  pointwise [k0_pay45, k0_pay42, sc]
  exact congrArg _ (IdealRules.named_const.ideal_named_scalar _ _ _ _ rfl)

theorem headM_pt (q : FVec Ideal S1x32x8x128 .f32) (k : FVec Ideal S1x1024x8x128 .f32) (M : FVec Ideal S8x32x1 .f32) (h : Fin 8) (r : Fin 32) :
    headM (F := Ideal) q k M h (ix3 0 r 0) = max (M (ix3 h r 0)) (Finset.univ.fold max ⊥ fun j => sc q k h r j) := by
  unfold headM
  pointwise [k0_pay50, k0_pay47, k0_pay46, headS_pt]
  rw [Consts.neg_inf]

theorem headL_pt (q : FVec Ideal S1x32x8x128 .f32) (k : FVec Ideal S1x1024x8x128 .f32) (M L : FVec Ideal S8x32x1 .f32) (h : Fin 8) (r : Fin 32) :
    headL (F := Ideal) q k M L h (ix3 0 r 0) =
      L (ix3 h r 0) * Ideal.exp (M (ix3 h r 0) - max (M (ix3 h r 0)) (Finset.univ.fold max ⊥ fun j => sc q k h r j))
        + ∑ j, Ideal.exp (sc q k h r j - max (M (ix3 h r 0)) (Finset.univ.fold max ⊥ fun j => sc q k h r j)) := by
  unfold headL
  pointwise [k0_pay51, k0_pay49, k0_pay48, k0_pay47, k0_pay46, headS_pt]
  rw [Consts.neg_inf]

theorem headO_pt (q : FVec Ideal S1x32x8x128 .f32) (k v : FVec Ideal S1x1024x8x128 .f32) (M : FVec Ideal S8x32x1 .f32) (O : FVec Ideal S32x8x128 .f32) (h : Fin 8) (r : Fin 32) (d : Fin 128) :
    headO (F := Ideal) q k v M O h (ix3 r 0 d) =
      O (ix3 r h d) * Ideal.exp (M (ix3 h r 0) - max (M (ix3 h r 0)) (Finset.univ.fold max ⊥ fun j => sc q k h r j))
        + ∑ j, Ideal.exp (sc q k h r j - max (M (ix3 h r 0)) (Finset.univ.fold max ⊥ fun j => sc q k h r j)) * v (ix4 0 j h d) := by
  unfold headO
  pointwise [k0_pay52, k0_pay43, k0_pay44, k0_pay49, k0_pay48, k0_pay47, k0_pay46, headS_pt]
  rw [Consts.neg_inf]

/-- The packed quotient at one element. -/
theorem opOf_pt (O : FVec Ideal S32x8x128 .f32) (L : FVec Ideal S8x32x1 .f32) (r : Fin 32) (h : Fin 8) (d : Fin 128) :
    opOf (F := Ideal) O L (ix4 0 r h d) = Ideal.div (O (ix3 r h d)) (L (ix3 h r 0)) := by
  show headP (F := Ideal) O L h (ix4 0 r 0 d) = _
  unfold headP
  pointwise [k0_pay10, k0_pay9]

/-- One head's weights, as a column. -/
def wcol (w : FVec Ideal S1x8x32x1 .f32) (h : Fin 8) : FVec Ideal S32x1 .f32 :=
  shapeCast S32x1 (extractStridedSlice S1x1x32x1 ![0, h.val, 0, 0] w (slicesW h)) shapeCasts_S1x1x32x1_S32x1

theorem wcol_pt (w : FVec Ideal S1x8x32x1 .f32) (h : Fin 8) (r : Fin 32) : wcol w h (ix2 r 0) = w (ix4 0 h r 0) := by
  have e : extractStridedSlice S1x1x32x1 ![0, h.val, 0, 0] w (slicesW h) (ix4 0 0 r 0) = w (ix4 0 h r 0) :=
    congrArg w (by idx_ext)
  rw [← e]
  unfold wcol
  generalize extractStridedSlice S1x1x32x1 ![0, h.val, 0, 0] w (slicesW h) = W
  pointwise []

/-- One packed head, as rows. -/
def hrow (op : FVec Ideal S1x32x8x128 .bf16) (h : Fin 8) : FVec Ideal S32x128 .bf16 :=
  shapeCast S32x128 (View.ld (Val := Elt Ideal) (e' := .bf16) op (rQ h)) shapeCasts_S1x32x1x128_S32x128

/-- The rows of a block with one head. -/
def rows (x : FVec Ideal S1x32x1x128 .bf16) : FVec Ideal S32x128 .bf16 := shapeCast S32x128 x shapeCasts_S1x32x1x128_S32x128

theorem rows_pt (x : FVec Ideal S1x32x1x128 .bf16) (r : Fin 32) (d : Fin 128) : rows x (ix2 r d) = x (ix4 0 r 0 d) := by
  pointwise [rows]

theorem hrow_pt (op : FVec Ideal S1x32x8x128 .bf16) (h : Fin 8) (r : Fin 32) (d : Fin 128) : hrow op h (ix2 r d) = op (ix4 0 r h d) := by
  have e : hrow op h (ix2 r d) = View.ld (Val := Elt Ideal) (e' := .bf16) op (rQ h) (ix4 0 r 0 d) := rows_pt _ r d
  rw [e]
  exact congrArg op (by idx_ext)

/-- The weighted sum of two heads. -/
def hsum (a b : FVec Ideal S32x128 .bf16) (A B : FVec Ideal S32x1 .f32) : FVec Ideal S32x1x128 .bf16 :=
  shapeCast S32x1x128 (truncf .bf16 (addf (mulf (extf .f32 a bitsLt_bf16_f32) (broadcastTo S32x128 A broadcasts_S32x1_S32x128))
    (mulf (extf .f32 b bitsLt_bf16_f32) (broadcastTo S32x128 B broadcasts_S32x1_S32x128))) bitsLt_bf16_f32) shapeCasts_S32x128_S32x1x128

theorem hsum_pt (a b : FVec Ideal S32x128 .bf16) (A B : FVec Ideal S32x1 .f32) (r : Fin 32) (d : Fin 128) :
    hsum a b A B (ix3 r 0 d) = a (ix2 r d) * A (ix2 r 0) + b (ix2 r d) * B (ix2 r 0) := by
  pointwise [hsum]

theorem headC_eq (wa wb : FVec Ideal S1x8x32x1 .f32) (op ro : FVec Ideal S1x32x8x128 .bf16) (h : Fin 8) :
    headC (F := Ideal) wa wb op ro h = hsum (hrow op h) (hrow ro h) (wcol wa h) (wcol wb h) := by
  unfold headC hsum hrow wcol
  rfl

theorem headC_pt (wa wb : FVec Ideal S1x8x32x1 .f32) (op ro : FVec Ideal S1x32x8x128 .bf16) (r : Fin 32) (h : Fin 8) (d : Fin 128) :
    headC (F := Ideal) wa wb op ro h (ix3 r 0 d) = op (ix4 0 r h d) * wa (ix4 0 h r 0) + ro (ix4 0 r h d) * wb (ix4 0 h r 0) := by
  rw [headC_eq, hsum_pt, hrow_pt, hrow_pt, wcol_pt, wcol_pt]

/-- The merged halves at one element. -/
theorem coOf_pt (op ro : FVec Ideal S1x32x8x128 .bf16) (om rm ol rl : FVec Ideal S1x8x32x1 .f32) (r : Fin 32) (h : Fin 8) (d : Fin 128) :
    coOf (F := Ideal) op ro om rm ol rl (ix3 r h d) =
      op (ix4 0 r h d) * Ideal.div (Ideal.exp (om (ix4 0 h r 0) - max (om (ix4 0 h r 0)) (rm (ix4 0 h r 0))) * ol (ix4 0 h r 0))
          (Ideal.exp (om (ix4 0 h r 0) - max (om (ix4 0 h r 0)) (rm (ix4 0 h r 0))) * ol (ix4 0 h r 0) + Ideal.exp (rm (ix4 0 h r 0) - max (om (ix4 0 h r 0)) (rm (ix4 0 h r 0))) * rl (ix4 0 h r 0))
      + ro (ix4 0 r h d) * Ideal.div (Ideal.exp (rm (ix4 0 h r 0) - max (om (ix4 0 h r 0)) (rm (ix4 0 h r 0))) * rl (ix4 0 h r 0))
          (Ideal.exp (om (ix4 0 h r 0) - max (om (ix4 0 h r 0)) (rm (ix4 0 h r 0))) * ol (ix4 0 h r 0) + Ideal.exp (rm (ix4 0 h r 0) - max (om (ix4 0 h r 0)) (rm (ix4 0 h r 0))) * rl (ix4 0 h r 0)) := by
  have e : coOf (F := Ideal) op ro om rm ol rl (ix3 r h d) = headC (F := Ideal) (k0_pay27 om rm ol rl) (k0_pay28 om rm ol rl) op ro h (ix3 r 0 d) :=
    congrArg (headC (F := Ideal) (k0_pay27 om rm ol rl) (k0_pay28 om rm ol rl) op ro h) (by idx_ext)
  rw [e, headC_pt]
  pointwise [k0_pay27, k0_pay28, k0_pay26, k0_pay25, k0_pay24, k0_pay23]

/-- The result at one element. -/
theorem outOf_pt (X : Fin 4 → FVec Ideal S32x8x128 .bf16) (b : Fin 4) (r : Fin 32) (h : Fin 8) (d : Fin 128) :
    outOf (F := Ideal) X (ix4 b r h d) = X b (ix3 r h d) := by
  have e : outOf (F := Ideal) X (ix4 b r h d) = k0_pay39 (F := Ideal) (X b) (ix4 0 r h d) := congrArg (k0_pay39 (F := Ideal) (X b)) (by idx_ext)
  rw [e]
  pointwise [k0_pay39]

theorem stepM_pt (q : FVec Ideal S1x32x8x128 .f32) (k : FVec Ideal S1x1024x8x128 .f32) (M : FVec Ideal S8x32x1 .f32) (h : Fin 8) (r : Fin 32) :
    stepM (F := Ideal) q k M (ix3 h r 0) = headM (F := Ideal) q k M h (ix3 0 r 0) := congrArg (headM (F := Ideal) q k M h) (by idx_ext)
theorem stepL_pt (q : FVec Ideal S1x32x8x128 .f32) (k : FVec Ideal S1x1024x8x128 .f32) (M L : FVec Ideal S8x32x1 .f32) (h : Fin 8) (r : Fin 32) :
    stepL (F := Ideal) q k M L (ix3 h r 0) = headL (F := Ideal) q k M L h (ix3 0 r 0) := congrArg (headL (F := Ideal) q k M L h) (by idx_ext)
theorem stepO_pt (q : FVec Ideal S1x32x8x128 .f32) (k v : FVec Ideal S1x1024x8x128 .f32) (M : FVec Ideal S8x32x1 .f32) (O : FVec Ideal S32x8x128 .f32) (r : Fin 32) (h : Fin 8) (d : Fin 128) :
    stepO (F := Ideal) q k v M O (ix3 r h d) = headO (F := Ideal) q k v M O h (ix3 r 0 d) := congrArg (headO (F := Ideal) q k v M O h) (by idx_ext)

/-- The accumulators at the start. -/
theorem start_M (h : Fin 8) (r : Fin 32) : (k0_pay6 : FVec Ideal S8x32x1 .f32) (ix3 h r 0) = ⊥ := by
  pointwise [k0_pay6]
  exact Consts.neg_inf
theorem start_L (h : Fin 8) (r : Fin 32) : (k0_pay7 : FVec Ideal S8x32x1 .f32) (ix3 h r 0) = 0 := by
  pointwise [k0_pay7]
theorem start_O (r : Fin 32) (h : Fin 8) (d : Fin 128) : (k0_pay8 : FVec Ideal S32x8x128 .f32) (ix3 r h d) = 0 := by
  pointwise [k0_pay8]
theorem om_pt (M : FVec Ideal S8x32x1 .f32) (h : Fin 8) (r : Fin 32) : (k0_pay21 M : FVec Ideal S1x8x32x1 .f32) (ix4 0 h r 0) = M (ix3 h r 0) := by
  pointwise [k0_pay21]
theorem ol_pt (L : FVec Ideal S8x32x1 .f32) (h : Fin 8) (r : Fin 32) : (k0_pay22 L : FVec Ideal S1x8x32x1 .f32) (ix4 0 h r 0) = L (ix3 h r 0) := by
  pointwise [k0_pay22]

end Cert.KernelIdeal.Hand

end
-- ==== Proof.Value.Softmax.lean ====
/-
  Attention over a set of keys, in extended reals: the running state of the online softmax, one step of it,
  and the merge of two disjoint sets of keys.  The scores are real, the values any extended reals.  A state
  records the weights relative to some real shift; it need not be the largest score.
-/
module

public import Idealize.ShloMosaic.PureOps.Ideal

@[expose] public section

noncomputable section

namespace Cert.Softmax

open Idealize.ShloMosaic Finset

/-- A nonnegative real factor distributes over a sum. -/
theorem scale_add {a : ℝ} (ha : 0 ≤ a) (x y : EReal) : (a : EReal) * (x + y) = (a : EReal) * x + (a : EReal) * y :=
  EReal.left_distrib_of_nonneg_of_ne_top (EReal.coe_nonneg.2 ha) (EReal.coe_ne_top a) x y

/-- The larger of two reals, read in the extended reals. -/
theorem max_coe (a b : ℝ) : max (a : EReal) (b : EReal) = ((max a b : ℝ) : EReal) := (EReal.coe_strictMono.monotone.map_max).symm

/-- A nonnegative real factor goes into a finite sum. -/
theorem sum_scale {ι : Type} (A : Finset ι) (f : ι → EReal) (a : ℝ) (ha : 0 ≤ a) :
    (∑ i ∈ A, f i) * (a : EReal) = ∑ i ∈ A, f i * (a : EReal) := by
  classical
  induction A using Finset.induction_on with
  | empty => simp
  | insert i A hi ih =>
    rw [sum_insert hi, sum_insert hi, ← ih, mul_comm, scale_add ha, mul_comm (a : EReal), mul_comm (a : EReal)]

/-- A finite sum of reals, read in the extended reals. -/
theorem sum_coe {ι : Type} (A : Finset ι) (f : ι → ℝ) : (∑ i ∈ A, (f i : EReal)) = ((∑ i ∈ A, f i : ℝ) : EReal) := by
  classical
  induction A using Finset.induction_on with
  | empty => simp
  | insert i A hi ih => rw [sum_insert hi, sum_insert hi, ih, EReal.coe_add]

/-- The largest of finitely many reals is one real, if there is any. -/
theorem fold_real {n : ℕ} (hn : 0 < n) (f : Fin n → ℝ) :
    ∃ b : ℝ, (Finset.univ.fold max (⊥ : EReal) fun k => (f k : EReal)) = (b : EReal) := by
  have hb : ∀ A : Finset (Fin n), A.Nonempty → ∃ b : ℝ, (A.fold max (⊥ : EReal) fun k => (f k : EReal)) = (b : EReal) := by
    intro A
    induction A using Finset.induction_on with
    | empty => intro h; exact absurd h (by simp)
    | insert i A hi ih =>
      intro _
      rw [fold_insert hi]
      rcases A.eq_empty_or_nonempty with h | h
      · subst h; exact ⟨f i, by simp⟩
      · obtain ⟨b, hb⟩ := ih h
        exact ⟨max (f i) b, by rw [hb]; exact max_coe _ _⟩
  exact hb _ ⟨⟨0, hn⟩, mem_univ _⟩

variable (s : ℕ → ℝ) (v : ℕ → EReal)

/-- The weights of the keys `A`, relative to the shift `μ`. -/
def wt (μ : ℝ) (A : Finset ℕ) : ℝ := ∑ i ∈ A, Real.exp (s i - μ)
/-- The weighted values of the keys `A`, relative to the shift `μ`. -/
def acc (μ : ℝ) (A : Finset ℕ) : EReal := ∑ i ∈ A, (Real.exp (s i - μ) : EReal) * v i

/-- Attention over the keys `A`. -/
def att (A : Finset ℕ) : EReal := ∑ i ∈ A, ((Real.exp (s i) / ∑ j ∈ A, Real.exp (s j) : ℝ) : EReal) * v i

/-- The state of the online softmax after the keys `A`. -/
def Inv (A : Finset ℕ) (M L O : EReal) : Prop := ∃ μ : ℝ, M = μ ∧ L = wt s μ A ∧ O = acc s v μ A

theorem wt_pos (μ : ℝ) (A : Finset ℕ) (h : A.Nonempty) : 0 < wt s μ A := sum_pos (fun _ _ => Real.exp_pos _) h

/-- A change of the shift. -/
theorem wt_shift (μ ν : ℝ) (A : Finset ℕ) : wt s μ A * Real.exp (μ - ν) = wt s ν A := by
  unfold wt; rw [sum_mul]; refine sum_congr rfl fun i _ => ?_
  rw [← Real.exp_add]; congr 1; ring

theorem acc_shift (μ ν : ℝ) (A : Finset ℕ) : acc s v μ A * (Real.exp (μ - ν) : EReal) = acc s v ν A := by
  unfold acc; rw [sum_scale _ _ _ (Real.exp_pos _).le]; refine sum_congr rfl fun i _ => ?_
  rw [mul_right_comm, ← EReal.coe_mul, ← Real.exp_add]; congr 3; ring

/-- The first block of keys. -/
theorem Inv.first (B : Finset ℕ) (b : ℝ) :
    Inv s v B (max ⊥ (b : EReal)) (0 * Ideal.exp (⊥ - max ⊥ (b : EReal)) + ∑ i ∈ B, Ideal.exp ((s i : EReal) - max ⊥ (b : EReal)))
      (0 * Ideal.exp (⊥ - max ⊥ (b : EReal)) + ∑ i ∈ B, Ideal.exp ((s i : EReal) - max ⊥ (b : EReal)) * v i) := by
  have e : max ⊥ (b : EReal) = b := max_eq_right bot_le
  rw [e]
  refine ⟨b, rfl, ?_, ?_⟩
  · rw [zero_mul, zero_add]; unfold wt; rw [← sum_coe]; rfl
  · rw [zero_mul, zero_add]; rfl

/-- One further block of keys. -/
theorem Inv.next {A B : Finset ℕ} (hd : Disjoint A B) (b : ℝ) {M L O : EReal} (h : Inv s v A M L O) :
    Inv s v (A ∪ B) (max M (b : EReal)) (L * Ideal.exp (M - max M (b : EReal)) + ∑ i ∈ B, Ideal.exp ((s i : EReal) - max M (b : EReal)))
      (O * Ideal.exp (M - max M (b : EReal)) + ∑ i ∈ B, Ideal.exp ((s i : EReal) - max M (b : EReal)) * v i) := by
  obtain ⟨μ, rfl, rfl, rfl⟩ := h
  have e : max (μ : EReal) (b : EReal) = ((max μ b : ℝ) : EReal) := max_coe _ _
  rw [e]
  generalize max μ b = ν
  have e1 : Ideal.exp ((μ : EReal) - (ν : EReal)) = (Real.exp (μ - ν) : EReal) := rfl
  refine ⟨ν, rfl, ?_, ?_⟩
  · have e2 : (∑ i ∈ B, Ideal.exp ((s i : EReal) - (ν : EReal))) = (wt s ν B : EReal) := by unfold wt; rw [← sum_coe]; rfl
    rw [e1, e2, ← EReal.coe_mul, wt_shift, ← EReal.coe_add]; unfold wt; rw [sum_union hd]
  · rw [e1, acc_shift]; unfold acc; rw [sum_union hd]; rfl

/-- The weighted values over the weights are the attention, whatever the shift. -/
theorem att_eq (μ : ℝ) (A : Finset ℕ) (h : A.Nonempty) : acc s v μ A * ((1 / wt s μ A : ℝ) : EReal) = att s v A := by
  unfold acc att
  rw [sum_scale _ _ _ (one_div_nonneg.2 (wt_pos s μ A h).le)]
  refine sum_congr rfl fun i _ => ?_
  rw [mul_right_comm, ← EReal.coe_mul]
  congr 2
  have hA : (∑ j ∈ A, Real.exp (s j)) = wt s μ A * Real.exp μ := by
    have := wt_shift s μ 0 A
    rw [sub_zero] at this; rw [this]; unfold wt; simp
  have h0 := (wt_pos s μ A h).ne'
  have h1 := (Real.exp_pos μ).ne'
  rw [hA, Real.exp_sub]; field_simp

/-- The merge of two disjoint sets of keys: the two quotients, each times its share of the weights. -/
theorem merge {A B : Finset ℕ} (hd : Disjoint A B) (hA : A.Nonempty) (hB : B.Nonempty) {M L O M' L' O' : EReal} (h : Inv s v A M L O) (h' : Inv s v B M' L' O') :
    Ideal.div O L * Ideal.div (Ideal.exp (M - max M M') * L) (Ideal.exp (M - max M M') * L + Ideal.exp (M' - max M M') * L')
      + Ideal.div O' L' * Ideal.div (Ideal.exp (M' - max M M') * L') (Ideal.exp (M - max M M') * L + Ideal.exp (M' - max M M') * L')
      = att s v (A ∪ B) := by
  obtain ⟨μ, rfl, rfl, rfl⟩ := h
  obtain ⟨ν, rfl, rfl, rfl⟩ := h'
  have e : max (μ : EReal) (ν : EReal) = ((max μ ν : ℝ) : EReal) := max_coe _ _
  rw [e]
  generalize max μ ν = τ
  have hA0 := wt_pos s μ A hA
  have hB0 := wt_pos s ν B hB
  have hAB : (A ∪ B).Nonempty := hA.mono subset_union_left
  have hT := wt_pos s τ _ hAB
  have eA : Ideal.exp ((μ : EReal) - (τ : EReal)) * (wt s μ A : EReal) = (wt s τ A : EReal) := by
    show (Real.exp (μ - τ) : EReal) * _ = _
    rw [← EReal.coe_mul, mul_comm, wt_shift]
  have eB : Ideal.exp ((ν : EReal) - (τ : EReal)) * (wt s ν B : EReal) = (wt s τ B : EReal) := by
    show (Real.exp (ν - τ) : EReal) * _ = _
    rw [← EReal.coe_mul, mul_comm, wt_shift]
  have eT : (wt s τ A : EReal) + (wt s τ B : EReal) = (wt s τ (A ∪ B) : EReal) := by
    rw [← EReal.coe_add]; unfold wt; rw [sum_union hd]
  rw [eA, eB, eT, Ideal.div_coe hA0.ne', Ideal.div_coe hB0.ne', Ideal.div_coe hT.ne', Ideal.div_coe hT.ne']
  have part : ∀ (κ : ℝ) (C : Finset ℕ), 0 < wt s κ C →
      acc s v κ C * ((1 / wt s κ C : ℝ) : EReal) * ((wt s τ C : EReal) * ((1 / wt s τ (A ∪ B) : ℝ) : EReal)) = acc s v τ C * ((1 / wt s τ (A ∪ B) : ℝ) : EReal) := by
    intro κ C hC
    rw [← acc_shift s v κ τ C, mul_assoc, mul_assoc, ← EReal.coe_mul, ← EReal.coe_mul, ← EReal.coe_mul]
    congr 2
    rw [← wt_shift s κ τ C]
    have := hC.ne'
    field_simp
  rw [part μ A hA0, part ν B hB0, ← att_eq s v τ _ hAB]
  have eacc : acc s v τ (A ∪ B) = acc s v τ A + acc s v τ B := by unfold acc; rw [sum_union hd]
  rw [eacc, mul_comm _ ((1 / wt s τ (A ∪ B) : ℝ) : EReal), mul_comm _ ((1 / wt s τ (A ∪ B) : ℝ) : EReal), mul_comm _ ((1 / wt s τ (A ∪ B) : ℝ) : EReal),
    scale_add (one_div_nonneg.2 hT.le)]

/-- The plain form: weights relative to any real shift, each over their sum. -/
theorem plain (μ : ℝ) (A : Finset ℕ) (h : A.Nonempty) :
    (∑ i ∈ A, v i * Ideal.div (Ideal.exp ((s i : EReal) - (μ : EReal))) (0 + ∑ j ∈ A, Ideal.exp ((s j : EReal) - (μ : EReal)))) = att s v A := by
  have e2 : (∑ i ∈ A, Ideal.exp ((s i : EReal) - (μ : EReal))) = (wt s μ A : EReal) := by unfold wt; rw [← sum_coe]; rfl
  rw [zero_add, e2, ← att_eq s v μ A h]
  unfold acc
  rw [sum_scale _ _ _ (one_div_nonneg.2 (wt_pos s μ A h).le)]
  refine sum_congr rfl fun i _ => ?_
  rw [Ideal.div_coe (wt_pos s μ A h).ne', mul_comm]
  rw [mul_right_comm]; rfl

end Cert.Softmax

end
-- ==== Proof.Value.Ref.lean ====
/-
  The reference's result at the extended reals, read at one element.
-/
module

public import proofs.«01_k».proof.Proof.Gen.ReferenceIdeal
public import proofs.«01_k».proof.Proof.Gen.ReferenceIdeal.Run
public import proofs.«01_k».proof.Proof.Value.Consts
public import proofs.«01_k».proof.Proof.Value.Softmax
public import Idealize.ShloMosaic.Lib.Pointwise

@[expose] public section

set_option maxRecDepth 16384

noncomputable section

namespace Cert.ReferenceIdeal.Hand

open Cert.ReferenceIdeal Cert.ReferenceIdeal.Gen
open Idealize.ShloMosaic Idealize.ShloMosaic.TcCoe Idealize.SL.Sem

variable (Q : FVec Ideal S4x32x8x128 .f32) (K V : FVec Ideal S4x8192x8x128 .f32)

/-- The scaled scores. -/
def refS : FVec Ideal S4x8x32x8192 .f32 := Host.divf (Host.dotGeneral dot_S4x32x8x128_S4x8192x8x128_S4x8x32x8192_3_3_1_1_02_02 none Q K) (broadcastInDim S4x8x32x8192 ![] bcast_S_S4x8x32x8192 (Host.sqrt (constant S_ .f32 0x43000000#32)))
/-- Their largest per row. -/
def refM : FVec Ideal S4x8x32 .f32 := Host.reduce FloatOps.maximumf (refS Q K) (constant S_ .f32 0xFF800000#32) reducesTo_S4x8x32x8192_S4x8x32_d3 h_S_
/-- The weights. -/
def refE : FVec Ideal S4x8x32x8192 .f32 := Host.exp (subf (refS Q K) (broadcastInDim S4x8x32x8192 ![0, 1, 2, 3] bcast_S4x8x32x1_S4x8x32x8192_0_1_2_3 (broadcastInDim S4x8x32x1 ![0, 1, 2] bcast_S4x8x32_S4x8x32x1_0_1_2 (refM Q K))))
/-- The result. -/
def refV : FVec Ideal S4x32x8x128 .f32 := transpose S4x32x8x128 [0, 3, 1, 2] (Host.dotGeneral dot_S4x8192x8x128_S4x8x32x8192_S4x8x128x32_1_3_3_2_02_01 none V (Host.divf (refE Q K) (broadcastInDim S4x8x32x8192 ![0, 1, 2, 3] bcast_S4x8x32x1_S4x8x32x8192_0_1_2_3 (broadcastInDim S4x8x32x1 ![0, 1, 2] bcast_S4x8x32_S4x8x32x1_0_1_2 (Host.reduceAdd (refE Q K) (constant S_ .f32 0x00000000#32) reducesTo_S4x8x32x8192_S4x8x32_d3 h_S_))))) transposes_S4x8x128x32_S4x32x8x128_0_3_1_2

/-- A score at one element. -/
def rs (b : Fin 4) (h : Fin 8) (r : Fin 32) (j : Fin 8192) : EReal :=
  (∑ d : Fin 128, Q (ix4 b r h d) * K (ix4 b j h d)) * (((Real.sqrt 128)⁻¹ : ℝ) : EReal)

theorem refS_pt (b : Fin 4) (h : Fin 8) (r : Fin 32) (j : Fin 8192) : refS Q K (ix4 b h r j) = rs Q K b h r j := by
  have hs : Ideal.div (∑ d : Fin 128, Q (ix4 b r h d) * K (ix4 b j h d)) (Ideal.sqrt (Ideal.ofBits .f32 0x43000000#32)) = rs Q K b h r j := by
    have h128 : (0 : ℝ) < Real.sqrt 128 := Real.sqrt_pos.2 (by norm_num)
    rw [Consts.d_head, Ideal.sqrt_coe, if_neg (by norm_num), Ideal.div_coe h128.ne', one_div]; rfl
  rw [← hs]
  pointwise [refS]

theorem refM_pt (b : Fin 4) (h : Fin 8) (r : Fin 32) : refM Q K (ix3 b h r) = Finset.univ.fold max ⊥ fun j => rs Q K b h r j := by
  pointwise [refM, refS_pt]
  rw [Consts.neg_inf]

theorem refE_pt (b : Fin 4) (h : Fin 8) (r : Fin 32) (j : Fin 8192) :
    refE Q K (ix4 b h r j) = Ideal.exp (rs Q K b h r j - Finset.univ.fold max ⊥ fun j => rs Q K b h r j) := by
  pointwise [refE, refS_pt, refM_pt]

theorem refV_pt (b : Fin 4) (r : Fin 32) (h : Fin 8) (d : Fin 128) :
    refV Q K V (ix4 b r h d) = ∑ j : Fin 8192, V (ix4 b j h d) *
      Ideal.div (Ideal.exp (rs Q K b h r j - Finset.univ.fold max ⊥ fun j => rs Q K b h r j))
        (0 + ∑ j : Fin 8192, Ideal.exp (rs Q K b h r j - Finset.univ.fold max ⊥ fun j => rs Q K b h r j)) := by
  pointwise [refV, refE_pt]

end Cert.ReferenceIdeal.Hand

end
-- ==== Proof.Value.Result.lean ====
/-
  The kernel's result is the reference's: after each block of keys the accumulators are the online softmax of
  the keys so far, and the two halves merge to attention over all keys.
-/
module

public import proofs.«01_k».proof.Proof.Value.Step
public import proofs.«01_k».proof.Proof.Value.Softmax
public import proofs.«01_k».proof.Proof.Value.Ref
public import proofs.«01_k».proof.Proof.Values

@[expose] public section

set_option maxRecDepth 16384

noncomputable section

namespace Cert.KernelIdeal.Hand

open Cert.KernelIdeal Cert.KernelIdeal.Gen
open Idealize.ShloMosaic Idealize.ShloMosaic.TcCoe Idealize.SL.Sem
open Cert.Softmax (Inv att)
open Finset (Ico)

/-- A sum over a block of keys, by position in the block. -/
theorem sum_block (n a : ℕ) (f : ℕ → EReal) : (∑ i ∈ Ico a (a + n), f i) = ∑ j : Fin n, f (a + j.val) := by
  rw [Finset.sum_Ico_eq_sum_range, Nat.add_sub_cancel_left, Finset.sum_range]

/-- Key `i`, of the 8192. -/
def key (i : ℕ) : Fin 8192 := ⟨i % 8192, Nat.mod_lt _ (by decide)⟩

variable (m : (ℓ : Loc nD τ sig) → Buf (Elt Ideal) ℓ)
variable (Q : FVec Ideal S4x32x8x128 .f32) (K V : FVec Ideal Cert.ReferenceIdeal.S4x8192x8x128 .f32)

/-- Each device holds the queries and its half of the keys and of the values. -/
def Holds : Prop := ∀ c : Dev nD,
  (∀ b r h d, m ((c : Thread nD τ).loc main_arg0) (ix4 b r h d : S4x32x8x128.Idx) = Q (ix4 b r h d))
  ∧ (∀ (b : Fin 4) (y : Fin 4096) (h : Fin 8) (d : Fin 128), m ((c : Thread nD τ).loc main_arg1) (ix4 b y h d : S4x4096x8x128.Idx) = K (ix4 b (key (4096 * (c.val % 2) + y.val)) h d))
  ∧ (∀ (b : Fin 4) (y : Fin 4096) (h : Fin 8) (d : Fin 128), m ((c : Thread nD τ).loc main_arg2) (ix4 b y h d : S4x4096x8x128.Idx) = V (ix4 b (key (4096 * (c.val % 2) + y.val)) h d))

/-- The real score and the value of key `i`. -/
def sR (b : Fin 4) (h : Fin 8) (r : Fin 32) (i : ℕ) : ℝ := (Cert.ReferenceIdeal.Hand.rs Q K b h r (key i)).toReal
def vE (b : Fin 4) (h : Fin 8) (d : Fin 128) (i : ℕ) : EReal := V (ix4 b (key i) h d)

/-- Every score is a real number. -/
def RealS : Prop := ∀ b h r j, Cert.ReferenceIdeal.Hand.rs Q K b h r j = (((Cert.ReferenceIdeal.Hand.rs Q K b h r j).toReal : ℝ) : EReal)

variable {m Q K V}

theorem sc_pt (H : Holds m Q K V) (hs : RealS Q K) (c : Dev nD) (t : Fin grid0.N) (h : Fin 8) (r : Fin 32) (j : Fin 1024) :
    sc (qB m c t) (kB m c t) h r j = (sR Q K (bat c) h r (4096 * (c.val % 2) + 1024 * t.val + j.val) : EReal) := by
  unfold sR
  rw [← hs]
  unfold sc Cert.ReferenceIdeal.Hand.rs
  congr 1
  refine Finset.sum_congr rfl fun d _ => ?_
  have ht : t.val < 4 := N_0 ▸ t.isLt
  have hq : qB m c t (ix4 0 r h d) = Q (ix4 (bat c) r h d) :=
    (congrArg (m ((c : Thread nD τ).loc main_arg0)) (by idx_ext : qB.qIx c (ix4 0 r h d) = (ix4 (bat c) r h d : S4x32x8x128.Idx))).trans ((H c).1 _ _ _ _)
  have hk : kB m c t (ix4 0 j h d) = K (ix4 (bat c) (key (4096 * (c.val % 2) + 1024 * t.val + j.val)) h d) := by
    have e := (congrArg (m ((c : Thread nD τ).loc main_arg1)) (by idx_ext : kIx c t (ix4 0 j h d) = (ix4 (bat c) (⟨1024 * t.val + j.val, by omega⟩ : Fin 4096) h d : S4x4096x8x128.Idx))).trans ((H c).2.1 _ _ _ _)
    exact e.trans (by rw [Nat.add_assoc])
  rw [hq, hk]

theorem v_pt (H : Holds m Q K V) (c : Dev nD) (t : Fin grid0.N) (h : Fin 8) (d : Fin 128) (j : Fin 1024) :
    vB m c t (ix4 0 j h d) = vE V (bat c) h d (4096 * (c.val % 2) + 1024 * t.val + j.val) := by
  have ht : t.val < 4 := N_0 ▸ t.isLt
  have e := (congrArg (m ((c : Thread nD τ).loc main_arg2)) (by idx_ext : kIx c t (ix4 0 j h d) = (ix4 (bat c) (⟨1024 * t.val + j.val, by omega⟩ : Fin 4096) h d : S4x4096x8x128.Idx))).trans ((H c).2.2 _ _ _ _)
  exact e.trans (by rw [Nat.add_assoc]; rfl)

/-- The keys of the first `n` blocks of device `c`. -/
abbrev keysOf (c : Dev nD) (n : ℕ) : Finset ℕ := Ico (4096 * (c.val % 2)) (4096 * (c.val % 2) + 1024 * n)

/-- After `n + 1` blocks. -/
theorem acc_inv (H : Holds m Q K V) (hs : RealS Q K) (c : Dev nD) (h : Fin 8) (r : Fin 32) (d : Fin 128) (n : ℕ) (hn : n < 4) :
    Inv (sR Q K (bat c) h r) (vE V (bat c) h d) (keysOf c (n + 1)) (accM m c (n + 1) (ix3 h r 0)) (accL m c (n + 1) (ix3 h r 0)) (accO m c (n + 1) (ix3 r h d)) := by
  have step : ∀ k : ℕ, k < 4 → ∃ b : ℝ,
      accM m c (k + 1) (ix3 h r 0) = max (accM m c k (ix3 h r 0)) (b : EReal)
      ∧ accL m c (k + 1) (ix3 h r 0) = accL m c k (ix3 h r 0) * Ideal.exp (accM m c k (ix3 h r 0) - max (accM m c k (ix3 h r 0)) (b : EReal))
        + ∑ i ∈ Ico (4096 * (c.val % 2) + 1024 * k) (4096 * (c.val % 2) + 1024 * k + 1024), Ideal.exp ((sR Q K (bat c) h r i : EReal) - max (accM m c k (ix3 h r 0)) (b : EReal))
      ∧ accO m c (k + 1) (ix3 r h d) = accO m c k (ix3 r h d) * Ideal.exp (accM m c k (ix3 h r 0) - max (accM m c k (ix3 h r 0)) (b : EReal))
        + ∑ i ∈ Ico (4096 * (c.val % 2) + 1024 * k) (4096 * (c.val % 2) + 1024 * k + 1024), Ideal.exp ((sR Q K (bat c) h r i : EReal) - max (accM m c k (ix3 h r 0)) (b : EReal)) * vE V (bat c) h d i := by
    intro k hk
    have htt : (tt k).val = k := Nat.mod_eq_of_lt hk
    have hsc : (fun j : Fin 1024 => sc (qB m c (tt k)) (kB m c (tt k)) h r j) = fun j => (sR Q K (bat c) h r (4096 * (c.val % 2) + 1024 * k + j.val) : EReal) := by
      funext j; rw [sc_pt H hs, htt]
    have hsj := fun j => congrFun hsc j
    obtain ⟨b, hb⟩ := Cert.Softmax.fold_real (n := 1024) (by decide) fun j => sR Q K (bat c) h r (4096 * (c.val % 2) + 1024 * k + j.val)
    refine ⟨b, ?_, ?_, ?_⟩
    · show stepM _ _ _ _ = _
      rw [stepM_pt, headM_pt, hsc, hb]
    · show stepL _ _ _ _ _ = _
      rw [stepL_pt, headL_pt, hsc, hb, sum_block]
      exact congrArg _ (Finset.sum_congr rfl fun j _ => by rw [hsj])
    · show stepO _ _ _ _ _ _ = _
      rw [stepO_pt, headO_pt, hsc, hb, sum_block]
      exact congrArg _ (Finset.sum_congr rfl fun j _ => by rw [hsj, v_pt H, htt])
  induction n with
  | zero =>
    obtain ⟨b, e1, e2, e3⟩ := step 0 (by decide)
    have s1 : accM m c 0 (ix3 h r 0) = ⊥ := start_M h r
    have s2 : accL m c 0 (ix3 h r 0) = 0 := start_L h r
    have s3 : accO m c 0 (ix3 r h d) = 0 := start_O r h d
    rw [e1, e2, e3, s1, s2, s3]
    exact Inv.first _ _ _ b
  | succ n ih =>
    obtain ⟨b, e1, e2, e3⟩ := step (n + 1) hn
    rw [e1, e2, e3]
    have hk : keysOf c (n + 1 + 1) = keysOf c (n + 1) ∪ Ico (4096 * (c.val % 2) + 1024 * (n + 1)) (4096 * (c.val % 2) + 1024 * (n + 1) + 1024) := by
      rw [Finset.Ico_union_Ico_eq_Ico (by omega) (by omega)]
      exact congrArg (Ico _) (by omega)
    rw [hk]
    exact Inv.next _ _ (Finset.Ico_disjoint_Ico_consecutive _ _ _) b (ih (by omega))

/-- The two halves' keys are all keys. -/
theorem keys_union (c : Dev nD) : Disjoint (keysOf c 4) (keysOf (pz c) 4) ∧ keysOf c 4 ∪ keysOf (pz c) 4 = Ico 0 8192 := by
  have hc : c.val < 8 := c.isLt
  have hp : (pz c).val = (4 * (c.val / 4) + 2 * ((c.val / 2) % 2) + 1) - c.val % 2 := rfl
  constructor
  · rw [Finset.disjoint_left]
    intro i hi hj
    rw [Finset.mem_Ico] at hi hj
    omega
  · ext i
    rw [Finset.mem_union, Finset.mem_Ico, Finset.mem_Ico, Finset.mem_Ico]
    omega

theorem bat_pz (c : Dev nD) : bat (pz c) = bat c := by
  have hc : c.val < 8 := c.isLt
  exact Fin.ext (by show ((4 * (c.val / 4) + 2 * ((c.val / 2) % 2) + 1) - c.val % 2) / 2 = c.val / 2; omega)

/-- What a device sends to the others. -/
theorem coV_pt (H : Holds m Q K V) (hs : RealS Q K) (c : Dev nD) (r : Fin 32) (h : Fin 8) (d : Fin 128) :
    coV m c (ix3 r h d) = att (sR Q K (bat c) h r) (vE V (bat c) h d) (Ico 0 8192) := by
  have i1 := acc_inv H hs c h r d 3 (by decide)
  have i2 := acc_inv H hs (pz c) h r d 3 (by decide)
  rw [bat_pz] at i2
  have ne : ∀ c : Dev nD, (keysOf c 4).Nonempty := fun c => Finset.nonempty_Ico.2 (by omega)
  rw [← (keys_union c).2, ← Cert.Softmax.merge _ _ (keys_union c).1 (ne c) (ne (pz c)) i1 i2]
  unfold coV opV omV olV
  rw [coOf_pt, opOf_pt, opOf_pt, om_pt, om_pt, ol_pt, ol_pt]

/-- The result on every device is the reference's. -/
theorem resV_eq (H : Holds m Q K V) (hs : RealS Q K) (c : Dev nD) : resV m c = Cert.ReferenceIdeal.Hand.refV Q K V := by
  suffices all : ∀ (b : Fin 4) (r : Fin 32) (h : Fin 8) (d : Fin 128), resV m c (ix4 b r h d) = Cert.ReferenceIdeal.Hand.refV Q K V (ix4 b r h d) by
    funext j
    have ej : j = ix4 (j 0 : Fin 4) (j 1 : Fin 32) (j 2 : Fin 8) (j 3 : Fin 128) := by idx_ext
    rw [ej]
    exact all _ _ _ _
  intro b r h d
  rw [Cert.ReferenceIdeal.Hand.refV_pt]
  unfold resV
  rw [outOf_pt, coV_pt H hs]
  have hb : bat (src c b) = b := Fin.ext (by show (2 * b.val + c.val % 2) / 2 = b.val; omega)
  have hk : ∀ j : Fin 8192, key j.val = j := fun j => Fin.ext (Nat.mod_eq_of_lt j.isLt)
  rw [hb]
  have hr : (fun j : Fin 8192 => Cert.ReferenceIdeal.Hand.rs Q K b h r j) = fun j => (sR Q K b h r j.val : EReal) := by
    funext j; unfold sR; rw [hk, ← hs]
  have hrj := fun j => congrFun hr j
  obtain ⟨μ, hμ⟩ := Cert.Softmax.fold_real (n := 8192) (by decide) fun j => sR Q K b h r j.val
  rw [hr, hμ, ← Cert.Softmax.plain _ _ μ (Ico 0 8192) (Finset.nonempty_Ico.2 (by decide))]
  have sb : ∀ f : ℕ → EReal, (∑ i ∈ Ico 0 8192, f i) = ∑ j : Fin 8192, f j.val := fun f => by
    rw [← Finset.range_eq_Ico, Finset.sum_range]
  rw [sb, sb]
  refine Finset.sum_congr rfl fun j _ => ?_
  have hv : vE V b h d j.val = V (ix4 b j h d) := by unfold vE; rw [hk]
  rw [hv, ← hrj]
  exact congrArg (fun x => V (ix4 b j h d) * Ideal.div (Ideal.exp (Cert.ReferenceIdeal.Hand.rs Q K b h r j - (μ : EReal))) (0 + x)) (Finset.sum_congr rfl fun j _ => by rw [hrj])

end Cert.KernelIdeal.Hand

end
-- ==== Proof.Value.Equal.lean ====
/-
  The kernel at the extended reals computes the reference's values, given finite queries and keys.
-/
module

public import proofs.«01_k».proof.Defs
public import proofs.«01_k».proof.Proof.Gen.KernelIdeal
public import proofs.«01_k».proof.Proof.Gen.ReferenceIdeal
public import proofs.«01_k».proof.Proof.Gen.ReferenceIdeal.Run
public import proofs.«01_k».proof.Proof.Launch
public import proofs.«01_k».proof.Proof.Value.Result

@[expose] public section

set_option maxRecDepth 16384

noncomputable section

namespace Cert.Proof

open Idealize.ShloMosaic Idealize.SL.Sem Idealize.ShloMosaic.TcCoe

theorem pre_kernel_facts : Cert.Pre_finite_scores_KernelIdeal.Facts := ⟨by decide, by decide⟩
theorem pre_reference_facts : Cert.Pre_finite_scores_ReferenceIdeal.Facts := ⟨by decide, by decide⟩

/-- An extended real of absolute value below infinity is a real. -/
theorem real_of_lt (x : EReal) (h : Ideal.cmp .olt (max x (-x)) (Ideal.ofBits .f32 0x7F800000#32) = 1#1) : ∃ r : ℝ, x = (r : EReal) := by
  rw [Cert.Consts.pos_inf] at h
  induction x using EReal.rec with
  | coe r => exact ⟨r, rfl⟩
  | bot => exact absurd h (by simp [Ideal.cmp])
  | top => exact absurd h (by simp [Ideal.cmp])

/-- Scores of finite queries and keys are real numbers. -/
theorem real_scores {Q : FVec Ideal Cert.KernelIdeal.S4x32x8x128 .f32} {K : FVec Ideal Cert.ReferenceIdeal.S4x8192x8x128 .f32}
    (hQ : ∀ (b : Fin 4) (r : Fin 32) (h : Fin 8) (d : Fin 128), ∃ x : ℝ, Q (ix4 b r h d) = (x : EReal))
    (hK : ∀ (b : Fin 4) (j : Fin 8192) (h : Fin 8) (d : Fin 128), ∃ x : ℝ, K (ix4 b j h d) = (x : EReal)) :
    Cert.KernelIdeal.Hand.RealS Q K := by
  intro b h r j
  suffices e : ∃ x : ℝ, Cert.ReferenceIdeal.Hand.rs Q K b h r j = (x : EReal) by
    obtain ⟨x, hx⟩ := e
    rw [hx, EReal.toReal_coe]
  choose q hq using hQ
  choose k hk using hK
  refine ⟨(∑ d : Fin 128, q b r h d * k b j h d) * (Real.sqrt 128)⁻¹, ?_⟩
  unfold Cert.ReferenceIdeal.Hand.rs
  rw [EReal.coe_mul, ← Cert.Softmax.sum_coe]
  exact congrArg (· * _) (Finset.sum_congr rfl fun d _ => by rw [hq, hk, EReal.coe_mul])

/-- The block of a device, by position. -/
theorem block_pt (c : Dev Cert.KernelIdeal.nD) (K : FVec Ideal Cert.ReferenceIdeal.S4x8192x8x128 .f32) (b : Fin 4) (y : Fin 4096) (h : Fin 8) (d : Fin 128) :
    (Layout.blockN ⟨4, ![4, 4096, 8, 128]⟩ ⟨4, ![4, 8192, 8, 128]⟩ (Layout.meshBlock [2, 2, 2] ![[], [2], [], []] c) K) (ix4 b y h d)
      = K (ix4 b (Cert.KernelIdeal.Hand.key (4096 * (c.val % 2) + y.val)) h d) := by
  rw [Layout.blockN_apply]
  refine congrArg K (funext fun a => Fin.ext ?_)
  rw [Layout.TilesN.idx_val]
  have hc : c.val < 8 := c.isLt
  have hy := y.isLt
  match a with
  | 0 => show 0 * 4 + b.val = b.val; omega
  | 1 =>
    show (c.val / 1 % 2 * 1 + 0) * 4096 + y.val = (4096 * (c.val % 2) + y.val) % 8192
    omega
  | 2 => show 0 * 8 + h.val = h.val; omega
  | 3 => show 0 * 128 + d.val = d.val; omega

/-- The kernel and the reference both run, and every device ends with the reference's result. -/
theorem equal_result : Cert.algebraic_KernelIdeal_ReferenceIdeal_pre_finite_scores_KernelIdeal (hKernelIdeal := Cert.KernelIdeal.Gen.facts)
    (hReferenceIdeal := Cert.ReferenceIdeal.Gen.facts) (hPre_finite_scores_KernelIdeal := pre_kernel_facts) := by
  intro m g m' g' hp hm
  let Q : FVec Ideal Cert.KernelIdeal.S4x32x8x128 .f32 := m' (((0 : Dev Cert.ReferenceIdeal.nD).tc : Thread Cert.ReferenceIdeal.nD Cert.ReferenceIdeal.τ).loc Cert.ReferenceIdeal.main_arg0)
  let K : FVec Ideal Cert.ReferenceIdeal.S4x8192x8x128 .f32 := m' (((0 : Dev Cert.ReferenceIdeal.nD).tc : Thread Cert.ReferenceIdeal.nD Cert.ReferenceIdeal.τ).loc Cert.ReferenceIdeal.main_arg1)
  let V : FVec Ideal Cert.ReferenceIdeal.S4x8192x8x128 .f32 := m' (((0 : Dev Cert.ReferenceIdeal.nD).tc : Thread Cert.ReferenceIdeal.nD Cert.ReferenceIdeal.τ).loc Cert.ReferenceIdeal.main_arg2)
  have H : Cert.KernelIdeal.Hand.Holds m Q K V := fun c =>
    ⟨fun b r h d => congrFun (hm c).1 (ix4 b r h d),
      fun b y h d => (congrFun (hm c).2.1 (ix4 b y h d)).trans (block_pt c K b y h d),
      fun b y h d => (congrFun (hm c).2.2 (ix4 b y h d)).trans (block_pt c V b y h d)⟩
  have hQ : ∀ (b : Fin 4) (r : Fin 32) (h : Fin 8) (d : Fin 128), ∃ x : ℝ, Q (ix4 b r h d) = (x : EReal) := fun b r h d =>
    ((H 0).1 b r h d) ▸ real_of_lt _ (congrFun (hp 0).1 (ix4 b r h d))
  have hK : ∀ (b : Fin 4) (j : Fin 8192) (h : Fin 8) (d : Fin 128), ∃ x : ℝ, K (ix4 b j h d) = (x : EReal) := fun b j h d => by
    have hj := j.isLt
    have e := (H (⟨j.val / 4096, by show _ < 8; omega⟩ : Dev Cert.KernelIdeal.nD)).2.1 b (⟨j.val % 4096, Nat.mod_lt _ (by decide)⟩ : Fin 4096) h d
    have ek : Cert.KernelIdeal.Hand.key (4096 * (j.val / 4096 % 2) + j.val % 4096) = j :=
      Fin.ext (by show (4096 * (j.val / 4096 % 2) + j.val % 4096) % 8192 = j.val; omega)
    rw [← ek, ← e]
    exact real_of_lt _ (congrFun (hp _).2 (ix4 b _ h d))
  have hs := real_scores hQ hK
  refine ⟨Cert.ReferenceIdeal.Hand.refV Q K V, ?_, ?_⟩
  · exact (θ_run Cert.KernelIdeal.defs _ _).mono (fun _ h c => ⟨(h.1 c).2.2.2.trans (Cert.KernelIdeal.Hand.resV_eq H hs c), (h.1 c).1, (h.1 c).2.1, (h.1 c).2.2.1⟩)
      (Cert.KernelIdeal.Hand.run_main (F := Ideal) m g)
  · exact (θ_run Cert.ReferenceIdeal.defs _ _).mono (fun _ h => h 0)
      (Cert.ReferenceIdeal.Value.run (F := Ideal) m' g')

end Cert.Proof

end
-- ==== Proof.lean ====
/-
  The proof of the certificate's claim: the frames of the kernel, of its idealization and of the reference,
  the named constant, and the equality of the results.
-/
module

public import proofs.«01_k».proof.Defs
public import proofs.«01_k».proof.Proof.Gen.ReferenceIdeal
public import proofs.«01_k».proof.Proof.Gen.ReferenceIdeal.Run
public import proofs.«01_k».proof.Proof.Frames
public import proofs.«01_k».proof.Proof.Value.Equal
public import Idealize.ShloMosaic.Adequacy
public import Idealize.ShloMosaic.Init

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, pre_kernel_facts, pre_reference_facts,
    frame_kernel, frame_ideal, fun m g _ => frame_ideal m g trivial, frame_reference, fun m g _ => frame_reference m g trivial,
    named_word, equal_result⟩

end Cert.Proof

end
